-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norms [hPre_finite_norms : Cert.Pre_finite_norms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norms [hPre_finite_norms : Cert.Pre_finite_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_gates [hPre_finite_gates : Cert.Pre_finite_gates.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_gates.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_gates [hPre_finite_gates : Cert.Pre_finite_gates.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_gates.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_norms [hKernelIdeal : Cert.KernelIdeal.Facts] [hPre_finite_norms : Cert.Pre_finite_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_norms [hReferenceIdeal : Cert.ReferenceIdeal.Facts] [hPre_finite_norms : Cert.Pre_finite_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_finite_gates [hHgrnIdeal : Cert.HgrnIdeal.Facts] [hPre_finite_gates : Cert.Pre_finite_gates.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_gates m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_finite_gates [hHgrnRefIdeal : Cert.HgrnRefIdeal.Facts] [hPre_finite_gates : Cert.Pre_finite_gates.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_gates m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def preserves_Kernel_KernelIdeal : Prop :=
  True

def algebraic_KernelIdeal_ReferenceIdeal_pre_finite_norms [hKernelIdeal : Cert.KernelIdeal.Facts] [hReferenceIdeal : Cert.ReferenceIdeal.Facts] [hPre_finite_norms : Cert.Pre_finite_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)
      ∧ m' ((c.tc : Thread Cert.ScoresRefIdeal.nD Cert.ScoresRefIdeal.τ).loc Cert.ScoresRefIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v4_0)) (v1 : (c : Dev Cert.ScoresIdeal.nD) → Buf (Elt Ideal) ((c.tc : Thread Cert.ScoresIdeal.nD Cert.ScoresIdeal.τ).loc Cert.ScoresIdeal.main_v4_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4_0) = v0 c
          ∧ r.2.mem ((c.tc : Thread Cert.ScoresIdeal.nD Cert.ScoresIdeal.τ).loc Cert.ScoresIdeal.main_v4_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v24) = v0 c
          ∧ r.2.mem ((c.tc : Thread Cert.ScoresRefIdeal.nD Cert.ScoresRefIdeal.τ).loc Cert.ScoresRefIdeal.main_v26) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3)
          ∧ r.2.mem ((c.tc : Thread Cert.ScoresRefIdeal.nD Cert.ScoresRefIdeal.τ).loc Cert.ScoresRefIdeal.main_arg4) = m' ((c.tc : Thread Cert.ScoresRefIdeal.nD Cert.ScoresRefIdeal.τ).loc Cert.ScoresRefIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v2)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v2) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v13) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v256) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Hgrn_HgrnIdeal : Prop :=
  True

def algebraic_HgrnIdeal_HgrnRefIdeal_pre_finite_gates [hHgrnIdeal : Cert.HgrnIdeal.Facts] [hHgrnRefIdeal : Cert.HgrnRefIdeal.Facts] [hPre_finite_gates : Cert.Pre_finite_gates.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_gates m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v15)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v15) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v84) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hScores : Cert.Scores.Facts) (hScoresIdeal : Cert.ScoresIdeal.Facts) (hScoresRefIdeal : Cert.ScoresRefIdeal.Facts) (hDense : Cert.Dense.Facts) (hDenseIdeal : Cert.DenseIdeal.Facts) (hDenseRefIdeal : Cert.DenseRefIdeal.Facts) (hConv : Cert.Conv.Facts) (hConvIdeal : Cert.ConvIdeal.Facts) (hConvRefIdeal : Cert.ConvRefIdeal.Facts) (hHgrn : Cert.Hgrn.Facts) (hHgrnIdeal : Cert.HgrnIdeal.Facts) (hHgrnRefIdeal : Cert.HgrnRefIdeal.Facts) (hPre_finite_norms : Cert.Pre_finite_norms.Facts) (hPre_finite_gates : Cert.Pre_finite_gates.Facts),
    quiescent_Kernel (hKernel := hKernel)
    ∧ quiescent_KernelIdeal (hKernelIdeal := hKernelIdeal)
    ∧ quiescent_KernelIdeal_pre_finite_norms (hKernelIdeal := hKernelIdeal) (hPre_finite_norms := hPre_finite_norms)
    ∧ quiescent_ReferenceIdeal (hReferenceIdeal := hReferenceIdeal)
    ∧ quiescent_ReferenceIdeal_pre_finite_norms (hReferenceIdeal := hReferenceIdeal) (hPre_finite_norms := hPre_finite_norms)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Scores (hScores := hScores)
    ∧ quiescent_ScoresIdeal (hScoresIdeal := hScoresIdeal)
    ∧ quiescent_ScoresRefIdeal (hScoresRefIdeal := hScoresRefIdeal)
    ∧ quiescent_Dense (hDense := hDense)
    ∧ quiescent_DenseIdeal (hDenseIdeal := hDenseIdeal)
    ∧ quiescent_DenseRefIdeal (hDenseRefIdeal := hDenseRefIdeal)
    ∧ quiescent_Conv (hConv := hConv)
    ∧ quiescent_ConvIdeal (hConvIdeal := hConvIdeal)
    ∧ quiescent_ConvRefIdeal (hConvRefIdeal := hConvRefIdeal)
    ∧ quiescent_Hgrn (hHgrn := hHgrn)
    ∧ quiescent_HgrnIdeal (hHgrnIdeal := hHgrnIdeal)
    ∧ quiescent_HgrnIdeal_pre_finite_gates (hHgrnIdeal := hHgrnIdeal) (hPre_finite_gates := hPre_finite_gates)
    ∧ quiescent_HgrnRefIdeal (hHgrnRefIdeal := hHgrnRefIdeal)
    ∧ quiescent_HgrnRefIdeal_pre_finite_gates (hHgrnRefIdeal := hHgrnRefIdeal) (hPre_finite_gates := hPre_finite_gates)
    ∧ preserves_Kernel_KernelIdeal
    ∧ algebraic_KernelIdeal_ReferenceIdeal_pre_finite_norms (hKernelIdeal := hKernelIdeal) (hReferenceIdeal := hReferenceIdeal) (hPre_finite_norms := hPre_finite_norms)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Scores_ScoresIdeal
    ∧ algebraic_ScoresIdeal_ScoresRefIdeal (hScoresIdeal := hScoresIdeal) (hScoresRefIdeal := hScoresRefIdeal)
    ∧ preserves_Dense_DenseIdeal
    ∧ algebraic_DenseIdeal_DenseRefIdeal (hDenseIdeal := hDenseIdeal) (hDenseRefIdeal := hDenseRefIdeal)
    ∧ preserves_Conv_ConvIdeal
    ∧ algebraic_ConvIdeal_ConvRefIdeal (hConvIdeal := hConvIdeal) (hConvRefIdeal := hConvRefIdeal)
    ∧ preserves_Hgrn_HgrnIdeal
    ∧ algebraic_HgrnIdeal_HgrnRefIdeal_pre_finite_gates (hHgrnIdeal := hHgrnIdeal) (hHgrnRefIdeal := hHgrnRefIdeal) (hPre_finite_gates := hPre_finite_gates)
-- ==== Pre_finite_gates.lean ====
abbrev S16384x15360 : Shape := ⟨2, ![16384, 15360]⟩
abbrev S1024 : Shape := ⟨1, ![1024]⟩
abbrev S128 : Shape := ⟨1, ![128]⟩
abbrev S16384x3072 : Shape := ⟨2, ![16384, 3072]⟩
abbrev S_ : Shape := ⟨0, ![]⟩

class Facts : Prop where
  slices_S16384x15360_S16384x3072_0_3072 : S16384x15360.Slices ![0, 3072] S16384x3072
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x15360 .f32) (main_arg1 : FVec F S1024 .f32) (main_arg2 : FVec F S128 .f32) : IVec S_ 1 :=
  let main_v0 : FVec F S16384x3072 .f32 := (extractStridedSlice S16384x3072 ![0, 3072] · slices_S16384x15360_S16384x3072_0_3072) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  main_v9
-- ==== Pre_finite_norms.lean ====
abbrev S16384x15360 : Shape := ⟨2, ![16384, 15360]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16384x15360 .f32) (main_arg1 : FVec F S128 .f32) (main_arg2 : FVec F S128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S16384x15360 : Shape := ⟨2, ![16384, 15360]⟩
abbrev S128 : Shape := ⟨1, ![128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S1x128 : Shape := ⟨2, ![1, 128]⟩
abbrev S16384x1024 : Shape := ⟨2, ![16384, 1024]⟩
abbrev S256x128 : Shape := ⟨2, ![256, 128]⟩
abbrev S4096x128 : Shape := ⟨2, ![4096, 128]⟩
abbrev S256x512 : Shape := ⟨2, ![256, 512]⟩

abbrev nBuf : Space → Nat
  | .hbm => 15
  | .vmem => 13
  | .smem => 0
  | _ => 0

abbrev bufTy : (tb : Table) → Fin (tcTables nBuf tb) → BufTy
  | .hbm, ⟨0, _⟩ => ⟨S16384x15360, .f32⟩
  | .hbm, ⟨1, _⟩ => ⟨S128, .f32⟩
  | .hbm, ⟨2, _⟩ => ⟨S128, .f32⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S512x256, .bf16⟩
  | .hbm, ⟨12, _⟩ => ⟨S1x128, .f32⟩
  | .hbm, ⟨13, _⟩ => ⟨S1x128, .f32⟩
  | .hbm, ⟨14, _⟩ => ⟨S16384x1024, .bf16⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S512x256, .bf16⟩
  | .local _ .vmem, ⟨9, _⟩ => ⟨S256x128, .bf16⟩
  | .local _ .vmem, ⟨10, _⟩ => ⟨S256x128, .bf16⟩
  | .local _ .vmem, ⟨11, _⟩ => ⟨S4096x128, .bf16⟩
  | .local _ .vmem, ⟨12, _⟩ => ⟨S4096x128, .bf16⟩
  | _, _ => ⟨S16384x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c16_i32 : BitVec 32 := 16#32
  let v77 : BitVec 32 := Scalar.addi c0_i32_28 c16_i32
  let c1_i32_29 : BitVec 32 := 1#32
  ⟨c0_i32_28, v77, c1_i32_29⟩
def k0_mult1 (k0_t1 : Fin k0_t1_loop.trips) : BitVec 32 :=
  let c0_i32_28 : BitVec 32 := 0#32
  let c1_i32_29 : BitVec 32 := 1#32
  let arg12 : BitVec 32 := Scf.iv c0_i32_28 c1_i32_29 k0_t1
  let c256_i32_31 : BitVec 32 := 256#32
  let v78 : BitVec 32 := Scalar.muli arg12 c256_i32_31
  v78
def k0_off1 (k0_t1 : Fin k0_t1_loop.trips) : Fin 2 → Nat :=
  let c0_i32_28 : BitVec 32 := 0#32
  let c1_i32_29 : BitVec 32 := 1#32
  let arg12 : BitVec 32 := Scf.iv c0_i32_28 c1_i32_29 k0_t1
  let c256_i32_31 : BitVec 32 := 256#32
  let v78 : BitVec 32 := Scalar.muli arg12 c256_i32_31
  let v79 : BitVec 32 := v78
  let v80 : Index := Scalar.indexCast v79
  let c0_32 : Index := 0#32
  ![v80.toNat, 0]
def k0_mult2 (i : grid0.Coords) : BitVec 32 :=
  let arg2 : BitVec 32 := BitVec.ofNat 32 (i 2).val
  let c256_i32 : BitVec 32 := 256#32
  let v24 : BitVec 32 := Scalar.muli arg2 c256_i32
  v24
def k0_off2 (i : grid0.Coords) : Fin 2 → Nat :=
  let arg2 : BitVec 32 := BitVec.ofNat 32 (i 2).val
  let c256_i32 : BitVec 32 := 256#32
  let v24 : BitVec 32 := Scalar.muli arg2 c256_i32
  let v25 : BitVec 32 := v24
  let v26 : Index := Scalar.indexCast v25
  let c0_8 : Index := 0#32
  ![v26.toNat, 0]
@[reducible] def k0_t2_loop (i : grid0.Coords) : Scf.Loop 32 :=
  let c0_i32_23 : BitVec 32 := 0#32
  let arg2 : BitVec 32 := BitVec.ofNat 32 (i 2).val
  let v68 : BitVec 32 := Scalar.subi arg2 c0_i32_23
  let c1_i32 : BitVec 32 := 1#32
  let v70 : BitVec 32 := Scalar.divsi v68 c1_i32
  let v71 : BitVec 32 := Scalar.muli v70 c1_i32
  let v72 : BitVec 32 := Scalar.addi c0_i32_23 v71
  let c1_i32_24 : BitVec 32 := 1#32
  ⟨c0_i32_23, v72, c1_i32_24⟩
def k0_mult3 (i : grid0.Coords) (k0_t2 : Fin (k0_t2_loop i).trips) : BitVec 32 :=
  let arg2 : BitVec 32 := BitVec.ofNat 32 (i 2).val
  let c1_i32_28 : BitVec 32 := 1#32
  let v77 : BitVec 32 := Scalar.subi arg2 c1_i32_28
  let c0_i32_23 : BitVec 32 := 0#32
  let c1_i32_24 : BitVec 32 := 1#32
  let arg12 : BitVec 32 := Scf.iv c0_i32_23 c1_i32_24 k0_t2
  let v78 : BitVec 32 := Scalar.subi v77 arg12
  let c256_i32_29 : BitVec 32 := 256#32
  let v79 : BitVec 32 := Scalar.muli v78 c256_i32_29
  v79
def k0_off3 (i : grid0.Coords) (k0_t2 : Fin (k0_t2_loop i).trips) : Fin 2 → Nat :=
  let arg2 : BitVec 32 := BitVec.ofNat 32 (i 2).val
  let c1_i32_28 : BitVec 32 := 1#32
  let v77 : BitVec 32 := Scalar.subi arg2 c1_i32_28
  let c0_i32_23 : BitVec 32 := 0#32
  let c1_i32_24 : BitVec 32 := 1#32
  let arg12 : BitVec 32 := Scf.iv c0_i32_23 c1_i32_24 k0_t2
  let v78 : BitVec 32 := Scalar.subi v77 arg12
  let c256_i32_29 : BitVec 32 := 256#32
  let v79 : BitVec 32 := Scalar.muli v78 c256_i32_29
  let v80 : BitVec 32 := v79
  let v81 : Index := Scalar.indexCast v80
  let c0_30 : Index := 0#32
  ![v81.toNat, 0]
@[reducible] def k0_t3_loop (i : grid0.Coords) : Scf.Loop 32 :=
  let c0_i32_23 : BitVec 32 := 0#32
  let arg2 : BitVec 32 := BitVec.ofNat 32 (i 2).val
  let v68 : BitVec 32 := Scalar.subi arg2 c0_i32_23
  let c1_i32 : BitVec 32 := 1#32
  let v70 : BitVec 32 := Scalar.divsi v68 c1_i32
  let v71 : BitVec 32 := Scalar.muli v70 c1_i32
  let v72 : BitVec 32 := Scalar.addi c0_i32_23 v71
  let v69 : BitVec 32 := Scalar.addi c0_i32_23 v68
  let c1_i32_25 : BitVec 32 := 1#32
  ⟨v72, v69, c1_i32_25⟩
def k0_mult4 (i : grid0.Coords) (k0_t3 : Fin (k0_t3_loop i).trips) : BitVec 32 :=
  let arg2 : BitVec 32 := BitVec.ofNat 32 (i 2).val
  let c1_i32_28 : BitVec 32 := 1#32
  let v77 : BitVec 32 := Scalar.subi arg2 c1_i32_28
  let c0_i32_23 : BitVec 32 := 0#32
  let v68 : BitVec 32 := Scalar.subi arg2 c0_i32_23
  let c1_i32 : BitVec 32 := 1#32
  let v70 : BitVec 32 := Scalar.divsi v68 c1_i32
  let v71 : BitVec 32 := Scalar.muli v70 c1_i32
  let v72 : BitVec 32 := Scalar.addi c0_i32_23 v71
  let c1_i32_25 : BitVec 32 := 1#32
  let arg12 : BitVec 32 := Scf.iv v72 c1_i32_25 k0_t3
  let v78 : BitVec 32 := Scalar.subi v77 arg12
  let c256_i32_29 : BitVec 32 := 256#32
  let v79 : BitVec 32 := Scalar.muli v78 c256_i32_29
  v79
def k0_off4 (i : grid0.Coords) (k0_t3 : Fin (k0_t3_loop i).trips) : Fin 2 → Nat :=
  let arg2 : BitVec 32 := BitVec.ofNat 32 (i 2).val
  let c1_i32_28 : BitVec 32 := 1#32
  let v77 : BitVec 32 := Scalar.subi arg2 c1_i32_28
  let c0_i32_23 : BitVec 32 := 0#32
  let v68 : BitVec 32 := Scalar.subi arg2 c0_i32_23
  let c1_i32 : BitVec 32 := 1#32
  let v70 : BitVec 32 := Scalar.divsi v68 c1_i32
  let v71 : BitVec 32 := Scalar.muli v70 c1_i32
  let v72 : BitVec 32 := Scalar.addi c0_i32_23 v71
  let c1_i32_25 : BitVec 32 := 1#32
  let arg12 : BitVec 32 := Scf.iv v72 c1_i32_25 k0_t3
  let v78 : BitVec 32 := Scalar.subi v77 arg12
  let c256_i32_29 : BitVec 32 := 256#32
  let v79 : BitVec 32 := Scalar.muli v78 c256_i32_29
  let v80 : BitVec 32 := v79
  let v81 : Index := Scalar.indexCast v80
  let c0_30 : Index := 0#32
  ![v81.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x15360 : Shape := ⟨2, ![16384, 15360]⟩
abbrev S128 : Shape := ⟨1, ![128]⟩
abbrev S4x4096x15360 : Shape := ⟨3, ![4, 4096, 15360]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S_ : Shape := ⟨0, ![]⟩
abbrev S4x8x4096 : Shape := ⟨3, ![4, 8, 4096]⟩
abbrev S4x8x4096x1 : Shape := ⟨4, ![4, 8, 4096, 1]⟩
abbrev S1x1x1x128 : Shape := ⟨4, ![1, 1, 1, 128]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16384x1024 : Shape := ⟨2, ![16384, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x15360, .f32⟩
  | .hbm, ⟨1, _⟩ => ⟨S128, .f32⟩
  | .hbm, ⟨2, _⟩ => ⟨S128, .f32⟩
  | .hbm, ⟨3, _⟩ => ⟨S4x4096x15360, .f32⟩
  | .hbm, ⟨4, _⟩ => ⟨S4x4096x1024, .f32⟩
  | .hbm, ⟨5, _⟩ => ⟨S4x4096x8x128, .f32⟩
  | .hbm, ⟨6, _⟩ => ⟨S4x8x4096x128, .f32⟩
  | .hbm, ⟨7, _⟩ => ⟨S4x8x4096x128, .f32⟩
  | .hbm, ⟨8, _⟩ => ⟨S_, .f32⟩
  | .hbm, ⟨9, _⟩ => ⟨S4x8x4096, .f32⟩
  | .hbm, ⟨10, _⟩ => ⟨S4x8x4096x1, .f32⟩
  | .hbm, ⟨11, _⟩ => ⟨S_, .f32⟩
  | .hbm, ⟨12, _⟩ => ⟨S4x8x4096x1, .f32⟩
  | .hbm, ⟨13, _⟩ => ⟨S4x8x4096x1, .f32⟩
  | .hbm, ⟨14, _⟩ => ⟨S_, .f32⟩
  | .hbm, ⟨15, _⟩ => ⟨S4x8x4096x1, .f32⟩
  | .hbm, ⟨16, _⟩ => ⟨S4x8x4096x1, .f32⟩
  | .hbm, ⟨17, _⟩ => ⟨S4x8x4096x1, .f32⟩
  | .hbm, ⟨18, _⟩ => ⟨S4x8x4096x128, .f32⟩
  | .hbm, ⟨19, _⟩ => ⟨S4x8x4096x128, .f32⟩
  | .hbm, ⟨20, _⟩ => ⟨S1x1x1x128, .f32⟩
  | .hbm, ⟨21, _⟩ => ⟨S4x8x4096x128, .f32⟩
  | .hbm, ⟨22, _⟩ => ⟨S4x8x4096x128, .f32⟩
  | .hbm, ⟨23, _⟩ => ⟨S4x4096x1024, .f32⟩
  | .hbm, ⟨24, _⟩ => ⟨S4x4096x8x128, .f32⟩
  | .hbm, ⟨25, _⟩ => ⟨S4x8x4096x128, .f32⟩
  | .hbm, ⟨26, _⟩ => ⟨S4x8x4096x128, .f32⟩
  | .hbm, ⟨27, _⟩ => ⟨S_, .f32⟩
  | .hbm, ⟨28, _⟩ => ⟨S4x8x4096, .f32⟩
  | .hbm, ⟨29, _⟩ => ⟨S4x8x4096x1, .f32⟩
  | .hbm, ⟨30, _⟩ => ⟨S_, .f32⟩
  | .hbm, ⟨31, _⟩ => ⟨S4x8x4096x1, .f32⟩
  | .hbm, ⟨32, _⟩ => ⟨S4x8x4096x1, .f32⟩
  | .hbm, ⟨33, _⟩ => ⟨S_, .f32⟩
  | .hbm, ⟨34, _⟩ => ⟨S4x8x4096x1, .f32⟩
  | .hbm, ⟨35, _⟩ => ⟨S4x8x4096x1, .f32⟩
  | .hbm, ⟨36, _⟩ => ⟨S4x8x4096x1, .f32⟩
  | .hbm, ⟨37, _⟩ => ⟨S4x8x4096x128, .f32⟩
  | .hbm, ⟨38, _⟩ => ⟨S4x8x4096x128, .f32⟩
  | .hbm, ⟨39, _⟩ => ⟨S1x1x1x128, .f32⟩
  | .hbm, ⟨40, _⟩ => ⟨S4x8x4096x128, .f32⟩
  | .hbm, ⟨41, _⟩ => ⟨S4x8x4096x128, .f32⟩
  | .hbm, ⟨42, _⟩ => ⟨S4x4096x1024, .f32⟩
  | .hbm, ⟨43, _⟩ => ⟨S4x4096x8x128, .f32⟩
  | .hbm, ⟨44, _⟩ => ⟨S4x8x4096x128, .f32⟩
  | .hbm, ⟨45, _⟩ => ⟨S4x8x4096x4096, .f32⟩
  | .hbm, ⟨46, _⟩ => ⟨S_, .f32⟩
  | .hbm, ⟨47, _⟩ => ⟨S4x8x4096x4096, .f32⟩
  | .hbm, ⟨48, _⟩ => ⟨S4x8x4096x4096, .f32⟩
  | .hbm, ⟨49, _⟩ => ⟨S4096, .i32⟩
  | .hbm, ⟨50, _⟩ => ⟨S1x4096, .i32⟩
  | .hbm, ⟨51, _⟩ => ⟨S4096, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S4x8x4096x4096, .f32⟩
  | .hbm, ⟨57, _⟩ => ⟨S4x8x4096x4096, .f32⟩
  | .hbm, ⟨58, _⟩ => ⟨S_, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .i1⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S4x8x4096x4096, .f32⟩
  | .hbm, ⟨70, _⟩ => ⟨S4x8x4096x4096, .f32⟩
  | .hbm, ⟨71, _⟩ => ⟨S4x8x4096x4096, .f32⟩
  | .hbm, ⟨72, _⟩ => ⟨S4x8x4096x4096, .f32⟩
  | .hbm, ⟨73, _⟩ => ⟨S_, .f32⟩
  | .hbm, ⟨74, _⟩ => ⟨S_, .f32⟩
  | .hbm, ⟨75, _⟩ => ⟨S4x8x4096x4096, .i1⟩
  | .hbm, ⟨76, _⟩ => ⟨S4x8x4096x4096, .f32⟩
  | .hbm, ⟨77, _⟩ => ⟨S4x8x4096x4096, .f32⟩
  | .hbm, ⟨78, _⟩ => ⟨S_, .f32⟩
  | .hbm, ⟨79, _⟩ => ⟨S_, .f32⟩
  | .hbm, ⟨80, _⟩ => ⟨S4x8x4096x4096, .f32⟩
  | .hbm, ⟨81, _⟩ => ⟨S4x8x4096x4096, .f32⟩
  | .hbm, ⟨82, _⟩ => ⟨S4x8x4096x4096, .f32⟩
  | .hbm, ⟨83, _⟩ => ⟨S_, .f32⟩
  | .hbm, ⟨84, _⟩ => ⟨S4x8x4096x4096, .f32⟩
  | .hbm, ⟨85, _⟩ => ⟨S4x8x4096x4096, .f32⟩
  | .hbm, ⟨86, _⟩ => ⟨S4x8x4096x4096, .f32⟩
  | .hbm, ⟨87, _⟩ => ⟨S4x8x4096x4096, .f32⟩
  | .hbm, ⟨88, _⟩ => ⟨S4x8x4096x4096, .i1⟩
  | .hbm, ⟨89, _⟩ => ⟨S4x8x4096x4096, .f32⟩
  | .hbm, ⟨90, _⟩ => ⟨S4x8x4096x4096, .f32⟩
  | .hbm, ⟨91, _⟩ => ⟨S4x8x4096x4096, .f32⟩
  | .hbm, ⟨92, _⟩ => ⟨S4x8x4096x4096, .f32⟩
  | .hbm, ⟨93, _⟩ => ⟨S4x8x4096x4096, .f32⟩
  | .hbm, ⟨94, _⟩ => ⟨S4x8x4096x4096, .f32⟩
  | .hbm, ⟨95, _⟩ => ⟨S4x8x4096x4096, .f32⟩
  | .hbm, ⟨96, _⟩ => ⟨S4x8x4096x4096, .f32⟩
  | .hbm, ⟨97, _⟩ => ⟨S4x8x4096x4096, .f32⟩
  | .hbm, ⟨98, _⟩ => ⟨S4x8x4096x4096, .f32⟩
  | .hbm, ⟨99, _⟩ => ⟨S4x8x4096x4096, .f32⟩
  | .hbm, ⟨100, _⟩ => ⟨S_, .f32⟩
  | .hbm, ⟨101, _⟩ => ⟨S_, .f32⟩
  | .hbm, ⟨102, _⟩ => ⟨S4x8x4096x4096, .i1⟩
  | .hbm, ⟨103, _⟩ => ⟨S4x8x4096x4096, .f32⟩
  | .hbm, ⟨104, _⟩ => ⟨S4x8x4096x4096, .f32⟩
  | .hbm, ⟨105, _⟩ => ⟨S4x8x4096x128, .f32⟩
  | .hbm, ⟨106, _⟩ => ⟨S4x4096x8x128, .f32⟩
  | .hbm, ⟨107, _⟩ => ⟨S4x4096x1024, .f32⟩
  | .hbm, ⟨108, _⟩ => ⟨S16384x1024, .f32⟩
  | .hbm, ⟨109, _⟩ => ⟨S16384x1024, .bf16⟩
  | _, _ => ⟨S16384x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v47 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_call2_cst : Ref sig .tc := ⟨.hbm, 78, rfl⟩
abbrev main_call2_v0 : Ref sig .tc := ⟨.hbm, 79, rfl⟩
abbrev main_v49 : Ref sig .tc := ⟨.hbm, 80, rfl⟩
abbrev main_v50 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_7 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩

abbrev nD : Nat := 1
abbrev τ : Topo := Topo.v7x

variable {F : FTy → Type} [FloatOps F]
-- ==== Proj.lean ====
abbrev S16384x2048 : Shape := ⟨2, ![16384, 2048]⟩
abbrev S2048 : Shape := ⟨1, ![2048]⟩
abbrev S2048x15360 : Shape := ⟨2, ![2048, 15360]⟩
abbrev S1x2048 : Shape := ⟨2, ![1, 2048]⟩
abbrev S16384x15360 : Shape := ⟨2, ![16384, 15360]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x15360, .f32⟩
  | .hbm, ⟨3, _⟩ => ⟨S2048x15360, .bf16⟩
  | .hbm, ⟨4, _⟩ => ⟨S1x2048, .f32⟩
  | .hbm, ⟨5, _⟩ => ⟨S16384x15360, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 15], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c4_i32 : BitVec 32 := 4#32
  let v8 : BitVec 32 := Scalar.addi c0_i32_6 c4_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c256_i32 : BitVec 32 := 256#32
  let v9 : BitVec 32 := Scalar.muli arg7 c256_i32
  v9
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c256_i32 : BitVec 32 := 256#32
  let v9 : BitVec 32 := Scalar.muli arg7 c256_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16384x2048 : Shape := ⟨2, ![16384, 2048]⟩
abbrev S2048 : Shape := ⟨1, ![2048]⟩
abbrev S2048x15360 : Shape := ⟨2, ![2048, 15360]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x15360 : Shape := ⟨2, ![16384, 15360]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x15360, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x15360, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S16384x2048 : Shape := ⟨2, ![16384, 2048]⟩
abbrev S16384x15360 : Shape := ⟨2, ![16384, 15360]⟩
abbrev S16384x1024 : Shape := ⟨2, ![16384, 1024]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩
abbrev S1024x1024 : Shape := ⟨2, ![1024, 1024]⟩

abbrev nBuf : Space → Nat
  | .hbm => 14
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S16384x15360, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S1024x2048, .bf16⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1024x2048, .bf16⟩
  | .local _ .vmem, ⟨21, _⟩ => ⟨S1024x2048, .bf16⟩
  | .local _ .vmem, ⟨22, _⟩ => ⟨S1024x2048, .bf16⟩
  | .local _ .vmem, ⟨23, _⟩ => ⟨S2048x2048, .bf16⟩
  | .local _ .vmem, ⟨24, _⟩ => ⟨S256x2048, .f32⟩
  | .local _ .vmem, ⟨25, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_9 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x2048 : Shape := ⟨2, ![16384, 2048]⟩
abbrev S16384x15360 : Shape := ⟨2, ![16384, 15360]⟩
abbrev S16384x1024 : Shape := ⟨2, ![16384, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x15360, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x1024, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x1024, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Scores.lean ====
abbrev S16384x2048 : Shape := ⟨2, ![16384, 2048]⟩
abbrev S2048 : Shape := ⟨1, ![2048]⟩
abbrev S2048x2048 : Shape := ⟨2, ![2048, 2048]⟩
abbrev S8x128x128 : Shape := ⟨3, ![8, 128, 128]⟩
abbrev S1x2048 : Shape := ⟨2, ![1, 2048]⟩
abbrev S16x128x16384 : Shape := ⟨3, ![16, 128, 16384]⟩
abbrev S1024x2048 : Shape := ⟨2, ![1024, 2048]⟩
abbrev S2048x256 : Shape := ⟨2, ![2048, 256]⟩
abbrev S1x128x128 : Shape := ⟨3, ![1, 128, 128]⟩
abbrev S2x128x1024 : Shape := ⟨3, ![2, 128, 1024]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩
abbrev S128x128 : Shape := ⟨2, ![128, 128]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S8x128x128, .f32⟩
  | .hbm, ⟨4, _⟩ => ⟨S8x128x128, .f32⟩
  | .hbm, ⟨5, _⟩ => ⟨S2048x2048, .bf16⟩
  | .hbm, ⟨6, _⟩ => ⟨S8x128x128, .bf16⟩
  | .hbm, ⟨7, _⟩ => ⟨S8x128x128, .bf16⟩
  | .hbm, ⟨8, _⟩ => ⟨S1x2048, .f32⟩
  | .hbm, ⟨9, _⟩ => ⟨S16384x2048, .bf16⟩
  | .hbm, ⟨10, _⟩ => ⟨S16x128x16384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1024x2048, .bf16⟩
  | .local _ .vmem, ⟨10, _⟩ => ⟨S1024x2048, .bf16⟩
  | .local _ .vmem, ⟨11, _⟩ => ⟨S2x128x1024, .f32⟩
  | .local _ .vmem, ⟨12, _⟩ => ⟨S2x128x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c4_i32 : BitVec 32 := 4#32
  let v23 : BitVec 32 := Scalar.addi c0_i32_17 c4_i32
  let c1_i32 : BitVec 32 := 1#32
  ⟨c0_i32_17, v23, c1_i32⟩
def k0_mult1 (k0_t1 : Fin k0_t1_loop.trips) : BitVec 32 :=
  let c0_i32_17 : BitVec 32 := 0#32
  let c1_i32 : BitVec 32 := 1#32
  let arg9 : BitVec 32 := Scf.iv c0_i32_17 c1_i32 k0_t1
  let c256_i32 : BitVec 32 := 256#32
  let v24 : BitVec 32 := Scalar.muli arg9 c256_i32
  v24
def k0_off1 (k0_t1 : Fin k0_t1_loop.trips) : Fin 2 → Nat :=
  let c0_i32_17 : BitVec 32 := 0#32
  let c1_i32 : BitVec 32 := 1#32
  let arg9 : BitVec 32 := Scf.iv c0_i32_17 c1_i32 k0_t1
  let c256_i32 : BitVec 32 := 256#32
  let v24 : BitVec 32 := Scalar.muli arg9 c256_i32
  let v25 : BitVec 32 := v24
  let v26 : Index := Scalar.indexCast v25
  let c0_19 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ScoresRefIdeal.lean ====
abbrev S16384x2048 : Shape := ⟨2, ![16384, 2048]⟩
abbrev S2048 : Shape := ⟨1, ![2048]⟩
abbrev S2048x2048 : Shape := ⟨2, ![2048, 2048]⟩
abbrev S8x128x128 : Shape := ⟨3, ![8, 128, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8x256 : Shape := ⟨3, ![16384, 8, 256]⟩
abbrev S16384x8x128 : Shape := ⟨3, ![16384, 8, 128]⟩
abbrev S8x128x16384 : Shape := ⟨3, ![8, 128, 16384]⟩
abbrev S16384x8x1x128 : Shape := ⟨4, ![16384, 8, 1, 128]⟩
abbrev S16384x8x2x128 : Shape := ⟨4, ![16384, 8, 2, 128]⟩
abbrev S8x2x128x16384 : Shape := ⟨4, ![8, 2, 128, 16384]⟩
abbrev S16x128x16384 : Shape := ⟨3, ![16, 128, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S8x128x128, .f32⟩
  | .hbm, ⟨4, _⟩ => ⟨S8x128x128, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x8x256, .f32⟩
  | .hbm, ⟨23, _⟩ => ⟨S16384x8x128, .f32⟩
  | .hbm, ⟨24, _⟩ => ⟨S8x128x16384, .f32⟩
  | .hbm, ⟨25, _⟩ => ⟨S16384x8x128, .f32⟩
  | .hbm, ⟨26, _⟩ => ⟨S16384x8x128, .f32⟩
  | .hbm, ⟨27, _⟩ => ⟨S8x128x16384, .f32⟩
  | .hbm, ⟨28, _⟩ => ⟨S16384x8x128, .f32⟩
  | .hbm, ⟨29, _⟩ => ⟨S16384x8x1x128, .f32⟩
  | .hbm, ⟨30, _⟩ => ⟨S16384x8x1x128, .f32⟩
  | .hbm, ⟨31, _⟩ => ⟨S16384x8x2x128, .f32⟩
  | .hbm, ⟨32, _⟩ => ⟨S16384x2048, .bf16⟩
  | .hbm, ⟨33, _⟩ => ⟨S8x2x128x16384, .f32⟩
  | .hbm, ⟨34, _⟩ => ⟨S16x128x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Dense.lean ====
abbrev S16384x2048 : Shape := ⟨2, ![16384, 2048]⟩
abbrev S16384x16384 : Shape := ⟨2, ![16384, 16384]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x16384, .bf16⟩
  | .hbm, ⟨3, _⟩ => ⟨S16384x2048, .f32⟩
  | .hbm, ⟨4, _⟩ => ⟨S16384x2048, .f32⟩
  | .hbm, ⟨5, _⟩ => ⟨S16384x2048, .bf16⟩
  | .hbm, ⟨6, _⟩ => ⟨S16384x2048, .bf16⟩
  | .hbm, ⟨7, _⟩ => ⟨S16384x2048, .f32⟩
  | .local _ .vmem, ⟨0, _⟩ => ⟨S1024x2048, .f32⟩
  | .local _ .vmem, ⟨1, _⟩ => ⟨S1024x2048, .bf16⟩
  | .local _ .vmem, ⟨2, _⟩ => ⟨S1024x2048, .bf16⟩
  | .local _ .vmem, ⟨3, _⟩ => ⟨S1024x512, .bf16⟩
  | .local _ .vmem, ⟨4, _⟩ => ⟨S1024x512, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S16384x2048 : Shape := ⟨2, ![16384, 2048]⟩
abbrev S16384x16384 : Shape := ⟨2, ![16384, 16384]⟩
abbrev S2048x16384 : Shape := ⟨2, ![2048, 16384]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x16384, .bf16⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S2048x16384, .f32⟩
  | .hbm, ⟨7, _⟩ => ⟨S16384x16384, .f32⟩
  | .hbm, ⟨8, _⟩ => ⟨S_, .f32⟩
  | .hbm, ⟨9, _⟩ => ⟨S16384x16384, .f32⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S16384x2048, .f32⟩
  | .hbm, ⟨20, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Conv.lean ====
abbrev S16384x15360 : Shape := ⟨2, ![16384, 15360]⟩
abbrev S31x1x1024 : Shape := ⟨3, ![31, 1, 1024]⟩
abbrev S1024 : Shape := ⟨1, ![1024]⟩
abbrev S31x1024 : Shape := ⟨2, ![31, 1024]⟩
abbrev S1x1024 : Shape := ⟨2, ![1, 1024]⟩
abbrev S16384x1024 : Shape := ⟨2, ![16384, 1024]⟩
abbrev S256x1024 : Shape := ⟨2, ![256, 1024]⟩
abbrev S32x1024 : Shape := ⟨2, ![32, 1024]⟩
abbrev S288x1024 : Shape := ⟨2, ![288, 1024]⟩
abbrev S32x128 : Shape := ⟨2, ![32, 128]⟩
abbrev S1x128 : Shape := ⟨2, ![1, 128]⟩
abbrev S64x128 : Shape := ⟨2, ![64, 128]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x15360, .f32⟩
  | .hbm, ⟨1, _⟩ => ⟨S31x1x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S288x1024, .f32⟩
  | .local _ .vmem, ⟨15, _⟩ => ⟨S256x1024, .f32⟩
  | _, _ => ⟨S16384x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_16 : BitVec 32 := 0#32
  let c8_i32 : BitVec 32 := 8#32
  let v29 : BitVec 32 := Scalar.addi c0_i32_16 c8_i32
  let c1_i32 : BitVec 32 := 1#32
  ⟨c0_i32_16, v29, c1_i32⟩
def k0_mult1 (k0_t1 : Fin k0_t1_loop.trips) : BitVec 32 :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  v65
def k0_off1 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v72 : Index := Scalar.indexCast v66
  let c0_37 : Index := 0#32
  ![v72.toNat, 0]
def k0_off2 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v260 : Index := Scalar.indexCast v66
  let c0_70 : Index := 0#32
  ![v260.toNat, 0]
def k0_off3 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v269 : Index := Scalar.indexCast v66
  let c128_73 : Index := 128#32
  ![v269.toNat, 128]
def k0_off4 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v457 : Index := Scalar.indexCast v66
  let c128_136 : Index := 128#32
  ![v457.toNat, 128]
def k0_off5 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v466 : Index := Scalar.indexCast v66
  let c256_139 : Index := 256#32
  ![v466.toNat, 256]
def k0_off6 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v654 : Index := Scalar.indexCast v66
  let c256_202 : Index := 256#32
  ![v654.toNat, 256]
def k0_off7 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v663 : Index := Scalar.indexCast v66
  let c384_205 : Index := 384#32
  ![v663.toNat, 384]
def k0_off8 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v851 : Index := Scalar.indexCast v66
  let c384_268 : Index := 384#32
  ![v851.toNat, 384]
def k0_off9 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v860 : Index := Scalar.indexCast v66
  let c512_271 : Index := 512#32
  ![v860.toNat, 512]
def k0_off10 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1048 : Index := Scalar.indexCast v66
  let c512_334 : Index := 512#32
  ![v1048.toNat, 512]
def k0_off11 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1057 : Index := Scalar.indexCast v66
  let c640_337 : Index := 640#32
  ![v1057.toNat, 640]
def k0_off12 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1245 : Index := Scalar.indexCast v66
  let c640_400 : Index := 640#32
  ![v1245.toNat, 640]
def k0_off13 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1254 : Index := Scalar.indexCast v66
  let c768_403 : Index := 768#32
  ![v1254.toNat, 768]
def k0_off14 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1442 : Index := Scalar.indexCast v66
  let c768_466 : Index := 768#32
  ![v1442.toNat, 768]
def k0_off15 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1451 : Index := Scalar.indexCast v66
  let c896_469 : Index := 896#32
  ![v1451.toNat, 896]
def k0_off16 (k0_t1 : Fin k0_t1_loop.trips) : Fin 2 → Nat :=
  let c0_i32_16 : BitVec 32 := 0#32
  let c1_i32 : BitVec 32 := 1#32
  let arg13 : BitVec 32 := Scf.iv c0_i32_16 c1_i32 k0_t1
  let c32_i32 : BitVec 32 := 32#32
  let v65 : BitVec 32 := Scalar.muli arg13 c32_i32
  let v66 : BitVec 32 := v65
  let v1639 : Index := Scalar.indexCast v66
  let c896_532 : Index := 896#32
  ![v1639.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli v0 c8_i32
  let c8_i32_0 : BitVec 32 := 8#32
  let v2 : BitVec 32 := Scalar.muli arg1 c8_i32_0
  let v3 : BitVec 32 := Scalar.addi v1 v2
  let c1_i32 : BitVec 32 := 1#32
  let v4 : BitVec 32 := Scalar.subi v3 c1_i32
  let c0_i32 : BitVec 32 := 0#32
  let v5 : BitVec 32 := Scalar.maxsi v4 c0_i32
  let c7_i32 : BitVec 32 := 7#32
  let c0_i32_1 : BitVec 32 := 0#32
  ![v5.toNat, c7_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli v0 c8_i32
  let c8_i32_0 : BitVec 32 := 8#32
  let v2 : BitVec 32 := Scalar.muli arg1 c8_i32_0
  let v3 : BitVec 32 := Scalar.addi v1 v2
  let c1_i32 : BitVec 32 := 1#32
  let v4 : BitVec 32 := Scalar.subi v3 c1_i32
  let c0_i32 : BitVec 32 := 0#32
  let v5 : BitVec 32 := Scalar.maxsi v4 c0_i32
  let c8_i32_1 : BitVec 32 := 8#32
  let c0_i32_2 : BitVec 32 := 0#32
  ![v5.toNat, c8_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvRefIdeal.lean ====
abbrev S16384x15360 : Shape := ⟨2, ![16384, 15360]⟩
abbrev S31x1x1024 : Shape := ⟨3, ![31, 1, 1024]⟩
abbrev S1024 : Shape := ⟨1, ![1024]⟩
abbrev S16384x1024 : Shape := ⟨2, ![16384, 1024]⟩
abbrev S_ : Shape := ⟨0, ![]⟩
abbrev S4x4096x1024 : Shape := ⟨3, ![4, 4096, 1024]⟩
abbrev S4x4126x1024 : Shape := ⟨3, ![4, 4126, 1024]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 279
  | .vmem => 0
  | .smem => 0
  | _ => 0

abbrev hbmTy0_0 (i : Nat) : BufTy := match i % 128 with
  | 0 => ⟨S16384x15360, .f32⟩
  | 1 => ⟨S31x1x1024, .f32⟩
  | 2 => ⟨S1024, .f32⟩
  | 3 => ⟨S1024, .f32⟩
  | 4 => ⟨S1024, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S4x4096x1024, .f32⟩
  | 17 => ⟨S_, .i32⟩
  | 18 => ⟨S_, .f32⟩
  | 19 => ⟨S4x4126x1024, .f32⟩
  | 20 => ⟨S4x4096x1024, .f32⟩
  | 21 => ⟨S1x1x1024, .f32⟩
  | 22 => ⟨S1024, .f32⟩
  | 23 => ⟨S1x1x1024, .f32⟩
  | 24 => ⟨S4x4096x1024, .f32⟩
  | 25 => ⟨S4x4096x1024, .f32⟩
  | 26 => ⟨S4x4096x1024, .f32⟩
  | 27 => ⟨S1x1x1024, .f32⟩
  | 28 => ⟨S1024, .f32⟩
  | 29 => ⟨S1x1x1024, .f32⟩
  | 30 => ⟨S4x4096x1024, .f32⟩
  | 31 => ⟨S4x4096x1024, .f32⟩
  | 32 => ⟨S4x4096x1024, .f32⟩
  | 33 => ⟨S1x1x1024, .f32⟩
  | 34 => ⟨S1024, .f32⟩
  | 35 => ⟨S1x1x1024, .f32⟩
  | 36 => ⟨S4x4096x1024, .f32⟩
  | 37 => ⟨S4x4096x1024, .f32⟩
  | 38 => ⟨S4x4096x1024, .f32⟩
  | 39 => ⟨S1x1x1024, .f32⟩
  | 40 => ⟨S1024, .f32⟩
  | 41 => ⟨S1x1x1024, .f32⟩
  | 42 => ⟨S4x4096x1024, .f32⟩
  | 43 => ⟨S4x4096x1024, .f32⟩
  | 44 => ⟨S4x4096x1024, .f32⟩
  | 45 => ⟨S1x1x1024, .f32⟩
  | 46 => ⟨S1024, .f32⟩
  | 47 => ⟨S1x1x1024, .f32⟩
  | 48 => ⟨S4x4096x1024, .f32⟩
  | 49 => ⟨S4x4096x1024, .f32⟩
  | 50 => ⟨S4x4096x1024, .f32⟩
  | 51 => ⟨S1x1x1024, .f32⟩
  | 52 => ⟨S1024, .f32⟩
  | 53 => ⟨S1x1x1024, .f32⟩
  | 54 => ⟨S4x4096x1024, .f32⟩
  | 55 => ⟨S4x4096x1024, .f32⟩
  | 56 => ⟨S4x4096x1024, .f32⟩
  | 57 => ⟨S1x1x1024, .f32⟩
  | 58 => ⟨S1024, .f32⟩
  | 59 => ⟨S1x1x1024, .f32⟩
  | 60 => ⟨S4x4096x1024, .f32⟩
  | 61 => ⟨S4x4096x1024, .f32⟩
  | 62 => ⟨S4x4096x1024, .f32⟩
  | 63 => ⟨S1x1x1024, .f32⟩
  | 64 => ⟨S1024, .f32⟩
  | 65 => ⟨S1x1x1024, .f32⟩
  | 66 => ⟨S4x4096x1024, .f32⟩
  | 67 => ⟨S4x4096x1024, .f32⟩
  | 68 => ⟨S4x4096x1024, .f32⟩
  | 69 => ⟨S1x1x1024, .f32⟩
  | 70 => ⟨S1024, .f32⟩
  | 71 => ⟨S1x1x1024, .f32⟩
  | 72 => ⟨S4x4096x1024, .f32⟩
  | 73 => ⟨S4x4096x1024, .f32⟩
  | 74 => ⟨S4x4096x1024, .f32⟩
  | 75 => ⟨S1x1x1024, .f32⟩
  | 76 => ⟨S1024, .f32⟩
  | 77 => ⟨S1x1x1024, .f32⟩
  | 78 => ⟨S4x4096x1024, .f32⟩
  | 79 => ⟨S4x4096x1024, .f32⟩
  | 80 => ⟨S4x4096x1024, .f32⟩
  | 81 => ⟨S1x1x1024, .f32⟩
  | 82 => ⟨S1024, .f32⟩
  | 83 => ⟨S1x1x1024, .f32⟩
  | 84 => ⟨S4x4096x1024, .f32⟩
  | 85 => ⟨S4x4096x1024, .f32⟩
  | 86 => ⟨S4x4096x1024, .f32⟩
  | 87 => ⟨S1x1x1024, .f32⟩
  | 88 => ⟨S1024, .f32⟩
  | 89 => ⟨S1x1x1024, .f32⟩
  | 90 => ⟨S4x4096x1024, .f32⟩
  | 91 => ⟨S4x4096x1024, .f32⟩
  | 92 => ⟨S4x4096x1024, .f32⟩
  | 93 => ⟨S1x1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S1x1x1024, .f32⟩
  | 100 => ⟨S1024, .f32⟩
  | 101 => ⟨S1x1x1024, .f32⟩
  | 102 => ⟨S4x4096x1024, .f32⟩
  | 103 => ⟨S4x4096x1024, .f32⟩
  | 104 => ⟨S4x4096x1024, .f32⟩
  | 105 => ⟨S1x1x1024, .f32⟩
  | 106 => ⟨S1024, .f32⟩
  | 107 => ⟨S1x1x1024, .f32⟩
  | 108 => ⟨S4x4096x1024, .f32⟩
  | 109 => ⟨S4x4096x1024, .f32⟩
  | 110 => ⟨S4x4096x1024, .f32⟩
  | 111 => ⟨S1x1x1024, .f32⟩
  | 112 => ⟨S1024, .f32⟩
  | 113 => ⟨S1x1x1024, .f32⟩
  | 114 => ⟨S4x4096x1024, .f32⟩
  | 115 => ⟨S4x4096x1024, .f32⟩
  | 116 => ⟨S4x4096x1024, .f32⟩
  | 117 => ⟨S1x1x1024, .f32⟩
  | 118 => ⟨S1024, .f32⟩
  | 119 => ⟨S1x1x1024, .f32⟩
  | 120 => ⟨S4x4096x1024, .f32⟩
  | 121 => ⟨S4x4096x1024, .f32⟩
  | 122 => ⟨S4x4096x1024, .f32⟩
  | 123 => ⟨S1x1x1024, .f32⟩
  | 124 => ⟨S1024, .f32⟩
  | 125 => ⟨S1x1x1024, .f32⟩
  | 126 => ⟨S4x4096x1024, .f32⟩
  | 127 => ⟨S4x4096x1024, .f32⟩
  | _ => ⟨S16384x15360, .f32⟩

abbrev hbmTy0_1 (i : Nat) : BufTy := match i % 128 with
  | 0 => ⟨S4x4096x1024, .f32⟩
  | 1 => ⟨S1x1x1024, .f32⟩
  | 2 => ⟨S1024, .f32⟩
  | 3 => ⟨S1x1x1024, .f32⟩
  | 4 => ⟨S4x4096x1024, .f32⟩
  | 5 => ⟨S4x4096x1024, .f32⟩
  | 6 => ⟨S4x4096x1024, .f32⟩
  | 7 => ⟨S1x1x1024, .f32⟩
  | 8 => ⟨S1024, .f32⟩
  | 9 => ⟨S1x1x1024, .f32⟩
  | 10 => ⟨S4x4096x1024, .f32⟩
  | 11 => ⟨S4x4096x1024, .f32⟩
  | 12 => ⟨S4x4096x1024, .f32⟩
  | 13 => ⟨S1x1x1024, .f32⟩
  | 14 => ⟨S1024, .f32⟩
  | 15 => ⟨S1x1x1024, .f32⟩
  | 16 => ⟨S4x4096x1024, .f32⟩
  | 17 => ⟨S4x4096x1024, .f32⟩
  | 18 => ⟨S4x4096x1024, .f32⟩
  | 19 => ⟨S1x1x1024, .f32⟩
  | 20 => ⟨S1024, .f32⟩
  | 21 => ⟨S1x1x1024, .f32⟩
  | 22 => ⟨S4x4096x1024, .f32⟩
  | 23 => ⟨S4x4096x1024, .f32⟩
  | 24 => ⟨S4x4096x1024, .f32⟩
  | 25 => ⟨S1x1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S1x1x1024, .f32⟩
  | 32 => ⟨S1024, .f32⟩
  | 33 => ⟨S1x1x1024, .f32⟩
  | 34 => ⟨S4x4096x1024, .f32⟩
  | 35 => ⟨S4x4096x1024, .f32⟩
  | 36 => ⟨S4x4096x1024, .f32⟩
  | 37 => ⟨S1x1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S1x1x1024, .f32⟩
  | 44 => ⟨S1024, .f32⟩
  | 45 => ⟨S1x1x1024, .f32⟩
  | 46 => ⟨S4x4096x1024, .f32⟩
  | 47 => ⟨S4x4096x1024, .f32⟩
  | 48 => ⟨S4x4096x1024, .f32⟩
  | 49 => ⟨S1x1x1024, .f32⟩
  | 50 => ⟨S1024, .f32⟩
  | 51 => ⟨S1x1x1024, .f32⟩
  | 52 => ⟨S4x4096x1024, .f32⟩
  | 53 => ⟨S4x4096x1024, .f32⟩
  | 54 => ⟨S4x4096x1024, .f32⟩
  | 55 => ⟨S1x1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S1x1x1024, .f32⟩
  | 62 => ⟨S1024, .f32⟩
  | 63 => ⟨S1x1x1024, .f32⟩
  | 64 => ⟨S4x4096x1024, .f32⟩
  | 65 => ⟨S4x4096x1024, .f32⟩
  | 66 => ⟨S4x4096x1024, .f32⟩
  | 67 => ⟨S1x1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S1x1x1024, .f32⟩
  | 74 => ⟨S1024, .f32⟩
  | 75 => ⟨S1x1x1024, .f32⟩
  | 76 => ⟨S4x4096x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S4x4096x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S4x4096x1024, .f32⟩
  | 105 => ⟨S4x4096x1024, .f32⟩
  | 106 => ⟨S4x4096x1024, .f32⟩
  | 107 => ⟨S4x4096x1024, .f32⟩
  | 108 => ⟨S1x1x1024, .f32⟩
  | 109 => ⟨S4x4096x1024, .f32⟩
  | 110 => ⟨S4x4096x1024, .f32⟩
  | 111 => ⟨S_, .f32⟩
  | 112 => ⟨S4x4096, .f32⟩
  | 113 => ⟨S4x4096x1, .f32⟩
  | 114 => ⟨S_, .f32⟩
  | 115 => ⟨S4x4096x1, .f32⟩
  | 116 => ⟨S4x4096x1, .f32⟩
  | 117 => ⟨S4x4096x1024, .f32⟩
  | 118 => ⟨S4x4096x1024, .f32⟩
  | 119 => ⟨S4x4096x1024, .f32⟩
  | 120 => ⟨S_, .f32⟩
  | 121 => ⟨S4x4096, .f32⟩
  | 122 => ⟨S4x4096x1, .f32⟩
  | 123 => ⟨S_, .f32⟩
  | 124 => ⟨S4x4096x1, .f32⟩
  | 125 => ⟨S4x4096x1, .f32⟩
  | 126 => ⟨S4x4096x1024, .f32⟩
  | 127 => ⟨S4x4096x1024, .f32⟩
  | _ => ⟨S16384x15360, .f32⟩

abbrev hbmTy0_2 (i : Nat) : BufTy := match i % 128 with
  | 0 => ⟨S_, .f32⟩
  | 1 => ⟨S4x4096x1, .f32⟩
  | 2 => ⟨S4x4096x1, .f32⟩
  | 3 => ⟨S4x4096x1, .f32⟩
  | 4 => ⟨S4x4096x1024, .f32⟩
  | 5 => ⟨S4x4096x1024, .f32⟩
  | 6 => ⟨S1x1x1024, .f32⟩
  | 7 => ⟨S4x4096x1024, .f32⟩
  | 8 => ⟨S4x4096x1024, .f32⟩
  | 9 => ⟨S1x1x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S4x4096x1024, .f32⟩
  | 21 => ⟨S16384x1024, .f32⟩
  | 22 => ⟨S16384x1024, .bf16⟩
  | _ => ⟨S16384x15360, .f32⟩

abbrev hbmTy (i : Nat) : BufTy := match i / 128 with
  | 0 => hbmTy0_0 i
  | 1 => hbmTy0_1 i
  | 2 => hbmTy0_2 i
  | _ => ⟨S16384x15360, .f32⟩

abbrev bufTy : (tb : Table) → Fin (tcTables nBuf tb) → BufTy
  | .hbm, ⟨i, _⟩ => hbmTy i
  | _, _ => ⟨S16384x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_1 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_3 : Ref sig .tc := ⟨.hbm, 248, rfl⟩
abbrev main_v237 : Ref sig .tc := ⟨.hbm, 249, rfl⟩
abbrev main_v238 : Ref sig .tc := ⟨.hbm, 250, rfl⟩
abbrev main_cst_4 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== Hgrn.lean ====
abbrev S16384x15360 : Shape := ⟨2, ![16384, 15360]⟩
abbrev S1024 : Shape := ⟨1, ![1024]⟩
abbrev S128 : Shape := ⟨1, ![128]⟩
abbrev S8x1x128 : Shape := ⟨3, ![8, 1, 128]⟩
abbrev S8x2x128 : Shape := ⟨3, ![8, 2, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x192 : Shape := ⟨2, ![64, 192]⟩
abbrev S1x128 : Shape := ⟨2, ![1, 128]⟩
abbrev S16384x1024 : Shape := ⟨2, ![16384, 1024]⟩
abbrev S512x128 : Shape := ⟨2, ![512, 128]⟩
abbrev S1x2x128 : Shape := ⟨3, ![1, 2, 128]⟩
abbrev S128x128 : Shape := ⟨2, ![128, 128]⟩
abbrev S64x128 : Shape := ⟨2, ![64, 128]⟩
abbrev S2x128 : Shape := ⟨2, ![2, 128]⟩
abbrev S192x128 : Shape := ⟨2, ![192, 128]⟩
abbrev S16x128 : Shape := ⟨2, ![16, 128]⟩
abbrev S16 : Shape := ⟨1, ![16]⟩
abbrev S16x1 : Shape := ⟨2, ![16, 1]⟩
abbrev S16x16 : Shape := ⟨2, ![16, 16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S128x64 : Shape := ⟨2, ![128, 64]⟩

abbrev nBuf : Space → Nat
  | .hbm => 19
  | .vmem => 15
  | .smem => 0
  | _ => 0

abbrev bufTy : (tb : Table) → Fin (tcTables nBuf tb) → BufTy
  | .hbm, ⟨0, _⟩ => ⟨S16384x15360, .f32⟩
  | .hbm, ⟨1, _⟩ => ⟨S1024, .f32⟩
  | .hbm, ⟨2, _⟩ => ⟨S128, .f32⟩
  | .hbm, ⟨3, _⟩ => ⟨S8x1x128, .f32⟩
  | .hbm, ⟨4, _⟩ => ⟨S8x1x128, .f32⟩
  | .hbm, ⟨5, _⟩ => ⟨S8x1x128, .f32⟩
  | .hbm, ⟨6, _⟩ => ⟨S8x1x128, .f32⟩
  | .hbm, ⟨7, _⟩ => ⟨S8x2x128, .f32⟩
  | .hbm, ⟨8, _⟩ => ⟨S64, .i32⟩
  | .hbm, ⟨9, _⟩ => ⟨S64x1, .i32⟩
  | .hbm, ⟨10, _⟩ => ⟨S64, .i32⟩
  | .hbm, ⟨11, _⟩ => ⟨S1x64, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S64x64, .bf16⟩
  | .hbm, ⟨16, _⟩ => ⟨S64x192, .bf16⟩
  | .hbm, ⟨17, _⟩ => ⟨S1x128, .f32⟩
  | .hbm, ⟨18, _⟩ => ⟨S16384x1024, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x2x128, .f32⟩
  | .local _ .vmem, ⟨9, _⟩ => ⟨S1x2x128, .f32⟩
  | .local _ .vmem, ⟨10, _⟩ => ⟨S1x128, .f32⟩
  | .local _ .vmem, ⟨11, _⟩ => ⟨S64x192, .bf16⟩
  | .local _ .vmem, ⟨12, _⟩ => ⟨S512x128, .bf16⟩
  | .local _ .vmem, ⟨13, _⟩ => ⟨S512x128, .bf16⟩
  | .local _ .vmem, ⟨14, _⟩ => ⟨S128x128, .f32⟩
  | _, _ => ⟨S16384x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 8], ![false, false, false]⟩

@[reducible] def k0_t1_loop : Scf.Loop 32 :=
  let c0_i32_2 : BitVec 32 := 0#32
  let c8_i32 : BitVec 32 := 8#32
  let v4 : BitVec 32 := Scalar.addi c0_i32_2 c8_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c64_i32 : BitVec 32 := 64#32
  let v9 : BitVec 32 := Scalar.muli arg12 c64_i32
  v9
def k0_off1 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c64_i32 : BitVec 32 := 64#32
  let v9 : BitVec 32 := Scalar.muli arg12 c64_i32
  let v10 : BitVec 32 := v9
  let v11 : Index := Scalar.indexCast v10
  let c0_6 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== HgrnRefIdeal.lean ====
abbrev S16384x15360 : Shape := ⟨2, ![16384, 15360]⟩
abbrev S1024 : Shape := ⟨1, ![1024]⟩
abbrev S128 : Shape := ⟨1, ![128]⟩
abbrev S4x4096x15360 : Shape := ⟨3, ![4, 4096, 15360]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S8x1x128 : Shape := ⟨3, ![8, 1, 128]⟩
abbrev S_ : Shape := ⟨0, ![]⟩
abbrev S1x8x1x128 : Shape := ⟨4, ![1, 8, 1, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096x1x128 : Shape := ⟨5, ![4, 8, 4096, 1, 128]⟩
abbrev S4x8x1x4096x128 : Shape := ⟨5, ![4, 8, 1, 4096, 128]⟩
abbrev S4x8x4096x4096x128 : Shape := ⟨5, ![4, 8, 4096, 4096, 128]⟩
abbrev S4096x4096x1 : Shape := ⟨3, ![4096, 4096, 1]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S1x1x1x128 : Shape := ⟨4, ![1, 1, 1, 128]⟩
abbrev S16384x1024 : Shape := ⟨2, ![16384, 1024]⟩

abbrev nBuf : Space → Nat
  | .hbm => 115
  | .vmem => 0
  | .smem => 0
  | _ => 0

abbrev bufTy : (tb : Table) → Fin (tcTables nBuf tb) → BufTy
  | .hbm, ⟨0, _⟩ => ⟨S16384x15360, .f32⟩
  | .hbm, ⟨1, _⟩ => ⟨S1024, .f32⟩
  | .hbm, ⟨2, _⟩ => ⟨S128, .f32⟩
  | .hbm, ⟨3, _⟩ => ⟨S4x4096x15360, .f32⟩
  | .hbm, ⟨4, _⟩ => ⟨S4x4096x1024, .f32⟩
  | .hbm, ⟨5, _⟩ => ⟨S4x4096x8x128, .f32⟩
  | .hbm, ⟨6, _⟩ => ⟨S4x8x4096x128, .f32⟩
  | .hbm, ⟨7, _⟩ => ⟨S4x4096x1024, .f32⟩
  | .hbm, ⟨8, _⟩ => ⟨S4x4096x8x128, .f32⟩
  | .hbm, ⟨9, _⟩ => ⟨S4x8x4096x128, .f32⟩
  | .hbm, ⟨10, _⟩ => ⟨S4x4096x1024, .f32⟩
  | .hbm, ⟨11, _⟩ => ⟨S4x4096x8x128, .f32⟩
  | .hbm, ⟨12, _⟩ => ⟨S4x8x4096x128, .f32⟩
  | .hbm, ⟨13, _⟩ => ⟨S4x4096x1024, .f32⟩
  | .hbm, ⟨14, _⟩ => ⟨S4x4096x8x128, .f32⟩
  | .hbm, ⟨15, _⟩ => ⟨S4x8x4096x128, .f32⟩
  | .hbm, ⟨16, _⟩ => ⟨S8x1x128, .f32⟩
  | .hbm, ⟨17, _⟩ => ⟨S8x1x128, .f32⟩
  | .hbm, ⟨18, _⟩ => ⟨S8x1x128, .f32⟩
  | .hbm, ⟨19, _⟩ => ⟨S8x1x128, .f32⟩
  | .hbm, ⟨20, _⟩ => ⟨S4x8x4096x128, .f32⟩
  | .hbm, ⟨21, _⟩ => ⟨S_, .f32⟩
  | .hbm, ⟨22, _⟩ => ⟨S4x8x4096x128, .f32⟩
  | .hbm, ⟨23, _⟩ => ⟨S4x8x4096x128, .f32⟩
  | .hbm, ⟨24, _⟩ => ⟨S4x8x4096x128, .f32⟩
  | .hbm, ⟨25, _⟩ => ⟨S4x8x4096x128, .f32⟩
  | .hbm, ⟨26, _⟩ => ⟨S4x8x4096x128, .i1⟩
  | .hbm, ⟨27, _⟩ => ⟨S4x8x4096x128, .f32⟩
  | .hbm, ⟨28, _⟩ => ⟨S4x8x4096x128, .f32⟩
  | .hbm, ⟨29, _⟩ => ⟨S4x8x4096x128, .f32⟩
  | .hbm, ⟨30, _⟩ => ⟨S4x8x4096x128, .f32⟩
  | .hbm, ⟨31, _⟩ => ⟨S4x8x4096x128, .f32⟩
  | .hbm, ⟨32, _⟩ => ⟨S4x8x4096x128, .f32⟩
  | .hbm, ⟨33, _⟩ => ⟨S4x8x4096x128, .f32⟩
  | .hbm, ⟨34, _⟩ => ⟨S4x8x4096x128, .f32⟩
  | .hbm, ⟨35, _⟩ => ⟨S4x8x4096x128, .f32⟩
  | .hbm, ⟨36, _⟩ => ⟨S1x8x1x128, .f32⟩
  | .hbm, ⟨37, _⟩ => ⟨S4x8x4096x128, .f32⟩
  | .hbm, ⟨38, _⟩ => ⟨S4x8x4096x128, .f32⟩
  | .hbm, ⟨39, _⟩ => ⟨S1x8x1x128, .f32⟩
  | .hbm, ⟨40, _⟩ => ⟨S4x8x4096x128, .f32⟩
  | .hbm, ⟨41, _⟩ => ⟨S4x8x4096x128, .f32⟩
  | .hbm, ⟨42, _⟩ => ⟨S4x8x4096x128, .f32⟩
  | .hbm, ⟨43, _⟩ => ⟨S4x8x4096x128, .f32⟩
  | .hbm, ⟨44, _⟩ => ⟨S4x8x4096x128, .i1⟩
  | .hbm, ⟨45, _⟩ => ⟨S4x8x4096x128, .f32⟩
  | .hbm, ⟨46, _⟩ => ⟨S4x8x4096x128, .f32⟩
  | .hbm, ⟨47, _⟩ => ⟨S4x8x4096x128, .f32⟩
  | .hbm, ⟨48, _⟩ => ⟨S4x8x4096x128, .f32⟩
  | .hbm, ⟨49, _⟩ => ⟨S4x8x4096x128, .f32⟩
  | .hbm, ⟨50, _⟩ => ⟨S4x8x4096x128, .f32⟩
  | .hbm, ⟨51, _⟩ => ⟨S4x8x4096x128, .f32⟩
  | .hbm, ⟨52, _⟩ => ⟨S4x8x4096x128, .f32⟩
  | .hbm, ⟨53, _⟩ => ⟨S4x8x4096x128, .f32⟩
  | .hbm, ⟨54, _⟩ => ⟨S4x8x4096x128, .f32⟩
  | .hbm, ⟨55, _⟩ => ⟨S_, .f32⟩
  | .hbm, ⟨56, _⟩ => ⟨S_, .f32⟩
  | .hbm, ⟨57, _⟩ => ⟨S4x8x4096x128, .f32⟩
  | .hbm, ⟨58, _⟩ => ⟨S4096, .i32⟩
  | .hbm, ⟨59, _⟩ => ⟨S1x4096, .i32⟩
  | .hbm, ⟨60, _⟩ => ⟨S4096, .i32⟩
  | .hbm, ⟨61, _⟩ => ⟨S4096x1, .i32⟩
  | .hbm, ⟨62, _⟩ => ⟨S4096x4096, .i32⟩
  | .hbm, ⟨63, _⟩ => ⟨S4096x4096, .i32⟩
  | .hbm, ⟨64, _⟩ => ⟨S4096x4096, .i1⟩
  | .hbm, ⟨65, _⟩ => ⟨S4x8x4096x1x128, .f32⟩
  | .hbm, ⟨66, _⟩ => ⟨S4x8x1x4096x128, .f32⟩
  | .hbm, ⟨67, _⟩ => ⟨S4x8x4096x4096x128, .f32⟩
  | .hbm, ⟨68, _⟩ => ⟨S4x8x4096x4096x128, .f32⟩
  | .hbm, ⟨69, _⟩ => ⟨S4x8x4096x4096x128, .f32⟩
  | .hbm, ⟨70, _⟩ => ⟨S4096x4096x1, .i1⟩
  | .hbm, ⟨71, _⟩ => ⟨S_, .f32⟩
  | .hbm, ⟨72, _⟩ => ⟨S_, .f32⟩
  | .hbm, ⟨73, _⟩ => ⟨S4x8x4096x4096x128, .i1⟩
  | .hbm, ⟨74, _⟩ => ⟨S4x8x4096x4096x128, .f32⟩
  | .hbm, ⟨75, _⟩ => ⟨S4x8x4096x4096x128, .f32⟩
  | .hbm, ⟨76, _⟩ => ⟨S4x8x4096x4096x128, .f32⟩
  | .hbm, ⟨77, _⟩ => ⟨S4x8x4096x1x128, .f32⟩
  | .hbm, ⟨78, _⟩ => ⟨S4x8x1x4096x128, .f32⟩
  | .hbm, ⟨79, _⟩ => ⟨S4x8x4096x4096x128, .f32⟩
  | .hbm, ⟨80, _⟩ => ⟨S4x8x4096x4096x128, .f32⟩
  | .hbm, ⟨81, _⟩ => ⟨S4x8x4096x4096x128, .f32⟩
  | .hbm, ⟨82, _⟩ => ⟨S4x8x4096x4096x128, .f32⟩
  | .hbm, ⟨83, _⟩ => ⟨S_, .f32⟩
  | .hbm, ⟨84, _⟩ => ⟨S4x8x4096x4096, .f32⟩
  | .hbm, ⟨85, _⟩ => ⟨S4x8x4096x128, .f32⟩
  | .hbm, ⟨86, _⟩ => ⟨S4x8x4096x128, .f32⟩
  | .hbm, ⟨87, _⟩ => ⟨S_, .f32⟩
  | .hbm, ⟨88, _⟩ => ⟨S4x8x4096, .f32⟩
  | .hbm, ⟨89, _⟩ => ⟨S4x8x4096x1, .f32⟩
  | .hbm, ⟨90, _⟩ => ⟨S_, .f32⟩
  | .hbm, ⟨91, _⟩ => ⟨S4x8x4096x1, .f32⟩
  | .hbm, ⟨92, _⟩ => ⟨S4x8x4096x1, .f32⟩
  | .hbm, ⟨93, _⟩ => ⟨S_, .f32⟩
  | .hbm, ⟨94, _⟩ => ⟨S4x8x4096x1, .f32⟩
  | .hbm, ⟨95, _⟩ => ⟨S4x8x4096x1, .f32⟩
  | .hbm, ⟨96, _⟩ => ⟨S4x8x4096x1, .f32⟩
  | .hbm, ⟨97, _⟩ => ⟨S4x8x4096x128, .f32⟩
  | .hbm, ⟨98, _⟩ => ⟨S4x8x4096x128, .f32⟩
  | .hbm, ⟨99, _⟩ => ⟨S1x1x1x128, .f32⟩
  | .hbm, ⟨100, _⟩ => ⟨S4x8x4096x128, .f32⟩
  | .hbm, ⟨101, _⟩ => ⟨S4x8x4096x128, .f32⟩
  | .hbm, ⟨102, _⟩ => ⟨S4x8x4096x128, .f32⟩
  | .hbm, ⟨103, _⟩ => ⟨S4x8x4096x128, .f32⟩
  | .hbm, ⟨104, _⟩ => ⟨S_, .f32⟩
  | .hbm, ⟨105, _⟩ => ⟨S4x8x4096x128, .f32⟩
  | .hbm, ⟨106, _⟩ => ⟨S4x8x4096x128, .f32⟩
  | .hbm, ⟨107, _⟩ => ⟨S_, .f32⟩
  | .hbm, ⟨108, _⟩ => ⟨S4x8x4096x128, .f32⟩
  | .hbm, ⟨109, _⟩ => ⟨S4x8x4096x128, .f32⟩
  | .hbm, ⟨110, _⟩ => ⟨S4x8x4096x128, .f32⟩
  | .hbm, ⟨111, _⟩ => ⟨S4x4096x8x128, .f32⟩
  | .hbm, ⟨112, _⟩ => ⟨S4x4096x1024, .f32⟩
  | .hbm, ⟨113, _⟩ => ⟨S16384x1024, .f32⟩
  | .hbm, ⟨114, _⟩ => ⟨S16384x1024, .bf16⟩
  | _, _ => ⟨S16384x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_1 : Ref sig .tc := ⟨.hbm, 87, rfl⟩
abbrev main_v62 : Ref sig .tc := ⟨.hbm, 88, rfl⟩
abbrev main_v63 : Ref sig .tc := ⟨.hbm, 89, rfl⟩
abbrev main_cst_2 : Ref sig .tc := ⟨.hbm, 90, rfl⟩
abbrev main_v64 : Ref sig .tc := ⟨.hbm, 91, rfl⟩
abbrev main_v65 : Ref sig .tc := ⟨.hbm, 92, rfl⟩
abbrev main_cst_3 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_4 : Ref sig .tc := ⟨.hbm, 104, rfl⟩
abbrev main_v76 : Ref sig .tc := ⟨.hbm, 105, rfl⟩
abbrev main_v77 : Ref sig .tc := ⟨.hbm, 106, rfl⟩
abbrev main_cst_5 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]
-- ==== Proof.HgIdRuns.lean ====
module

public import proofs.«01_k».proof.Proof.Gen.HgrnIdeal.Frame
public import proofs.«01_k».proof.Proof.Gen.HgrnIdeal.Skeleton
public import proofs.«01_k».proof.Proof.Gen.HgrnIdeal.Loops

/-! The recurrence kernel's body over whole staging memrefs: its one branch condition in closed form, the memrefs of a grid
    point, and the region invariant with the scratch buffer as a memref. -/

@[expose] public section

set_option maxRecDepth 16384

noncomputable section

namespace Cert.HgrnIdeal.Hg

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop :=
  Scalar.cmpi .ne (Scalar.extui (Scalar.cmpi .eq (BitVec.ofNat 32 (i 2).val) 0#32) : BitVec 32) 0#32 = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 8 % 8 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
/-- The scratch operand: a whole scoped buffer of the kernel's own, passed beside the windows. -/
abbrev scM0_0 : Memref sig .tc .vmem S128x128 .f32 := Memref.whole cc0_scratch0

/-- The frame kit's invariant with the scratch operand as a memref owned at some contents (`scopedRest0_eq`,
    Lib/Memref.lean `owns_whole`): what the body obligation hands the run and takes back. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.HgrnIdeal.Hg

end
-- ==== Proof.HgIdStep.lean ====
module

public import proofs.«01_k».proof.Proof.HgIdRuns
public import Idealize.ShloMosaic.Lib.Pointwise
public import Idealize.ShloMosaic.Lib.WholeRead
public import Idealize.ShloMosaic.Lib.WritesUnit

/-! What one trip of the recurrence kernel's loop computes from 64 positions and the carried state: the next state, and the
    64 rows of the result as four blocks of sixteen, each a chain of sixteen rank-one updates. -/

@[expose] public section

set_option maxRecDepth 65536

noncomputable section

namespace Cert.HgrnIdeal.Hg

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One row of a block of sixteen. -/
theorem row16 (j : Fin 16) : S16x128.Slices ![j.val, 0] S1x128 := by revert j; decide

/-- One row of 64, by block and row of the block. -/
theorem row64 (b : Fin 4) (j : Fin 16) : S64x128.Slices ![16 * b.val + j.val, 0] S1x128 := by revert b j; decide

/-- One rank-one update of a block of sixteen rows: position `j` of the block, added to the rows from `j` on. -/
def upd (b : Fin 4) (j : Fin 16) (qb bb : FVec F S16x128 .f32) (k v : FVec F S64x128 .f32) (acc : FVec F S16x128 .f32) : FVec F S16x128 .f32 :=
  addf acc (mulf (broadcastTo S16x128 (shapeCast S16x1 (multiReduction .add [1] S16 (mulf (mulf qb (broadcastTo S16x128 (extractStridedSlice S1x128 ![16 * b.val + j.val, 0] k (row64 b j)) broadcasts_S1x128_S16x128)) (exp (select (cmpi .sge (iota .tc S16x128 32 [0] iota_S16x128_d0_w32) (broadcast S16x128 (BitVec.ofNat 32 j.val))) (subf bb (broadcastTo S16x128 (extractStridedSlice S1x128 ![j.val, 0] bb (row16 j)) broadcasts_S1x128_S16x128)) (broadcast S16x128 (Scalar.ofBits .f32 0xFF800000#32))))) 0x00000000#32 reduces_S16x128_S16 (.inl rfl) rfl) shapeCasts_S16_S16x1) broadcasts_S16x1_S16x128) (broadcastTo S16x128 (extractStridedSlice S1x128 ![16 * b.val + j.val, 0] v (row64 b j)) broadcasts_S1x128_S16x128))

/-- The first `n` updates of a block. -/
def chain (b : Fin 4) (qb bb : FVec F S16x128 .f32) (k v : FVec F S64x128 .f32) (acc : FVec F S16x128 .f32) : (n : ℕ) → n ≤ 16 → FVec F S16x128 .f32
  | 0, _ => acc
  | n + 1, h => upd b ⟨n, h⟩ qb bb k v (chain b qb bb k v acc n (Nat.le_of_succ_le h))

/-- The part of the fourth block's rows from the three blocks before it, over the part from the state. -/
def acc3 (q k b x : FVec F S64x128 .f32) (v : FVec F S64x128 .bf16) : FVec F S16x128 .f32 :=
  addf (k0_pay66 x) (matmul dot_S16x48_S48x128_S16x128_1_0_0_1_n_n none (truncf .bf16 (matmul dot_S16x128_S48x128_S16x48_1_1_0_0_n_n none (k0_pay68 q b) (truncf .bf16 (mulf (k0_pay69 k) (exp (subf (broadcastTo S48x128 (k0_pay67 b) broadcasts_S1x128_S48x128) (k0_pay70 b)))) bitsLt_bf16_f32) (constant S16x48 .f32 0x00000000#32)) bitsLt_bf16_f32) (extractStridedSlice S48x128 ![0, 0] v slices_S64x128_o0_0_S48x128) (constant S16x128 .f32 0x00000000#32))

/-- The four blocks of the rows, before the norm. -/
def o0 (q k b x v : FVec F S64x128 .f32) : FVec F S16x128 .f32 :=
  chain 0 (k0_pay11 q) (extractStridedSlice S16x128 ![0, 0] b slices_S64x128_o0_0_S16x128) k v (extractStridedSlice S16x128 ![0, 0] x slices_S64x128_o0_0_S16x128) 16 (Nat.le_refl _)
def o1 (q k b x v : FVec F S64x128 .f32) : FVec F S16x128 .f32 :=
  chain 1 (k0_pay29 q) (k0_pay30 b) k v (k0_pay31 q k b x (k0_pay10 v)) 16 (Nat.le_refl _)
def o2 (q k b x v : FVec F S64x128 .f32) : FVec F S16x128 .f32 :=
  chain 2 (k0_pay47 q) (k0_pay48 b) k v (k0_pay49 q k b x (k0_pay10 v)) 16 (Nat.le_refl _)
def o3 (q k b x v : FVec F S64x128 .f32) : FVec F S16x128 .f32 :=
  chain 3 (k0_pay64 q) (k0_pay65 b) k v (acc3 q k b x (k0_pay10 v)) 16 (Nat.le_refl _)

/-- The 64 rows over their norm. -/
def fin (o : FVec F S64x128 .f32) : FVec F S64x128 .f32 :=
  mulf o (broadcastTo S64x128 (rsqrt (addf (divf (shapeCast S64x1 (multiReduction .add [1] S64 (mulf o o) 0x00000000#32 reduces_S64x128_S64 (.inl rfl) rfl) shapeCasts_S64_S64x1) (broadcast S64x1 (Scalar.ofBits .f32 0x43000000#32))) (broadcast S64x1 (Scalar.ofBits .f32 0x358637BD#32)))) broadcasts_S64x1_S64x128)

/-- The 64 rows before the norm. -/
def rows (q k b x v : FVec F S64x128 .f32) : FVec F S64x128 .f32 :=
  concatenate S64x128 0 [⟨S16x128, o0 q k b x v⟩, ⟨S16x128, o1 q k b x v⟩, ⟨S16x128, o2 q k b x v⟩, ⟨S16x128, o3 q k b x v⟩] concatenates_S16x128_S16x128_S16x128_S16x128_S64x128_d0

/-- The state after 64 positions. -/
def stepS (f v : Vec F S64x128 .f32) (lbp : Vec F S1x2x128 .f32) (l3 : Vec F S64x192 .bf16) (S : Vec F S128x128 .f32) : Vec F S128x128 .f32 :=
  k0_pay85 S v (k0_pay7 (k0_pay6 f lbp)) (k0_pay8 (k0_pay5 l3) (k0_pay6 f lbp))

/-- The 64 rows of the result. -/
def stepY (q f v g : Vec F S64x128 .f32) (lbp : Vec F S1x2x128 .f32) (nw : Vec F S1x128 .f32) (l3 : Vec F S64x192 .bf16) (S : Vec F S128x128 .f32) : Vec F S64x128 .bf16 :=
  k0_pay2 g (fin (rows q (k0_pay7 (k0_pay6 f lbp)) (k0_pay8 (k0_pay5 l3) (k0_pay6 f lbp)) (k0_pay9 S q (k0_pay5 l3) (k0_pay6 f lbp)) v)) (k0_pay87 (k0_pay4 nw))

set_option maxHeartbeats 4000000 in
/-- The first block. -/
theorem o0_eq (q v : Vec F S64x128 .f32) (f : FVec F S64x128 .f32) (l : FVec F S64x192 .bf16) (S : Vec F S128x128 .f32) :
    k0_pay28 v (k0_pay7 f) (k0_pay11 q) (k0_pay12 l f) (k0_pay25 v (k0_pay7 f) (k0_pay11 q) (k0_pay12 l f) (iota .tc S16x128 32 [0] iota_S16x128_d0_w32) (k0_pay22 v (k0_pay7 f) (k0_pay11 q) (k0_pay12 l f) (iota .tc S16x128 32 [0] iota_S16x128_d0_w32) (k0_pay20 v (k0_pay7 f) (k0_pay11 q) (k0_pay12 l f) (iota .tc S16x128 32 [0] iota_S16x128_d0_w32) (k0_pay19 v (k0_pay7 f) (k0_pay11 q) (k0_pay12 l f) (iota .tc S16x128 32 [0] iota_S16x128_d0_w32) (k0_pay16 v (k0_pay7 f) (k0_pay11 q) (k0_pay12 l f) (iota .tc S16x128 32 [0] iota_S16x128_d0_w32) (k0_pay13 S q v l f) (k0_pay14 q f) (k0_pay15 l f)) (k0_pay17 (iota .tc S16x128 32 [0] iota_S16x128_d0_w32)) (k0_pay18 (k0_pay12 l f)) (Scalar.ofBits .f32 0xFF800000#32)) 7#32) (k0_pay21 (k0_pay7 f) (k0_pay11 q) (k0_pay12 l f) (iota .tc S16x128 32 [0] iota_S16x128_d0_w32))) (k0_pay23 (k0_pay12 l f) (iota .tc S16x128 32 [0] iota_S16x128_d0_w32)) (k0_pay24 (k0_pay7 f))) (k0_pay26 (iota .tc S16x128 32 [0] iota_S16x128_d0_w32)) (k0_pay27 (k0_pay12 l f)) = o0 q (k0_pay7 f) (k0_pay8 l f) (k0_pay9 S q l f) v := rfl

set_option maxHeartbeats 4000000 in
/-- The next block. -/
theorem o1_eq (q v : Vec F S64x128 .f32) (k b x : FVec F S64x128 .f32) :
    k0_pay46 v k (k0_pay29 q) (k0_pay30 b) (iota .tc S16x128 32 [0] iota_S16x128_d0_w32) (k0_pay43 v k (k0_pay29 q) (k0_pay30 b) (iota .tc S16x128 32 [0] iota_S16x128_d0_w32) (k0_pay41 v k (k0_pay29 q) (k0_pay30 b) (iota .tc S16x128 32 [0] iota_S16x128_d0_w32) (k0_pay40 v k (k0_pay29 q) (k0_pay30 b) (iota .tc S16x128 32 [0] iota_S16x128_d0_w32) (k0_pay37 v k (k0_pay29 q) (k0_pay30 b) (iota .tc S16x128 32 [0] iota_S16x128_d0_w32) (k0_pay34 v k (k0_pay29 q) (k0_pay30 b) (k0_pay31 q k b x (k0_pay10 v)) (iota .tc S16x128 32 [0] iota_S16x128_d0_w32) (k0_pay32 v) (k0_pay33 q k b)) (k0_pay35 k (k0_pay29 q)) (k0_pay36 (k0_pay30 b) (iota .tc S16x128 32 [0] iota_S16x128_d0_w32))) (k0_pay38 (iota .tc S16x128 32 [0] iota_S16x128_d0_w32)) (k0_pay39 (k0_pay30 b)) (Scalar.ofBits .f32 0xFF800000#32)) 9#32) (k0_pay42 k (k0_pay29 q) (k0_pay30 b) (iota .tc S16x128 32 [0] iota_S16x128_d0_w32))) (k0_pay44 (k0_pay30 b) (iota .tc S16x128 32 [0] iota_S16x128_d0_w32)) (k0_pay45 k) = o1 q k b x v := rfl

set_option maxHeartbeats 4000000 in
/-- The next block. -/
theorem o2_eq (q v : Vec F S64x128 .f32) (k b x : FVec F S64x128 .f32) :
    k0_pay63 v k (k0_pay47 q) (k0_pay48 b) (iota .tc S16x128 32 [0] iota_S16x128_d0_w32) (k0_pay61 v k (k0_pay47 q) (k0_pay48 b) (iota .tc S16x128 32 [0] iota_S16x128_d0_w32) (k0_pay60 v k (k0_pay47 q) (k0_pay48 b) (iota .tc S16x128 32 [0] iota_S16x128_d0_w32) (k0_pay57 v k (k0_pay47 q) (k0_pay48 b) (iota .tc S16x128 32 [0] iota_S16x128_d0_w32) (k0_pay54 v k (k0_pay47 q) (k0_pay48 b) (iota .tc S16x128 32 [0] iota_S16x128_d0_w32) (k0_pay51 v k (k0_pay47 q) (k0_pay48 b) (k0_pay49 q k b x (k0_pay10 v)) (iota .tc S16x128 32 [0] iota_S16x128_d0_w32) k0_pay50) (k0_pay52 v) (k0_pay53 k (k0_pay47 q) (k0_pay48 b) (iota .tc S16x128 32 [0] iota_S16x128_d0_w32))) (k0_pay55 k (k0_pay47 q)) (k0_pay56 (k0_pay48 b) (iota .tc S16x128 32 [0] iota_S16x128_d0_w32))) (k0_pay58 (iota .tc S16x128 32 [0] iota_S16x128_d0_w32)) (k0_pay59 (k0_pay48 b)) (Scalar.ofBits .f32 0xFF800000#32)) 11#32) (k0_pay62 k (k0_pay47 q) (k0_pay48 b) (iota .tc S16x128 32 [0] iota_S16x128_d0_w32)) = o2 q k b x v := rfl

set_option maxHeartbeats 4000000 in
/-- The last block, and the norm of the rows. -/
theorem rows_eq (q v : Vec F S64x128 .f32) (k b x : FVec F S64x128 .f32) :
    k0_pay86 v (o0 q k b x v) (o1 q k b x v) (o2 q k b x v) (k0_pay83 v k (k0_pay64 q) (k0_pay65 b) (iota .tc S16x128 32 [0] iota_S16x128_d0_w32) (k0_pay82 v k (k0_pay64 q) (k0_pay65 b) (iota .tc S16x128 32 [0] iota_S16x128_d0_w32) (k0_pay79 v k (k0_pay64 q) (k0_pay65 b) (iota .tc S16x128 32 [0] iota_S16x128_d0_w32) (k0_pay76 v k (k0_pay64 q) (k0_pay65 b) (iota .tc S16x128 32 [0] iota_S16x128_d0_w32) (k0_pay73 v k (k0_pay64 q) (k0_pay65 b) (iota .tc S16x128 32 [0] iota_S16x128_d0_w32) (k0_pay71 v k (k0_pay10 v) (k0_pay64 q) (k0_pay65 b) (k0_pay66 x) (k0_pay67 b) (k0_pay68 q b) (k0_pay69 k) (k0_pay70 b)) k0_pay72) (k0_pay74 v) (k0_pay75 k (k0_pay64 q) (k0_pay65 b) (iota .tc S16x128 32 [0] iota_S16x128_d0_w32))) (k0_pay77 k (k0_pay64 q)) (k0_pay78 (k0_pay65 b) (iota .tc S16x128 32 [0] iota_S16x128_d0_w32))) (k0_pay80 (iota .tc S16x128 32 [0] iota_S16x128_d0_w32)) (k0_pay81 (k0_pay65 b)) (Scalar.ofBits .f32 0xFF800000#32)) 13#32) (k0_pay84 k (k0_pay64 q) (k0_pay65 b) (iota .tc S16x128 32 [0] iota_S16x128_d0_w32)) = fin (rows q k b x v) := rfl

end Cert.HgrnIdeal.Hg

end
-- ==== Proof.HgIdBody.lean ====
module

public import proofs.«01_k».proof.Proof.HgIdStep
public import Idealize.ShloMosaic.Lib.Pointwise
public import Idealize.ShloMosaic.Lib.WholeRead
public import Idealize.ShloMosaic.Lib.WritesUnit

/-! The recurrence kernel's body on whole staging memrefs: the eight trips of its loop, what they leave in the result's
    buffer, and the body's triple at a first block of positions and at a later one. -/

@[expose] public section

set_option maxRecDepth 65536

noncomputable section

namespace Cert.HgrnIdeal.Hg

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame. -/
local notation "𝕄" => MT nD τ sig Unit (Elt F) ℕ (UR sig nD τ) ℕ

/-- The 64 rows of a block from row `o` on. -/
def chunk {e : EltTy} (X : Vec F S512x128 e) (o : ℕ) : Vec F S64x128 e :=
  fun y => X (ix2 ⟨(o + (y 0).val) % 512, Nat.mod_lt _ (by decide)⟩ (y 1))

/-- A load of 64 whole rows of a block. -/
theorem readAt_rows {e : EltTy} (M : Memref sig .tc .vmem S512x128 e) (h : M.IsWhole) (X : Vec F S512x128 e) (off : Fin 2 → ℕ)
    (inb : ∀ a, off a + S64x128.size a ≤ S512x128.size a) (o : ℕ) (ho : off = ![o, 0]) :
    View.readAt (Elt F) M.view (Rect.unit (s := S512x128) off S64x128.size inb).toLoadRect (h.unread X) = chunk X o := by
  subst ho
  have hb : o + 64 ≤ 512 := inb 0
  funext y
  have hy : (y 0).val < 64 := (y 0).isLt
  rw [h.readAt_unread]
  unfold chunk
  congr 1
  funext a
  match a with
  | ⟨0, _⟩ =>
    refine Fin.ext ?_
    show o + 1 * (y 0).val = (o + (y 0).val) % 512
    omega
  | ⟨1, _⟩ =>
    refine Fin.ext ?_
    show 0 + 1 * (y 1).val = (y 1).val
    omega

/-- A load of a whole buffer. -/
theorem readAt_all {S : Shape} {e : EltTy} (M : Memref sig .tc .vmem S e) (h : M.IsWhole) (X : Vec F S e) (off : Fin S.rank → ℕ)
    (inb : ∀ a, off a + S.size a ≤ S.size a) :
    View.readAt (Elt F) M.view (Rect.unit (s := S) off S.size inb).toLoadRect (h.unread X) = X := by
  funext y
  rw [h.readAt_unread]
  congr 1
  funext a
  refine Fin.ext ?_
  have h0 := inb a
  show off a + 1 * (y a).val = (y a).val
  omega

/-- A store of the whole scratch. -/
theorem writes_all (M : Memref sig .tc .vmem S128x128 .f32) (h : M.IsWhole) (f : BufTy.Contents (Elt F) M.view.ty) (X : Vec F S128x128 .f32)
    (inb : ∀ a, (![0, 0] : Fin 2 → ℕ) a + S128x128.size a ≤ S128x128.size a) (L : List (View.Piece (Elt F) S128x128 .f32)) :
    M.view.writes (Elt F) f (⟨Rect.unit (s := S128x128) ![0, 0] S128x128.size inb, X⟩ :: L) = h.unread X := by
  refine h.eq_unread (funext fun y => ?_)
  refine (View.read_writes_cons_rows_of_mem (o := 0) M.view f _ _ _ y y rfl ?_ rfl).trans rfl
  exact (Nat.zero_add _).symm

/-- The loop makes eight trips. -/
theorem t1_trips : k0_t1_loop.trips = 8 := by decide +kernel

/-- The state after the first `n` chunks of a block. -/
def foldS (x1 x2 : Vec F S512x128 .f32) (x4 : Vec F S1x2x128 .f32) (x6 : Vec F S64x192 .bf16) (S : Vec F S128x128 .f32) : ℕ → Vec F S128x128 .f32
  | 0 => S
  | n + 1 => stepS (chunk x1 (64 * n)) (chunk x2 (64 * n)) x4 x6 (foldS x1 x2 x4 x6 S n)

/-- The block of the result. -/
def OUT (x0 : Vec F S512x128 .f32) (x1 : Vec F S512x128 .f32) (x2 : Vec F S512x128 .f32) (x3 : Vec F S512x128 .f32) (x4 : Vec F S1x2x128 .f32) (x5 : Vec F S1x128 .f32) (x6 : Vec F S64x192 .bf16) (S : Vec F S128x128 .f32) : Vec F S512x128 .bf16 :=
  fun y => stepY (chunk x0 (64 * ((y 0).val / 64))) (chunk x1 (64 * ((y 0).val / 64))) (chunk x2 (64 * ((y 0).val / 64))) (chunk x3 (64 * ((y 0).val / 64))) x4 x5 x6
    (foldS x1 x2 x4 x6 S ((y 0).val / 64)) (ix2 ⟨(y 0).val % 64, Nat.mod_lt _ (by decide)⟩ (y 1))

section
variable (𝒱 : Variants) (c : Dev nD) (bd : Option 𝒱.V) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x128 .f32) (harg7 : arg7.IsWhole) (arg8 : Memref sig .tc .vmem S1x128 .f32) (harg8 : arg8.IsWhole) (arg9 : Memref sig .tc .vmem S64x192 .bf16) (harg9 : arg9.IsWhole) (arg10 : Memref sig .tc .vmem S512x128 .bf16) (harg10 : arg10.IsWhole) (arg11 : Memref sig .tc .vmem S128x128 .f32) (harg11 : arg11.IsWhole)
  (x0 : Vec F S512x128 .f32) (x1 : Vec F S512x128 .f32) (x2 : Vec F S512x128 .f32) (x3 : Vec F S512x128 .f32) (x4 : Vec F S1x2x128 .f32) (x5 : Vec F S1x128 .f32) (x6 : Vec F S64x192 .bf16) (S : Vec F S128x128 .f32)

/-- The state one trip yields. -/
theorem tripR_eq (k : Fin k0_t1_loop.trips) (acc : Vec F S128x128 .f32) :
    tripR_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) k acc
      = stepS (chunk x1 (64 * k.val)) (chunk x2 (64 * k.val)) x4 x6 acc := by
  refine Eq.trans (b := stepS (View.readAt (Elt F) arg4.view (Rect.unit (s := S512x128) (k0_off1 k) S64x128.size (k0_off1_inb k)).toLoadRect (harg4.unread x1)) (View.readAt (Elt F) arg5.view (Rect.unit (s := S512x128) (k0_off1 k) S64x128.size (k0_off1_inb k)).toLoadRect (harg5.unread x2)) (View.readAt (Elt F) arg7.view (Rect.unit (s := S1x2x128) ![0, 0, 0] S1x2x128.size inb_S1x2x128_S1x2x128_0_0_0).toLoadRect (harg7.unread x4)) (View.readAt (Elt F) arg9.view (Rect.unit (s := S64x192) ![0, 0] S64x192.size inb_S64x192_S64x192_0_0).toLoadRect (harg9.unread x6)) acc) ?_ ?_
  · unfold tripR_k0_t1 trip_k0_t1
    rfl
  rw [readAt_rows arg4 harg4 x1 _ _ (64 * k.val) (k0_off1_eq k), readAt_rows arg5 harg5 x2 _ _ (64 * k.val) (k0_off1_eq k),
    readAt_all arg7 harg7 x4, readAt_all arg9 harg9 x6]

/-- The rows one trip stores. -/
theorem tripL_eq (k : Fin k0_t1_loop.trips) (acc : Vec F S128x128 .f32) :
    tripL_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) k acc
      = [⟨Rect.unit (s := S512x128) (k0_off1 k) S64x128.size (k0_off1_inb k),
          stepY (chunk x0 (64 * k.val)) (chunk x1 (64 * k.val)) (chunk x2 (64 * k.val)) (chunk x3 (64 * k.val)) x4 x5 x6 acc⟩] := by
  refine Eq.trans (b := [⟨Rect.unit (s := S512x128) (k0_off1 k) S64x128.size (k0_off1_inb k),
      stepY (View.readAt (Elt F) arg3.view (Rect.unit (s := S512x128) (k0_off1 k) S64x128.size (k0_off1_inb k)).toLoadRect (harg3.unread x0)) (View.readAt (Elt F) arg4.view (Rect.unit (s := S512x128) (k0_off1 k) S64x128.size (k0_off1_inb k)).toLoadRect (harg4.unread x1)) (View.readAt (Elt F) arg5.view (Rect.unit (s := S512x128) (k0_off1 k) S64x128.size (k0_off1_inb k)).toLoadRect (harg5.unread x2)) (View.readAt (Elt F) arg6.view (Rect.unit (s := S512x128) (k0_off1 k) S64x128.size (k0_off1_inb k)).toLoadRect (harg6.unread x3)) (View.readAt (Elt F) arg7.view (Rect.unit (s := S1x2x128) ![0, 0, 0] S1x2x128.size inb_S1x2x128_S1x2x128_0_0_0).toLoadRect (harg7.unread x4)) (View.readAt (Elt F) arg8.view (Rect.unit (s := S1x128) ![0, 0] S1x128.size inb_S1x128_S1x128_0_0).toLoadRect (harg8.unread x5)) (View.readAt (Elt F) arg9.view (Rect.unit (s := S64x192) ![0, 0] S64x192.size inb_S64x192_S64x192_0_0).toLoadRect (harg9.unread x6)) acc⟩]) ?_ ?_
  · unfold tripL_k0_t1 trip_k0_t1
    rfl
  rw [readAt_rows arg3 harg3 x0 _ _ (64 * k.val) (k0_off1_eq k), readAt_rows arg4 harg4 x1 _ _ (64 * k.val) (k0_off1_eq k), readAt_rows arg5 harg5 x2 _ _ (64 * k.val) (k0_off1_eq k),
    readAt_rows arg6 harg6 x3 _ _ (64 * k.val) (k0_off1_eq k),
    readAt_all arg7 harg7 x4, readAt_all arg8 harg8 x5, readAt_all arg9 harg9 x6]

/-- The state and the rows after the first `n` trips. -/
theorem st_eq (f10 : BufTy.Contents (Elt F) arg10.view.ty) : ∀ n : ℕ, n ≤ k0_t1_loop.trips →
    (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) S n).1 = foldS x1 x2 x4 x6 S n
      ∧ ∀ y : S512x128.Idx, (y 0).val < 64 * n →
        arg10.view.read (Elt F) (arg10.view.writes (Elt F) f10 (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) S n).2) y
          = OUT x0 x1 x2 x3 x4 x5 x6 S y
  | 0, _ => ⟨rfl, fun y hy => absurd hy (by omega)⟩
  | n + 1, hn => by
    have ih := st_eq f10 n (by omega)
    rw [show n + 1 = (⟨n, hn⟩ : Fin k0_t1_loop.trips).val + 1 from rfl, st_k0_t1_succ]
    have e1 := tripR_eq 𝒱 c bd i arg3 harg3 arg4 harg4 arg5 harg5 arg6 harg6 arg7 harg7 arg8 harg8 arg9 harg9 arg10 harg10 arg11 harg11 x0 x1 x2 x3 x4 x5 x6 ⟨n, hn⟩
    have e2 := tripL_eq 𝒱 c bd i arg3 harg3 arg4 harg4 arg5 harg5 arg6 harg6 arg7 harg7 arg8 harg8 arg9 harg9 arg10 harg10 arg11 harg11 x0 x1 x2 x3 x4 x5 x6 ⟨n, hn⟩
    rw [e1, e2]
    dsimp only [List.cons_append, List.nil_append]
    rw [ih.1]
    refine ⟨rfl, fun y hy => ?_⟩
    by_cases hlt : (y 0).val < 64 * n
    · rw [← ih.2 y hlt]
      exact View.read_writes_cons_rows_of_not_mem arg10.view f10 _ _ _ y (k0_off1_eq ⟨n, hn⟩) rfl (Or.inl hlt)
    · have hd : (y 0).val / 64 = n := by omega
      have hx : (y 0).val = 64 * n + (y 0).val % 64 := by omega
      refine (View.read_writes_cons_rows_of_mem arg10.view f10 _ _ _ y (ix2 ⟨(y 0).val % 64, Nat.mod_lt _ (by decide)⟩ (y 1)) (k0_off1_eq ⟨n, hn⟩) hx rfl).trans ?_
      unfold OUT
      rw [hd]
      rfl

/-- The state after the loop. -/
theorem st_state : (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) S k0_t1_loop.trips).1 = foldS x1 x2 x4 x6 S 8 :=
  ((st_eq 𝒱 c bd i arg3 harg3 arg4 harg4 arg5 harg5 arg6 harg6 arg7 harg7 arg8 harg8 arg9 harg9 arg10 harg10 arg11 harg11 x0 x1 x2 x3 x4 x5 x6 S (harg10.unread (OUT x0 x1 x2 x3 x4 x5 x6 S)) _ (Nat.le_refl _)).1).trans (by rw [t1_trips])

/-- The result's buffer after the loop. -/
theorem st_rows (f10 : BufTy.Contents (Elt F) arg10.view.ty) :
    arg10.view.read (Elt F) (arg10.view.writes (Elt F) f10 (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) S k0_t1_loop.trips).2) = OUT x0 x1 x2 x3 x4 x5 x6 S :=
  funext fun y => (st_eq 𝒱 c bd i arg3 harg3 arg4 harg4 arg5 harg5 arg6 harg6 arg7 harg7 arg8 harg8 arg9 harg9 arg10 harg10 arg11 harg11 x0 x1 x2 x3 x4 x5 x6 S f10 _ (Nat.le_refl _)).2 y (by rw [t1_trips]; exact (y 0).isLt)

/-- The same from any value that is the state. -/
theorem st_rows_of (f10 : BufTy.Contents (Elt F) arg10.view.ty) (S' : Vec F S128x128 .f32) (h : S' = S) :
    arg10.view.read (Elt F) (arg10.view.writes (Elt F) f10 (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) S' k0_t1_loop.trips).2) = OUT x0 x1 x2 x3 x4 x5 x6 S := by
  subst h
  exact st_rows 𝒱 c bd i arg3 harg3 arg4 harg4 arg5 harg5 arg6 harg6 arg7 harg7 arg8 harg8 arg9 harg9 arg10 harg10 arg11 harg11 x0 x1 x2 x3 x4 x5 x6 S' f10

theorem st_scratch_of (f11 : BufTy.Contents (Elt F) arg11.view.ty) (L : List (View.Piece (Elt F) S128x128 .f32)) (S' : Vec F S128x128 .f32) (h : S' = S) :
    arg11.view.read (Elt F) (arg11.view.writes (Elt F) f11 (⟨Rect.unit (s := S128x128) ![0, 0] S128x128.size inb_S128x128_S128x128_0_0,
      k0_pay3 (st_k0_t1 (F := F) 𝒱 c bd i arg3 harg3 arg4 harg4 arg5 harg5 arg6 harg6 arg7 harg7 arg8 harg8 arg9 harg9 arg10 harg10 arg11 harg11 (harg3.unread x0) (harg4.unread x1) (harg5.unread x2) (harg6.unread x3) (harg7.unread x4) (harg8.unread x5) (harg9.unread x6) S' k0_t1_loop.trips).1⟩ :: L)) = k0_pay3 (foldS x1 x2 x4 x6 S 8) := by
  subst h
  rw [st_state 𝒱 c bd i arg3 harg3 arg4 harg4 arg5 harg5 arg6 harg6 arg7 harg7 arg8 harg8 arg9 harg9 arg10 harg10 arg11 harg11 x0 x1 x2 x3 x4 x5 x6 S', writes_all arg11 harg11]
  exact harg11.read_unread _

end

/-- The body at a later block of positions: the loop starts from the state the scratch holds. -/
theorem bodyB (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x128 .f32) (harg7 : arg7.IsWhole) (arg8 : Memref sig .tc .vmem S1x128 .f32) (harg8 : arg8.IsWhole) (arg9 : Memref sig .tc .vmem S64x192 .bf16) (harg9 : arg9.IsWhole) (arg10 : Memref sig .tc .vmem S512x128 .bf16) (harg10 : arg10.IsWhole) (arg11 : Memref sig .tc .vmem S128x128 .f32) (harg11 : arg11.IsWhole) (hc0 : ¬ cond0_0 i)
    (x0 : Vec F S512x128 .f32) (x1 : Vec F S512x128 .f32) (x2 : Vec F S512x128 .f32) (x3 : Vec F S512x128 .f32) (x4 : Vec F S1x2x128 .f32) (x5 : Vec F S1x128 .f32) (x6 : Vec F S64x192 .bf16) (S : Vec F S128x128 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare S
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (OUT x0 x1 x2 x3 x4 x5 x6 S) ∗ owns (c : Thread nD τ) arg11 fullShare (k0_pay3 (foldS x1 x2 x4 x6 S 8))) -∗ K ⟨⟩))
          ⊢ wp frame (wpE (defs₀ (F := F)) Variants.none c none) E (cc0__hgrn_body i arg3 harg3 arg4 harg4 arg5 harg5 arg6 harg6 arg7 harg7 arg8 harg8 arg9 harg9 arg10 harg10 arg11 harg11) K := by
  simp only [cc0__hgrn_body_eq_skeleton]; unfold cc0__hgrn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    rw [show View.readAt (Elt F) arg11.view (Rect.unit (s := S128x128) ![0, 0] S128x128.size inb_S128x128_S128x128_0_0).toLoadRect _ = S from (readAt_all arg11 harg11 S _ _)]
    exact st_rows Variants.none c none i arg3 harg3 arg4 harg4 arg5 harg5 arg6 harg6 arg7 harg7 arg8 harg8 arg9 harg9 arg10 harg10 arg11 harg11 x0 x1 x2 x3 x4 x5 x6 S f7
  iexists _; isplitr; swap; · iexact HS0
  ipureintro
  rw [show View.readAt (Elt F) arg11.view (Rect.unit (s := S128x128) ![0, 0] S128x128.size inb_S128x128_S128x128_0_0).toLoadRect _ = S from (readAt_all arg11 harg11 S _ _),
    st_state Variants.none c none i arg3 harg3 arg4 harg4 arg5 harg5 arg6 harg6 arg7 harg7 arg8 harg8 arg9 harg9 arg10 harg10 arg11 harg11 x0 x1 x2 x3 x4 x5 x6 S, writes_all arg11 harg11]
  exact harg11.read_unread _

/-- The body at a first block of positions: the loop starts from zero. -/
theorem bodyA (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x128 .f32) (harg7 : arg7.IsWhole) (arg8 : Memref sig .tc .vmem S1x128 .f32) (harg8 : arg8.IsWhole) (arg9 : Memref sig .tc .vmem S64x192 .bf16) (harg9 : arg9.IsWhole) (arg10 : Memref sig .tc .vmem S512x128 .bf16) (harg10 : arg10.IsWhole) (arg11 : Memref sig .tc .vmem S128x128 .f32) (harg11 : arg11.IsWhole) (hc0 : cond0_0 i)
    (x0 : Vec F S512x128 .f32) (x1 : Vec F S512x128 .f32) (x2 : Vec F S512x128 .f32) (x3 : Vec F S512x128 .f32) (x4 : Vec F S1x2x128 .f32) (x5 : Vec F S1x128 .f32) (x6 : Vec F S64x192 .bf16)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (OUT x0 x1 x2 x3 x4 x5 x6 (k0_pay1 (F := F))) ∗ owns (c : Thread nD τ) arg11 fullShare (k0_pay3 (foldS x1 x2 x4 x6 (k0_pay1 (F := F)) 8))) -∗ K ⟨⟩))
          ⊢ wp frame (wpE (defs₀ (F := F)) Variants.none c none) E (cc0__hgrn_body i arg3 harg3 arg4 harg4 arg5 harg5 arg6 harg6 arg7 harg7 arg8 harg8 arg9 harg9 arg10 harg10 arg11 harg11) K := by
  simp only [cc0__hgrn_body_eq_skeleton]; unfold cc0__hgrn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact st_rows_of Variants.none c none i arg3 harg3 arg4 harg4 arg5 harg5 arg6 harg6 arg7 harg7 arg8 harg8 arg9 harg9 arg10 harg10 arg11 harg11 x0 x1 x2 x3 x4 x5 x6 (k0_pay1 (F := F)) f7 _ ((congrArg (View.readAt (Elt F) arg11.view (Rect.unit (s := S128x128) ![0, 0] S128x128.size inb_S128x128_S128x128_0_0).toLoadRect) (writes_all arg11 harg11 arg11.view.junk (k0_pay1 (F := F)) inb_S128x128_S128x128_0_0 [])).trans (readAt_all arg11 harg11 (k0_pay1 (F := F)) ![0, 0] inb_S128x128_S128x128_0_0))
  iexists _; isplitr; swap; · iexact HS0
  ipureintro
  exact st_scratch_of Variants.none c none i arg3 harg3 arg4 harg4 arg5 harg5 arg6 harg6 arg7 harg7 arg8 harg8 arg9 harg9 arg10 harg10 arg11 harg11 x0 x1 x2 x3 x4 x5 x6 (k0_pay1 (F := F)) _ _ _ ((congrArg (View.readAt (Elt F) arg11.view (Rect.unit (s := S128x128) ![0, 0] S128x128.size inb_S128x128_S128x128_0_0).toLoadRect) (writes_all arg11 harg11 arg11.view.junk (k0_pay1 (F := F)) inb_S128x128_S128x128_0_0 [])).trans (readAt_all arg11 harg11 (k0_pay1 (F := F)) ![0, 0] inb_S128x128_S128x128_0_0))

end Cert.HgrnIdeal.Hg

end
-- ==== Proof.HgIdFrame.lean ====
module

public import proofs.«01_k».proof.Proof.HgIdBody
public import Idealize.ShloMosaic.Lib.Claim

/-! The recurrence kernel over its whole grid: what every buffer holds after each grid point, the launch, and the frame. -/

@[expose] public section

set_option maxRecDepth 16384

noncomputable section

namespace Cert.HgrnIdeal.Hg

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

variable (m : (ℓ : Loc nD τ sig) → Buf (Elt F) ℓ) (ρ : Dev nD → PrngReg)

/-! ## What the scratch buffer holds -/

/-- The state after a point, from the state before it. -/
def after1 (c : Dev nD) (t : Fin cfg0.N) (S : Vec F S128x128 .f32) : Vec F S128x128 .f32 :=
  k0_pay3 (foldS (iblk m c 1 t) (iblk m c 2 t) (iblk m c 4 t) (iblk m c 6 t) S 8)

/-- The state after point `n`: from zero at the first block of a batch row and head, else from the state the point before left. -/
def stS (c : Dev nD) : (n : ℕ) → n < cfg0.N → Vec F S128x128 .f32
  | 0, hn => after1 m c ⟨0, hn⟩ k0_pay1
  | n + 1, hn => after1 m c ⟨n + 1, hn⟩ (if (n + 1) % 8 = 0 then k0_pay1 else stS c n (Nat.lt_of_succ_lt hn))

/-- The state before point `n`. -/
def inS (c : Dev nD) (n : ℕ) (hn : n < cfg0.N) : Vec F S128x128 .f32 :=
  if n % 8 = 0 then k0_pay1 else stS m c (n - 1) (Nat.lt_of_le_of_lt (Nat.sub_le _ _) hn)

theorem stS_eq (c : Dev nD) (t : Fin cfg0.N) : stS m c t.val t.isLt = after1 m c t (inS m c t.val t.isLt) := by
  obtain ⟨n, hn⟩ := t
  cases n with
  | zero => rfl
  | succ n => rfl

theorem inS_A (c : Dev nD) (t : Fin cfg0.N) (h0 : t.val % 8 = 0) : inS m c t.val t.isLt = k0_pay1 := if_pos h0

theorem inS_B (c : Dev nD) (t : Fin cfg0.N) (h0 : ¬t.val % 8 = 0) :
    inS m c t.val t.isLt = stS m c (t.val - 1) (Nat.lt_of_le_of_lt (Nat.sub_le _ _) t.isLt) := if_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(owns (c : Thread nD τ) scM0_0 fullShare (stS m c n hn) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(owns (c : Thread nD τ) scM0_0 fullShare (stS m c n hn) ∗ (∃ r, prngReg c r)) := rfl

/-- Before a point that is not the first: the carried scratch at what the point before left. -/
theorem PhiS_pos (c : Dev nD) (n : ℕ) (h : n ≤ cfg0.N) (hz : n ≠ 0) :
    PhiS m c n h = iprop(owns (c : Thread nD τ) scM0_0 fullShare (stS m c (n - 1) (by omega)) ∗ (∃ r, prngReg c r)) := by
  cases n with
  | zero => exact absurd rfl hz
  | succ n => rfl

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUT (iblk m c 0 t) (iblk m c 1 t) (iblk m c 2 t) (iblk m c 3 t) (iblk m c 4 t) (iblk m c 5 t) (iblk m c 6 t) (inS m c t.val t.isLt)
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem after0_7 (c : Dev nD) (t : Fin cfg0.N) : (dats m 0 c).after 7 t = OUT (iblk m c 0 t) (iblk m c 1 t) (iblk m c 2 t) (iblk m c 3 t) (iblk m c 4 t) (iblk m c 5 t) (iblk m c 6 t) (inS m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point, from what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ, stS_eq m c t]
  by_cases h0 : t.val % 8 = 0
  · rw [inS_A m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun h => h0 (by rw [h])
    rw [PhiS_castSucc m c t, PhiS_pos m c _ _ hz, inS_B m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- the launch lemma's implicit arguments are found by unifying its conclusion with this one
set_option backward.isDefEq.respectTransparency.types false in
/-- The launch: the run ends with the kernel's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: every weakly fair execution terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.HgrnIdeal.Hg

end
-- ==== Proof.AttnPre.lean ====
module

public import proofs.«01_k».proof.Pre_finite_norms
public import Idealize.ShloMosaic.Lib.Claim
public import Idealize.ShloMosaic.Lib.Pipeline.ValueKit
public import Idealize.ShloMosaic.Lib.WordCmp
public import Idealize.ShloMosaic.Lib.ReduceAll

/-! The precondition of the attention: its side conditions, and what it says of each entry. -/

@[expose] public section

set_option maxRecDepth 16384

noncomputable section

namespace Cert.Pre_finite_norms

open Idealize.ShloMosaic Idealize.ShloMosaic.TcCoe Idealize.ShloMosaic.Tactic
open scoped BigOperators

theorem facts : Facts where
  bcast_S_S128 := by decide +kernel
  reducesTo_S128_S_d0 := by decide +kernel
  h_S_ := by decide +kernel

variable [Facts]
open Facts

/-- A finite absolute value is a real number's. -/
theorem real_of_lt (x : EReal) (h : max x (-x) < ⊤) : ∃ r : ℝ, x = r := by
  induction x with
  | bot => exact absurd h (by simp)
  | top => exact absurd h (by simp)
  | coe r => exact ⟨r, rfl⟩

theorem inf_top : Ideal.ofBits .f32 0x7F800000#32 = (⊤ : EReal) := by
  simp [Ideal.ofBits, Ideal.ieee]

/-- The result shape has one index. -/
theorem one_index : Subsingleton S_.Idx := ⟨fun a b => funext fun i => i.elim0⟩

theorem and_one (a b : BitVec 1) (h : IntOp.andi a b = 1#1) : a = 1#1 ∧ b = 1#1 := by
  revert a b; decide

/-- Where the test of an entry says one, the entry is real. -/
theorem test_real (x : FVec Ideal S128 .f32) (d : Fin 128)
    (h : cmpf .olt (Host.absf x) (broadcastInDim S128 ![] bcast_S_S128 (constant S_ .f32 0x7F800000#32)) (ix1 d) = 1#1) : ∃ r : ℝ, x (ix1 d) = r := by
  refine real_of_lt _ ?_
  rw [← inf_top]
  by_contra hn
  have e : cmpf .olt (Host.absf x) (broadcastInDim S128 ![] bcast_S_S128 (constant S_ .f32 0x7F800000#32)) (ix1 d) = 0#1 := by
    show BitVec.ofBool (decide (max (x (ix1 d)) (-(x (ix1 d))) < Ideal.ofBits .f32 0x7F800000#32)) = 0#1
    rw [decide_eq_false hn]; rfl
  rw [e] at h
  exact absurd h (by decide)

/-- The precondition says that every entry of the two norm weights is real. -/
theorem reals (a0 : FVec Ideal S16384x15360 .f32) (a1 a2 : FVec Ideal S128 .f32) (h : fn (F := Ideal) a0 a1 a2 = fun _ => 1#1) :
    (∀ d : Fin 128, ∃ r : ℝ, a1 (ix1 d) = r) ∧ ∀ d : Fin 128, ∃ r : ℝ, a2 (ix1 d) = r := by
  haveI := one_index
  have h0 := congrFun h (Shape.Idx.first h_S_)
  obtain ⟨l, r⟩ := and_one _ _ h0
  exact ⟨fun d => test_real a1 d (Host.reduce_andi_all _ _ _ _ _ l (ix1 d)), fun d => test_real a2 d (Host.reduce_andi_all _ _ _ _ _ r (ix1 d))⟩

end Cert.Pre_finite_norms

end
-- ==== Proof.HgPre.lean ====
module

public import proofs.«01_k».proof.Pre_finite_gates
public import proofs.«01_k».proof.Proof.AttnPre

/-! The precondition of the recurrence: its side conditions, and what it says of each entry. -/

@[expose] public section

set_option maxRecDepth 16384

noncomputable section

namespace Cert.Pre_finite_gates

open Idealize.ShloMosaic Idealize.ShloMosaic.TcCoe Idealize.ShloMosaic.Tactic
open Cert.Pre_finite_norms (real_of_lt inf_top and_one)
open scoped BigOperators

attribute [local instance] Cert.Pre_finite_norms.facts

theorem facts : Facts where
  slices_S16384x15360_S16384x3072_0_3072 := by decide +kernel
  bcast_S_S16384x3072 := by decide +kernel
  reducesTo_S16384x3072_S_d0_1 := by decide +kernel
  h_S_ := by decide +kernel
  bcast_S_S1024 := by decide +kernel
  reducesTo_S1024_S_d0 := by decide +kernel

variable [Facts]
open Facts

/-- The result shape has one index. -/
theorem one_index : Subsingleton S_.Idx := ⟨fun a b => funext fun i => i.elim0⟩

/-- Where the test of an entry says one, the entry is real. -/
theorem test_real (y : EReal) (h : BitVec.ofBool (decide (max y (-y) < Ideal.ofBits .f32 0x7F800000#32)) = 1#1) : ∃ r : ℝ, y = r := by
  refine real_of_lt _ ?_
  rw [← inf_top]
  by_contra hn
  rw [decide_eq_false hn] at h
  exact absurd h (by decide)

/-- The precondition says that every query, gate and value entry and every lower bound is real. -/
theorem reals (a0 : FVec Ideal S16384x15360 .f32) (a1 : FVec Ideal S1024 .f32) (a2 : FVec Ideal S128 .f32) (h : fn (F := Ideal) a0 a1 a2 = fun _ => 1#1) :
    (∀ (r : Fin 16384) (d : Fin 15360), 3072 ≤ d.val → d.val < 6144 → ∃ x : ℝ, a0 (ix2 r d) = x) ∧ ∀ d : Fin 1024, ∃ x : ℝ, a1 (ix1 d) = x := by
  haveI := one_index
  have h0 := congrFun h (Shape.Idx.first h_S_)
  obtain ⟨l, r⟩ := and_one _ _ h0
  refine ⟨fun i d h1 h2 => ?_, fun d => test_real _ (Host.reduce_andi_all _ _ _ _ _ r (ix1 d))⟩
  have e := Host.reduce_andi_all _ _ _ _ _ l (ix2 i ⟨d.val - 3072, by omega⟩)
  have hs : extractStridedSlice S16384x3072 ![0, 3072] a0 slices_S16384x15360_S16384x3072_0_3072 (ix2 i ⟨d.val - 3072, by omega⟩) = a0 (ix2 i d) := by
    pointwise
    refine congrArg (fun z => a0 (ix2 i z)) (Fin.ext ?_)
    show 3072 + (d.val - 3072) = d.val
    omega
  rw [← hs]
  exact test_real _ e

end Cert.Pre_finite_gates

end
-- ==== Proof.HgBlocks.lean ====
module

public import proofs.«01_k».proof.Proof.HgIdFrame
public import Idealize.ShloMosaic.Lib.Pipeline.ValueKit
public import Idealize.ShloMosaic.Lib.WordCmp

/-! The recurrence kernel's input blocks at an entry, as entries of the argument arrays. -/

@[expose] public section

set_option maxRecDepth 16384

noncomputable section

namespace Cert.HgrnIdeal.Hg

open Cert.HgrnIdeal Cert.HgrnIdeal.Gen
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Every window's block index at every grid point. -/
theorem idx : ∀ t : Fin cfg0.N, win0_0.index t = ![8 * (t.val / 64) + t.val % 8, 24 + t.val / 8 % 8]
    ∧ win0_1.index t = ![8 * (t.val / 64) + t.val % 8, 32 + t.val / 8 % 8]
    ∧ win0_2.index t = ![8 * (t.val / 64) + t.val % 8, 40 + t.val / 8 % 8]
    ∧ win0_3.index t = ![8 * (t.val / 64) + t.val % 8, 48 + t.val / 8 % 8]
    ∧ win0_4.index t = ![t.val / 8 % 8, 0, 0]
    ∧ win0_5.index t = ![0, 0]
    ∧ win0_6.index t = ![0, 0]
    ∧ win0_7.index t = ![8 * (t.val / 64) + t.val % 8, t.val / 8 % 8] :=
  (by decide +kernel : ∀ t : Fin grid0.N, _)

theorem tlt (t : Fin cfg0.N) : t.val < 256 := t.isLt

/-- The query block. -/
theorem blk0 (c : Dev nD) (t : Fin cfg0.N) (r : Fin 512) (d : Fin 128) :
    iblk m c 0 t (ix2 r d) = m ((c : Thread nD τ).loc main_arg0) (ix2 ⟨4096 * (t.val / 64) + (512 * (t.val % 8) + r.val), by have := tlt t; omega⟩ ⟨3072 + 128 * (t.val / 8 % 8) + d.val, by omega⟩) := by
  obtain ⟨e0, e1, e2, e3, e4, e5, e6, e7⟩ := idx t
  blk_ext [iblk, V, e0]

/-- The gate's block. -/
theorem blk1 (c : Dev nD) (t : Fin cfg0.N) (r : Fin 512) (d : Fin 128) :
    iblk m c 1 t (ix2 r d) = m ((c : Thread nD τ).loc main_arg0) (ix2 ⟨4096 * (t.val / 64) + (512 * (t.val % 8) + r.val), by have := tlt t; omega⟩ ⟨4096 + 128 * (t.val / 8 % 8) + d.val, by omega⟩) := by
  obtain ⟨e0, e1, e2, e3, e4, e5, e6, e7⟩ := idx t
  blk_ext [iblk, V, e1]

/-- The values' block. -/
theorem blk2 (c : Dev nD) (t : Fin cfg0.N) (r : Fin 512) (d : Fin 128) :
    iblk m c 2 t (ix2 r d) = m ((c : Thread nD τ).loc main_arg0) (ix2 ⟨4096 * (t.val / 64) + (512 * (t.val % 8) + r.val), by have := tlt t; omega⟩ ⟨5120 + 128 * (t.val / 8 % 8) + d.val, by omega⟩) := by
  obtain ⟨e0, e1, e2, e3, e4, e5, e6, e7⟩ := idx t
  blk_ext [iblk, V, e2]

/-- The output gate's block. -/
theorem blk3 (c : Dev nD) (t : Fin cfg0.N) (r : Fin 512) (d : Fin 128) :
    iblk m c 3 t (ix2 r d) = m ((c : Thread nD τ).loc main_arg0) (ix2 ⟨4096 * (t.val / 64) + (512 * (t.val % 8) + r.val), by have := tlt t; omega⟩ ⟨6144 + 128 * (t.val / 8 % 8) + d.val, by omega⟩) := by
  obtain ⟨e0, e1, e2, e3, e4, e5, e6, e7⟩ := idx t
  blk_ext [iblk, V, e3]

/-- The lower bounds. -/
abbrev A1 (c : Dev nD) : FVec Ideal S1024 .f32 := m ((c : Thread nD τ).loc main_arg1)

/-- The logarithm of the lower bound. -/
theorem blk4a (c : Dev nD) (t : Fin cfg0.N) (d : Fin 128) :
    iblk m c 4 t (ix3 0 0 d) = Ideal.log (A1 m c (ix1 ⟨128 * (t.val / 8 % 8) + d.val, by omega⟩)) := by
  obtain ⟨e0, e1, e2, e3, e4, e5, e6, e7⟩ := idx t
  have E : ((cfg0.win 4).blk t).view.emb (ix3 0 0 d) = ix3 ⟨t.val / 8 % 8, by omega⟩ 0 d := by blk_ext [e4]
  show V m c main_v4 (((cfg0.win 4).blk t).view.emb (ix3 0 0 d)) = _
  rw [E]
  entry_read
  pointwise
  refine congrArg (fun z => Ideal.log (A1 m c (ix1 z))) (Fin.ext ?_)
  show t.val / 8 % 8 * 128 + d.val = 128 * (t.val / 8 % 8) + d.val
  omega

/-- The logarithm of one less the lower bound. -/
theorem blk4b (c : Dev nD) (t : Fin cfg0.N) (d : Fin 128) :
    iblk m c 4 t (ix3 0 1 d) = Ideal.log1p (-(A1 m c (ix1 ⟨128 * (t.val / 8 % 8) + d.val, by omega⟩))) := by
  obtain ⟨e0, e1, e2, e3, e4, e5, e6, e7⟩ := idx t
  have E : ((cfg0.win 4).blk t).view.emb (ix3 0 1 d) = ix3 ⟨t.val / 8 % 8, by omega⟩ 1 d := by blk_ext [e4]
  show V m c main_v4 (((cfg0.win 4).blk t).view.emb (ix3 0 1 d)) = _
  rw [E]
  entry_read
  pointwise
  refine congrArg (fun z => Ideal.log1p (-(A1 m c (ix1 z)))) (Fin.ext ?_)
  show t.val / 8 % 8 * 128 + d.val = 128 * (t.val / 8 % 8) + d.val
  omega

/-- The norm's weight. -/
theorem blk5 (c : Dev nD) (t : Fin cfg0.N) (d : Fin 128) :
    iblk m c 5 t (ix2 0 d) = m ((c : Thread nD τ).loc main_arg2) (ix1 d) := by
  obtain ⟨e0, e1, e2, e3, e4, e5, e6, e7⟩ := idx t
  blk_simp [iblk, e5]
  entry_read
  pointwise
  blk_ext [e5]

end Cert.HgrnIdeal.Hg

end
-- ==== Proof.HgTri.lean ====
module

public import proofs.«01_k».proof.Proof.HgBlocks
public import Idealize.ShloMosaic.Lib.Pipeline.ValueKit
public import Idealize.ShloMosaic.Lib.WordCmp

/-! The recurrence kernel's triangle of ones, the block it takes prefix sums with, at an entry. -/

@[expose] public section

set_option maxRecDepth 16384

noncomputable section

namespace Cert.HgrnIdeal.Hg

open Cert.HgrnIdeal Cert.HgrnIdeal.Gen
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- The lower triangle, three times. -/
theorem blk6 (c : Dev nD) (t : Fin cfg0.N) (r : Fin 64) (x : Fin 192) :
    iblk m c 6 t (ix2 r x) = if x.val % 64 ≤ r.val then (1 : EReal) else 0 := by
  obtain ⟨e0, e1, e2, e3, e4, e5, e6, e7⟩ := idx t
  have E : ((cfg0.win 6).blk t).view.emb (ix2 r x) = ix2 r x := by blk_ext [e6]
  have hr : r.val < 64 := r.isLt
  have hx : x.val < 192 := x.isLt
  show V m c main_v13 (((cfg0.win 6).blk t).view.emb (ix2 r x)) = _
  rw [E]
  clear E e0 e1 e2 e3 e4 e5 e6 e7
  have h12 : V m c main_v12 (ix2 r ⟨x.val % 64, Nat.mod_lt _ (by decide)⟩) = (if x.val % 64 ≤ r.val then (1 : EReal) else 0) := by
    entry_read
    pointwise
    have e : IntOp.cmpi CmpIPredicate.sge (BitVec.ofNat 32 r.val) (BitVec.ofNat 32 (x.val % 64)) = if x.val % 64 ≤ r.val then 1#1 else 0#1 := by
      have hm : x.val % 64 < 64 := Nat.mod_lt _ (by decide)
      generalize x.val % 64 = y at hm ⊢
      word_cmp
      by_cases h : y ≤ r.val <;> simp [h]
    refine (congrArg (FloatOps.uitofp (F := Ideal) FTy.bf16) e).trans ?_
    by_cases h : x.val % 64 ≤ r.val
    · rw [if_pos h, if_pos h]; show (((1#1).toNat : ℝ) : EReal) = 1; norm_num
    · rw [if_neg h, if_neg h]; show (((0#1).toNat : ℝ) : EReal) = 0; norm_num
  rw [← h12]
  have h : V m c main_v13 = concatenate S64x192 1 [⟨S64x64, V m c main_v12⟩, ⟨S64x64, V m c main_v12⟩, ⟨S64x64, V m c main_v12⟩] concatenates_S64x64_S64x64_S64x64_S64x192_d1 := by
    rfl
  rw [h]
  generalize V m c main_v12 = X
  pointwise
  have hX : ∀ (y : ℕ) (h : y < 64), y = x.val % 64 → X (ix2 r ⟨y, h⟩) = X (ix2 r ⟨x.val % 64, Nat.mod_lt _ (by decide)⟩) :=
    fun y h e => congrArg (fun z => X (ix2 r z)) (Fin.ext e)
  split_ifs <;> exact hX _ _ (by omega)

end Cert.HgrnIdeal.Hg

end
-- ==== Proof.AttnMath.lean ====
module

public import Idealize.ShloMosaic.Lib.Pointwise
public import Idealize.ShloMosaic.Lib.Pipeline.ValueKit

/-! The arithmetic of stick-breaking attention, with no program in sight: the two spellings of the log-sigmoid on real
    numbers, sums over consecutive keys, and one row of weights. -/

@[expose] public section

set_option maxRecDepth 16384

noncomputable section

namespace Cert.StickBreaking

open Idealize.ShloMosaic
open scoped BigOperators

/-! ## Log-sigmoids -/

/-- `log σ(-x)` on the reals, the minimum form. -/
def lomR (x : ℝ) : ℝ := min (-x) 0 - Real.log (1 + Real.exp (-|x|))

/-- `log σ(x)` on the reals, the softplus form. -/
def lsR (x : ℝ) : ℝ := -(max (-x) 0 + Real.log (1 + Real.exp (-|x|)))

/-- `log σ(x) = x + log σ(-x)`. -/
theorem lsR_eq (x : ℝ) : lsR x = x + lomR x := by
  unfold lsR lomR
  rcases le_total x 0 with h | h
  · rw [max_eq_left (by linarith), min_eq_right (by linarith)]; ring
  · rw [max_eq_right (by linarith), min_eq_left (by linarith)]; ring

/-- The softplus form at `-x` is the minimum form. -/
theorem lsR_neg (x : ℝ) : lsR (-x) = lomR x := by
  unfold lsR lomR
  rw [abs_neg, neg_neg]
  rcases le_total x 0 with h | h
  · rw [max_eq_right h, min_eq_right (by linarith)]; ring
  · rw [max_eq_left h, min_eq_left (by linarith)]; ring

/-- The minimum form as the kernel computes it. -/
def lomE (z : EReal) : EReal := min (0 - z) 0 - Ideal.log (1 + Ideal.exp (0 - max (0 - z) (-(0 - z))))

/-- The softplus form as the reference computes it. -/
def lsE (z : EReal) : EReal := -(max (-z) 0 + Ideal.log1p (Ideal.exp (-max (-z) (- -z))))

theorem max_neg_coe (x : ℝ) : max ((-x : ℝ) : EReal) (x : EReal) = ((|x| : ℝ) : EReal) := by
  rw [max_comm, abs_eq_max_neg]; exact (EReal.coe_strictMono.monotone.map_max).symm

theorem log_exp_coe (a : ℝ) : Ideal.log (1 + Ideal.exp (a : EReal)) = ((Real.log (1 + Real.exp a) : ℝ) : EReal) := by
  have hp : 0 < 1 + Real.exp a := by positivity
  rw [Ideal.exp_coe, show (1 : EReal) + (Real.exp a : EReal) = ((1 + Real.exp a : ℝ) : EReal) from (by push_cast; rfl),
    Ideal.log_coe, if_neg (not_le.mpr hp)]

theorem lomE_coe (x : ℝ) : lomE (x : EReal) = (lomR x : EReal) := by
  unfold lomE lomR
  rw [zero_sub, neg_neg, ← EReal.coe_neg, max_neg_coe, zero_sub, ← EReal.coe_neg, log_exp_coe, EReal.coe_sub]
  congr 1

theorem lsE_coe (x : ℝ) : lsE (x : EReal) = (lsR x : EReal) := by
  unfold lsE lsR Ideal.log1p
  have hm : max ((-x : ℝ) : EReal) 0 = ((max (-x) 0 : ℝ) : EReal) := (EReal.coe_strictMono.monotone.map_max (a := -x) (b := 0)).symm
  rw [neg_neg, ← EReal.coe_neg, max_neg_coe, ← EReal.coe_neg, log_exp_coe, hm, ← EReal.coe_add, ← EReal.coe_neg]

/-! ## Sums over keys -/

/-- A sum of reals, summed as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over the 256 keys of a block, as a sum over an interval. -/
theorem sum_block {M : Type} [AddCommMonoid M] (f : ℕ → M) (o : ℕ) : ∑ c : Fin 256, f (o + c.val) = ∑ s ∈ Finset.Ico o (o + 256), f s := by
  rw [Finset.sum_Ico_eq_sum_range, Nat.add_sub_cancel_left, Finset.sum_range]

/-- A sum over the keys of a block past key `x` of it. -/
theorem sum_block_gt (f : ℕ → ℝ) (o : ℕ) (x : Fin 256) :
    ∑ c : Fin 256, (f (o + c.val) : EReal) * (if x.val < c.val then 1 else 0) = ((∑ s ∈ Finset.Ico (o + x.val + 1) (o + 256), f s : ℝ) : EReal) := by
  have h1 : ∀ c : Fin 256, (f (o + c.val) : EReal) * (if x.val < c.val then 1 else 0) = ((if o + x.val < o + c.val then f (o + c.val) else 0 : ℝ) : EReal) := by
    intro c
    by_cases h : x.val < c.val
    · rw [if_pos h, if_pos (by omega), mul_one]
    · rw [if_neg h, if_neg (by omega), mul_zero]; rfl
  rw [Finset.sum_congr rfl fun c _ => h1 c]
  rw [sum_block (fun s => ((if o + x.val < s then f s else 0 : ℝ) : EReal)) o]
  rw [← coe_sum]
  congr 1
  rw [← Finset.sum_filter]
  refine Finset.sum_congr ?_ fun _ _ => rfl
  ext s
  simp only [Finset.mem_filter, Finset.mem_Ico]
  omega

/-! ## One row of attention -/

/-- The log-one-minus-sigmoid of key `s` at query `t`, zero at a key not before it. -/
def lom (z : ℕ → ℝ) (t s : ℕ) : ℝ := if s < t then lomR (z s) else 0

/-- What the keys after `s` leave. -/
def rest (z : ℕ → ℝ) (t s : ℕ) : ℝ := ∑ s' ∈ Finset.Ico (s + 1) 4096, lom z t s'

/-- The weight of key `s` at query `t`. -/
def wt (z : ℕ → ℝ) (t s : ℕ) : EReal := if s < t then ((Real.exp (lsR (z s) + rest z t s) : ℝ) : EReal) else 0

/-- Keys past the query's block leave nothing. -/
theorem rest_eq (z : ℕ → ℝ) (t s n : ℕ) (hs : s < n) (ht : t ≤ n) (hn : n ≤ 4096) :
    rest z t s = ∑ s' ∈ Finset.Ico (s + 1) n, lom z t s' := by
  unfold rest
  rw [← Finset.sum_Ico_consecutive (lom z t) (show s + 1 ≤ n by omega) hn]
  rw [Finset.sum_eq_zero (s := Finset.Ico n 4096), add_zero]
  intro a ha
  have := (Finset.mem_Ico.mp ha).1
  unfold lom
  rw [if_neg (by omega)]

/-- A sum of weighted values over all keys is the sum over the keys up to the query's block. -/
theorem sum_wt (z : ℕ → ℝ) (v : ℕ → EReal) (t n : ℕ) (ht : t ≤ n) (hn : n ≤ 4096) :
    ∑ s ∈ Finset.Ico 0 n, wt z t s * v s = ∑ s : Fin 4096, wt z t s.val * v s.val := by
  rw [← Finset.sum_range (fun s => wt z t s * v s), Finset.range_eq_Ico, ← Finset.sum_Ico_consecutive _ (Nat.zero_le n) hn]
  rw [Finset.sum_eq_zero (s := Finset.Ico n 4096), add_zero]
  intro a ha
  have := (Finset.mem_Ico.mp ha).1
  unfold wt
  rw [if_neg (by omega), zero_mul]

/-- The kernel's exponent at a key of the block from `o`, the sum over the later keys of the blocks before it carried. -/
theorem exponent (z : ℕ → ℝ) (t o n : ℕ) (x : Fin 256) (ho : o + 256 ≤ n) (ht : t ≤ n) (hn : n ≤ 4096) (hx : o + x.val < t) :
    (z (o + x.val) : EReal) + (lom z t (o + x.val) : EReal) + ((∑ s ∈ Finset.Ico (o + x.val + 1) (o + 256), lom z t s : ℝ) : EReal)
      + ((∑ s ∈ Finset.Ico (o + 256) n, lom z t s : ℝ) : EReal) = ((lsR (z (o + x.val)) + rest z t (o + x.val) : ℝ) : EReal) := by
  have hxl : x.val < 256 := x.isLt
  rw [rest_eq z t (o + x.val) n (by omega) ht hn, ← Finset.sum_Ico_consecutive (lom z t) (show o + x.val + 1 ≤ o + 256 by omega) ho,
    lsR_eq]
  rw [show lom z t (o + x.val) = lomR (z (o + x.val)) from if_pos hx]
  simp only [← EReal.coe_add]
  congr 1
  ring

end Cert.StickBreaking

end
-- ==== Proof.HgMath.lean ====
module

public import proofs.«01_k».proof.Proof.AttnMath

/-! The arithmetic of the gated recurrence, with no program in sight: the logarithm of the gate is a real number, and the
    state carried over chunks with the rows of a chunk gives the sums over all positions up to a row's. -/

@[expose] public section

set_option maxRecDepth 16384

noncomputable section

namespace Cert.Decay

open Idealize.ShloMosaic Cert.StickBreaking
open scoped BigOperators

/-! ## The gate -/

/-- The log-sigmoid as the kernel computes it. -/
def lsK (z : EReal) : EReal := min z 0 - Ideal.log (1 + Ideal.exp (0 - max z (-z)))

theorem lsK_coe (x : ℝ) : lsK (x : EReal) = (lsR x : EReal) := by
  have h := lomE_coe (-x)
  rw [← lsR_neg, neg_neg] at h
  rw [← h]
  have e : (0 : EReal) - ((-x : ℝ) : EReal) = (x : EReal) := by
    rw [zero_sub, EReal.coe_neg, neg_neg]
  unfold lsK lomE
  rw [e]

/-- The logarithm of a sum of exponentials. -/
def laE (x y : EReal) : EReal := max x y + Ideal.log1p (Ideal.exp (-max (x - y) (-(x - y))))

/-- The same as the kernel computes it. -/
def laK (x y : EReal) : EReal := max x y + Ideal.log (1 + Ideal.exp (0 - max (x - y) (-(x - y))))

theorem laK_eq (x y : EReal) : laK x y = laE x y := by
  unfold laK laE Ideal.log1p
  rw [zero_sub]

theorem log_one : Ideal.log (1 : EReal) = 0 := by
  rw [show (1 : EReal) = ((1 : ℝ) : EReal) from rfl, Ideal.log_coe, if_neg (by norm_num), Real.log_one]; rfl

theorem laE_real (x y : ℝ) : ∃ r : ℝ, laE x y = r := by
  refine ⟨max x y + Real.log (1 + Real.exp (-|x - y|)), ?_⟩
  unfold laE Ideal.log1p
  have hm : max (x : EReal) (y : EReal) = ((max x y : ℝ) : EReal) := (EReal.coe_strictMono.monotone.map_max (a := x) (b := y)).symm
  rw [hm, ← EReal.coe_sub, ← EReal.coe_neg, max_comm (((x - y : ℝ)) : EReal), max_neg_coe, ← EReal.coe_neg, log_exp_coe, EReal.coe_add]

theorem laE_bot_left (y : ℝ) : laE ⊥ y = y := by
  unfold laE Ideal.log1p
  rw [EReal.bot_sub, EReal.neg_bot, max_eq_right bot_le, max_eq_right bot_le, EReal.neg_top]
  rw [show Ideal.exp ⊥ = 0 from rfl, add_zero, log_one, add_zero]

theorem laE_bot_right (x : ℝ) : laE x ⊥ = x := by
  unfold laE Ideal.log1p
  rw [EReal.coe_sub_bot, max_eq_left bot_le, max_eq_left (le_top), EReal.neg_top]
  rw [show Ideal.exp ⊥ = 0 from rfl, add_zero, log_one, add_zero]

/-- The logarithm of the gate is real for a real lower bound and a real gate entry. -/
theorem gate_real (l f : ℝ) : ∃ r : ℝ, laE (Ideal.log (l : EReal)) (Ideal.log1p (-(l : EReal)) + (lsR f : EReal)) = r := by
  have hp : (1 : EReal) + -(l : EReal) = ((1 - l : ℝ) : EReal) := by
    rw [sub_eq_add_neg, EReal.coe_add, EReal.coe_neg]; rfl
  unfold Ideal.log1p
  rw [hp, Ideal.log_coe, Ideal.log_coe]
  by_cases h0 : l ≤ 0
  · rw [if_pos h0, if_neg (by linarith), ← EReal.coe_add]
    exact ⟨_, laE_bot_left _⟩
  · rw [if_neg h0]
    by_cases h1 : 1 - l ≤ 0
    · rw [if_pos h1, EReal.bot_add]
      exact ⟨_, laE_bot_right _⟩
    · rw [if_neg h1, ← EReal.coe_add]
      exact laE_real _ _

/-! ## Pushing reals through -/

/-- The exponential of a masked exponent. -/
theorem exp_if (p : Prop) [Decidable p] (x y : ℝ) : Ideal.exp (if p then (x : EReal) - (y : EReal) else ⊥) = ((if p then Real.exp (x - y) else 0 : ℝ) : EReal) := by
  by_cases h : p
  · rw [if_pos h, if_pos h, ← EReal.coe_sub, Ideal.exp_coe]
  · rw [if_neg h, if_neg h]; rfl

/-- A sum of reals up to a bound. -/
theorem sum_if_le (f : ℕ → ℝ) (n r : ℕ) (h : r < n) : ∑ j ∈ Finset.range n, (if j ≤ r then f j else 0) = ∑ j ∈ Finset.range (r + 1), f j := by
  rw [← Finset.sum_filter]
  refine Finset.sum_congr ?_ fun _ _ => rfl
  ext s
  simp only [Finset.mem_filter, Finset.mem_range]
  omega

/-- A decayed product of a query with a key. -/
def U (q k b : ℕ → Fin 128 → ℝ) (r j : ℕ) : ℝ := ∑ d : Fin 128, q r d * k j d * Real.exp (b r d - b j d)

/-- The rows over the blocks before: the decay split at a position between. -/
theorem inter (q k b v : ℕ → Fin 128 → ℝ) (r c n : ℕ) (e : Fin 128) :
    ∑ j : Fin n, (∑ d : Fin 128, (q r d : EReal) * Ideal.exp ((b r d : EReal) - (b c d : EReal)) * ((k j.val d : EReal) * Ideal.exp ((b c d : EReal) - (b j.val d : EReal)))) * (v j.val e : EReal)
      = ((∑ j ∈ Finset.range n, U q k b r j * v j e : ℝ) : EReal) := by
  rw [← Fin.sum_univ_eq_sum_range (fun j => U q k b r j * v j e) n, coe_sum]
  refine Finset.sum_congr rfl fun j _ => ?_
  rw [EReal.coe_mul]
  congr 1
  unfold U
  rw [coe_sum]
  refine Finset.sum_congr rfl fun d _ => ?_
  simp only [← EReal.coe_sub, Ideal.exp_coe, ← EReal.coe_mul]
  congr 1
  rw [show b r d - b j.val d = (b r d - b c d) + (b c d - b j.val d) by ring, Real.exp_add]
  ring

/-! ## Chunks -/

section
variable (q k v g : ℕ → Fin 128 → ℝ)

/-- The sum of the gates' logarithms before a position. -/
def A (P : ℕ) (d : Fin 128) : ℝ := ∑ i ∈ Finset.range P, g i d

theorem A_add (P r : ℕ) (d : Fin 128) : ∑ j ∈ Finset.range r, g (P + j) d = A g (P + r) d - A g P d := by
  unfold A
  rw [Finset.sum_range_add]
  ring

/-- The state before a position. -/
def T (P : ℕ) (e d : Fin 128) : ℝ := ∑ s ∈ Finset.range P, v s e * (k s d * Real.exp (A g P d - A g (s + 1) d))

/-- The state `n` positions later. -/
theorem T_step (P n : ℕ) (e d : Fin 128) :
    T k v g P e d * Real.exp (A g (P + n) d - A g P d)
      + ∑ j ∈ Finset.range n, v (P + j) e * (k (P + j) d * Real.exp ((A g (P + n) d - A g P d) - (A g (P + j + 1) d - A g P d)))
      = T k v g (P + n) e d := by
  unfold T
  rw [Finset.sum_range_add, Finset.sum_mul]
  congr 1
  · refine Finset.sum_congr rfl fun s _ => ?_
    rw [show A g (P + n) d - A g (s + 1) d = (A g P d - A g (s + 1) d) + (A g (P + n) d - A g P d) by ring, Real.exp_add]
    ring
  · refine Finset.sum_congr rfl fun s _ => ?_
    rw [show (A g (P + n) d - A g P d) - (A g (P + s + 1) d - A g P d) = A g (P + n) d - A g (P + s + 1) d by ring]

/-- A query's product with an earlier key. -/
def W (t s : ℕ) : ℝ := ∑ d : Fin 128, q t d * k s d * Real.exp (A g (t + 1) d - A g (s + 1) d)

/-- One row: the part from the state and the part from the chunk. -/
theorem row (P r : ℕ) (e : Fin 128) :
    (∑ d : Fin 128, q (P + r) d * Real.exp (A g (P + r + 1) d - A g P d) * T k v g P e d)
      + ∑ j ∈ Finset.range (r + 1), U (fun i => q (P + i)) (fun i => k (P + i)) (fun i d => A g (P + i + 1) d - A g P d) r j * v (P + j) e
      = ∑ s ∈ Finset.range (P + r + 1), W q k g (P + r) s * v s e := by
  rw [show Finset.range (P + r + 1) = Finset.range (P + (r + 1)) from rfl, Finset.sum_range_add _ P (r + 1)]
  congr 1
  · unfold T W
    simp only [Finset.mul_sum, Finset.sum_mul]
    rw [Finset.sum_comm]
    refine Finset.sum_congr rfl fun s _ => Finset.sum_congr rfl fun d _ => ?_
    rw [show A g (P + r + 1) d - A g (s + 1) d = (A g (P + r + 1) d - A g P d) + (A g P d - A g (s + 1) d) by ring, Real.exp_add]
    ring
  · refine Finset.sum_congr rfl fun j _ => ?_
    congr 1
    unfold U W
    refine Finset.sum_congr rfl fun d _ => ?_
    congr 2
    ring

/-- A masked sum over all positions is the sum over those up to the row's. -/
theorem sum_mask (w : ℕ → ℝ) (t : ℕ) (ht : t < 4096) :
    ∑ s : Fin 4096, (if s.val ≤ t then w s.val else 0) = ∑ s ∈ Finset.range (t + 1), w s := by
  rw [Fin.sum_univ_eq_sum_range (fun s => if s ≤ t then w s else 0) 4096, sum_if_le w 4096 t ht]

end

end Cert.Decay

end
-- ==== Proof.HgEnt.lean ====
module

public import proofs.«01_k».proof.Proof.HgIdStep
public import proofs.«01_k».proof.Proof.HgMath
public import Idealize.ShloMosaic.Lib.WordCmp

/-! The recurrence kernel's arithmetic on 64 positions, at an entry. -/

@[expose] public section

set_option maxRecDepth 65536

noncomputable section

namespace Cert.HgrnIdeal.Hg

open Cert.HgrnIdeal Cert.HgrnIdeal.Gen
open Idealize.ShloMosaic Idealize.ShloMosaic.TcCoe Idealize.ShloMosaic.Tactic
open Cert.StickBreaking (coe_sum lsR)
open Cert.Decay
open scoped BigOperators

theorem ninf_bot : Ideal.ofBits .f32 0xFF800000#32 = (⊥ : EReal) := by
  simp [Ideal.ofBits, Ideal.ieee]

/-- One rank-one update's addend. -/
def term (b : Fin 4) (j : Fin 16) (qb bb : FVec Ideal S16x128 .f32) (k v : FVec Ideal S64x128 .f32) (r : Fin 16) (e : Fin 128) : EReal :=
  (∑ d : Fin 128, qb (ix2 r d) * k (ix2 ⟨16 * b.val + j.val, by omega⟩ d) * Ideal.exp (if j.val ≤ r.val then bb (ix2 r d) - bb (ix2 j d) else ⊥)) * v (ix2 ⟨16 * b.val + j.val, by omega⟩ e)

theorem sge_at (j r : Fin 16) (x y : EReal) :
    Scalar.select (IntOp.cmpi CmpIPredicate.sge (BitVec.ofNat 32 r.val) (BitVec.ofNat 32 j.val)) x y = if j.val ≤ r.val then x else y := by
  have e : IntOp.cmpi CmpIPredicate.sge (BitVec.ofNat 32 r.val) (BitVec.ofNat 32 j.val) = if j.val ≤ r.val then 1#1 else 0#1 := by
    have hr : r.val < 16 := r.isLt
    have hj : j.val < 16 := j.isLt
    word_cmp
    by_cases h : j.val ≤ r.val <;> simp [h]
  rw [e]
  by_cases h : j.val ≤ r.val
  · rw [if_pos h, if_pos h]; rfl
  · rw [if_neg h, if_neg h]; rfl

theorem upd_at (b : Fin 4) (j : Fin 16) (qb bb : FVec Ideal S16x128 .f32) (k v : FVec Ideal S64x128 .f32) (acc : FVec Ideal S16x128 .f32) (r : Fin 16) (e : Fin 128) :
    upd b j qb bb k v acc (ix2 r e) = acc (ix2 r e) + term b j qb bb k v r e := by
  unfold term
  pointwise [upd]
  simp only [sge_at, ninf_bot]

theorem pay6_at (f : Vec Ideal S64x128 .f32) (l : Vec Ideal S1x2x128 .f32) (r : Fin 64) (d : Fin 128) :
    k0_pay6 f l (ix2 r d) = laK (l (ix3 0 0 d)) (l (ix3 0 1 d) + lsK (f (ix2 r d))) := by
  pointwise [k0_pay6, laK, lsK]
  rfl

theorem pay7_at (f : FVec Ideal S64x128 .f32) (r : Fin 64) (d : Fin 128) :
    k0_pay7 f (ix2 r d) = 1 - Ideal.exp (f (ix2 r d)) := by
  pointwise [k0_pay7]

theorem pay8_at (l : FVec Ideal S64x192 .bf16) (f : FVec Ideal S64x128 .f32) (r : Fin 64) (d : Fin 128) :
    k0_pay8 l f (ix2 r d) = ∑ x : Fin 192, l (ix2 r x) * (if h : x.val < 64 then f (ix2 ⟨x.val, h⟩ d)
        else if h : x.val - 64 < 64 then f (ix2 ⟨x.val - 64, h⟩ d) - f (ix2 ⟨x.val - 64, h⟩ d)
          else f (ix2 ⟨x.val - 64 - 64, by omega⟩ d) - f (ix2 ⟨x.val - 64 - 64, by omega⟩ d) -
              (f (ix2 ⟨x.val - 64 - 64, by omega⟩ d) - f (ix2 ⟨x.val - 64 - 64, by omega⟩ d))) := by
  pointwise [k0_pay8]

theorem pay9_at (S : Vec Ideal S128x128 .f32) (q : Vec Ideal S64x128 .f32) (l : FVec Ideal S64x192 .bf16) (f : FVec Ideal S64x128 .f32) (r : Fin 64) (e : Fin 128) :
    k0_pay9 S q l f (ix2 r e) = ∑ d : Fin 128, q (ix2 r d) * Ideal.exp (k0_pay8 l f (ix2 r d)) * S (ix2 e d) := by
  unfold k0_pay9
  generalize k0_pay8 l f = B
  pointwise

theorem pay85_at (S : Vec Ideal S128x128 .f32) (v : Vec Ideal S64x128 .f32) (k b : FVec Ideal S64x128 .f32) (e d : Fin 128) :
    k0_pay85 S v k b (ix2 e d) = S (ix2 e d) * Ideal.exp (b (ix2 63 d)) + ∑ j : Fin 64, v (ix2 j e) * (k (ix2 j d) * Ideal.exp (b (ix2 63 d) - b (ix2 j d))) := by
  pointwise [k0_pay85]

theorem pay31_at (q : Vec Ideal S64x128 .f32) (k b x : FVec Ideal S64x128 .f32) (v : Vec Ideal S64x128 .f32) (r : Fin 16) (e : Fin 128) :
    k0_pay31 q k b x (k0_pay10 v) (ix2 r e) = x (ix2 ⟨16 + r.val, by omega⟩ e) + ∑ j : Fin 16, (∑ d : Fin 128, q (ix2 ⟨16 + r.val, by omega⟩ d) * Ideal.exp (b (ix2 ⟨16 + r.val, by omega⟩ d) - b (ix2 15 d)) * (k (ix2 ⟨j.val, by omega⟩ d) * Ideal.exp (b (ix2 15 d) - b (ix2 ⟨j.val, by omega⟩ d)))) * v (ix2 ⟨j.val, by omega⟩ e) := by
  pointwise [k0_pay31, k0_pay29, k0_pay30, k0_pay10]

theorem pay49_at (q : Vec Ideal S64x128 .f32) (k b x : FVec Ideal S64x128 .f32) (v : Vec Ideal S64x128 .f32) (r : Fin 16) (e : Fin 128) :
    k0_pay49 q k b x (k0_pay10 v) (ix2 r e) = x (ix2 ⟨32 + r.val, by omega⟩ e) + ∑ j : Fin 32, (∑ d : Fin 128, q (ix2 ⟨32 + r.val, by omega⟩ d) * Ideal.exp (b (ix2 ⟨32 + r.val, by omega⟩ d) - b (ix2 31 d)) * (k (ix2 ⟨j.val, by omega⟩ d) * Ideal.exp (b (ix2 31 d) - b (ix2 ⟨j.val, by omega⟩ d)))) * v (ix2 ⟨j.val, by omega⟩ e) := by
  pointwise [k0_pay49, k0_pay47, k0_pay48, k0_pay10]

theorem acc3_at (q : Vec Ideal S64x128 .f32) (k b x : FVec Ideal S64x128 .f32) (v : Vec Ideal S64x128 .f32) (r : Fin 16) (e : Fin 128) :
    acc3 q k b x (k0_pay10 v) (ix2 r e) = x (ix2 ⟨48 + r.val, by omega⟩ e) + ∑ j : Fin 48, (∑ d : Fin 128, q (ix2 ⟨48 + r.val, by omega⟩ d) * Ideal.exp (b (ix2 ⟨48 + r.val, by omega⟩ d) - b (ix2 47 d)) * (k (ix2 ⟨j.val, by omega⟩ d) * Ideal.exp (b (ix2 47 d) - b (ix2 ⟨j.val, by omega⟩ d)))) * v (ix2 ⟨j.val, by omega⟩ e) := by
  pointwise [acc3, k0_pay64, k0_pay65, k0_pay66, k0_pay67, k0_pay68, k0_pay69, k0_pay70, k0_pay10]

theorem fin_at (o : FVec Ideal S64x128 .f32) (r : Fin 64) (e : Fin 128) :
    fin o (ix2 r e) = o (ix2 r e) * Ideal.rsqrt (Ideal.div (∑ d : Fin 128, o (ix2 r d) * o (ix2 r d)) (Ideal.ofBits .f32 0x43000000#32) + Ideal.ofBits .f32 0x358637BD#32) := by
  pointwise [fin]

theorem pay2_at (g : Vec Ideal S64x128 .f32) (o : FVec Ideal S64x128 .f32) (w : Vec Ideal S1x128 .f32) (r : Fin 64) (e : Fin 128) :
    k0_pay2 g o (k0_pay87 (k0_pay4 w)) (ix2 r e) = o (ix2 r e) * w (ix2 0 e) * Ideal.div 1 (1 + Ideal.exp (0 - g (ix2 r e))) := by
  pointwise [k0_pay2, k0_pay87, k0_pay4]

/-! ## On real entries -/

/-- The lower triangle's product with real entries: the sums up to each row. -/
theorem pay8_real (l : FVec Ideal S64x192 .bf16) (f : FVec Ideal S64x128 .f32) (g : ℕ → Fin 128 → ℝ)
    (hl : ∀ (r : Fin 64) (x : Fin 192), l (ix2 r x) = if x.val % 64 ≤ r.val then (1 : EReal) else 0)
    (hf : ∀ (r : Fin 64) (d : Fin 128), f (ix2 r d) = (g r.val d : EReal)) (r : Fin 64) (d : Fin 128) :
    k0_pay8 l f (ix2 r d) = ((∑ j ∈ Finset.range (r.val + 1), g j d : ℝ) : EReal) := by
  rw [pay8_at, ← sum_if_le (fun j => g j d) 192 r.val (by omega), ← Fin.sum_univ_eq_sum_range (fun j => if j ≤ r.val then g j d else 0) 192, coe_sum]
  refine Finset.sum_congr rfl fun x _ => ?_
  have hr : r.val < 64 := r.isLt
  rw [hl]
  by_cases h : x.val < 64
  · rw [dif_pos h, hf, Nat.mod_eq_of_lt h]
    by_cases hx : x.val ≤ r.val
    · rw [if_pos hx, if_pos hx, one_mul]
    · rw [if_neg hx, if_neg hx, zero_mul]; rfl
  · rw [dif_neg h, if_neg (show ¬x.val ≤ r.val by omega)]
    by_cases h2 : x.val - 64 < 64
    · rw [dif_pos h2, hf, ← EReal.coe_sub, sub_self, EReal.coe_zero, mul_zero]
    · rw [dif_neg h2, hf, ← EReal.coe_sub, sub_self, EReal.coe_zero, sub_zero, mul_zero]

theorem pay7_real (f : FVec Ideal S64x128 .f32) (g : ℕ → Fin 128 → ℝ)
    (hf : ∀ (r : Fin 64) (d : Fin 128), f (ix2 r d) = (g r.val d : EReal)) (r : Fin 64) (d : Fin 128) :
    k0_pay7 f (ix2 r d) = ((1 - Real.exp (g r.val d) : ℝ) : EReal) := by
  rw [pay7_at, hf, Ideal.exp_coe, EReal.coe_sub]; rfl

section Rows
variable (q k b x v : FVec Ideal S64x128 .f32) (q' k' b' x' v' : ℕ → Fin 128 → ℝ)
  (hq : ∀ (r : Fin 64) (d : Fin 128), q (ix2 r d) = (q' r.val d : EReal))
  (hk : ∀ (r : Fin 64) (d : Fin 128), k (ix2 r d) = (k' r.val d : EReal))
  (hb : ∀ (r : Fin 64) (d : Fin 128), b (ix2 r d) = (b' r.val d : EReal))
  (hx : ∀ (r : Fin 64) (d : Fin 128), x (ix2 r d) = (x' r.val d : EReal))
  (hv : ∀ (r : Fin 64) (d : Fin 128), v (ix2 r d) = (v' r.val d : EReal))

include hk hv in
theorem chain_real (β : Fin 4) (qb bb acc : FVec Ideal S16x128 .f32)
    (hqb : ∀ (r : Fin 16) (d : Fin 128), qb (ix2 r d) = (q' (16 * β.val + r.val) d : EReal))
    (hbb : ∀ (r : Fin 16) (d : Fin 128), bb (ix2 r d) = (b' (16 * β.val + r.val) d : EReal))
    (r : Fin 16) (e : Fin 128) : ∀ (n : ℕ) (h : n ≤ 16), chain β qb bb k v acc n h (ix2 r e)
      = acc (ix2 r e) + ((∑ j ∈ Finset.range n, (if j ≤ r.val then U q' k' b' (16 * β.val + r.val) (16 * β.val + j) * v' (16 * β.val + j) e else 0) : ℝ) : EReal)
  | 0, h => by
    show acc (ix2 r e) = _
    rw [Finset.range_zero, Finset.sum_empty, EReal.coe_zero, add_zero]
  | n + 1, h => by
    show upd β ⟨n, h⟩ qb bb k v (chain β qb bb k v acc n (Nat.le_of_succ_le h)) (ix2 r e) = _
    rw [upd_at, chain_real β qb bb acc hqb hbb r e n, Finset.sum_range_succ, EReal.coe_add, add_assoc]
    congr 2
    unfold term U
    simp only [hqb, hbb, hk, hv, exp_if, ← EReal.coe_mul, ← coe_sum]
    congr 1
    by_cases hn : n ≤ r.val
    · simp only [if_pos hn]
    · simp only [if_neg hn, mul_zero, Finset.sum_const_zero, zero_mul]

/-- A block of sixteen rows from what the blocks before left. -/
theorem block_sum (β r : ℕ) (hr : r < 16) (f : ℕ → ℝ) (X : ℝ) :
    (X : EReal) + ((∑ j ∈ Finset.range (16 * β), f j : ℝ) : EReal) + ((∑ j ∈ Finset.range 16, (if j ≤ r then f (16 * β + j) else 0) : ℝ) : EReal)
      = ((X + ∑ j ∈ Finset.range (16 * β + r + 1), f j : ℝ) : EReal) := by
  rw [sum_if_le (fun j => f (16 * β + j)) 16 r hr, show Finset.range (16 * β + r + 1) = Finset.range (16 * β + (r + 1)) from rfl, Finset.sum_range_add _ (16 * β) (r + 1), ← EReal.coe_add, ← EReal.coe_add, add_assoc]

include hq hk hb hx hv

theorem o0_real (r : Fin 16) (e : Fin 128) :
    o0 q k b x v (ix2 r e) = ((x' (16 * 0 + r.val) e + ∑ j ∈ Finset.range (16 * 0 + r.val + 1), U q' k' b' (16 * 0 + r.val) j * v' j e : ℝ) : EReal) := by
  unfold o0
  rw [chain_real k v q' k' b' v' hk hv 0 _ _ _ (fun r d => ?_) (fun r d => ?_)]
  · rw [← block_sum 0 r.val r.isLt]
    congr 1
    rw [Nat.mul_zero, Finset.range_zero, Finset.sum_empty, EReal.coe_zero, add_zero]
    pointwise
    rw [hx]
  · pointwise [k0_pay11]
    rw [hq]
  · pointwise
    rw [hb]

theorem o1_real (r : Fin 16) (e : Fin 128) :
    o1 q k b x v (ix2 r e) = ((x' (16 * 1 + r.val) e + ∑ j ∈ Finset.range (16 * 1 + r.val + 1), U q' k' b' (16 * 1 + r.val) j * v' j e : ℝ) : EReal) := by
  unfold o1
  rw [chain_real k v q' k' b' v' hk hv 1 _ _ _ (fun r d => ?_) (fun r d => ?_)]
  · rw [← block_sum 1 r.val r.isLt, pay31_at, ← inter q' k' b' v' (16 * 1 + r.val) 15 (16 * 1) e]
    simp only [hq, hk, hb, hx, hv]
    rfl
  · pointwise [k0_pay29]
    rw [hq]
  · pointwise [k0_pay30]
    rw [hb]

theorem o2_real (r : Fin 16) (e : Fin 128) :
    o2 q k b x v (ix2 r e) = ((x' (16 * 2 + r.val) e + ∑ j ∈ Finset.range (16 * 2 + r.val + 1), U q' k' b' (16 * 2 + r.val) j * v' j e : ℝ) : EReal) := by
  unfold o2
  rw [chain_real k v q' k' b' v' hk hv 2 _ _ _ (fun r d => ?_) (fun r d => ?_)]
  · rw [← block_sum 2 r.val r.isLt, pay49_at, ← inter q' k' b' v' (16 * 2 + r.val) 31 (16 * 2) e]
    simp only [hq, hk, hb, hx, hv]
    rfl
  · pointwise [k0_pay47]
    rw [hq]
  · pointwise [k0_pay48]
    rw [hb]

theorem o3_real (r : Fin 16) (e : Fin 128) :
    o3 q k b x v (ix2 r e) = ((x' (16 * 3 + r.val) e + ∑ j ∈ Finset.range (16 * 3 + r.val + 1), U q' k' b' (16 * 3 + r.val) j * v' j e : ℝ) : EReal) := by
  unfold o3
  rw [chain_real k v q' k' b' v' hk hv 3 _ _ _ (fun r d => ?_) (fun r d => ?_)]
  · rw [← block_sum 3 r.val r.isLt, acc3_at, ← inter q' k' b' v' (16 * 3 + r.val) 47 (16 * 3) e]
    simp only [hq, hk, hb, hx, hv]
    rfl
  · pointwise [k0_pay64]
    rw [hq]
  · pointwise [k0_pay65]
    rw [hb]

/-- Every row before the norm. -/
theorem rows_real (r : Fin 64) (e : Fin 128) :
    rows q k b x v (ix2 r e) = ((x' r.val e + ∑ j ∈ Finset.range (r.val + 1), U q' k' b' r.val j * v' j e : ℝ) : EReal) := by
  have h0 := o0_real q k b x v q' k' b' x' v' hq hk hb hx hv
  have h1 := o1_real q k b x v q' k' b' x' v' hq hk hb hx hv
  have h2 := o2_real q k b x v q' k' b' x' v' hq hk hb hx hv
  have h3 := o3_real q k b x v q' k' b' x' v' hq hk hb hx hv
  unfold rows
  generalize o0 q k b x v = O0 at h0 ⊢
  generalize o1 q k b x v = O1 at h1 ⊢
  generalize o2 q k b x v = O2 at h2 ⊢
  generalize o3 q k b x v = O3 at h3 ⊢
  have hr : r.val < 64 := r.isLt
  pointwise
  by_cases c0 : r.val < 16
  · rw [dif_pos c0, h0]
    simp only [Nat.mul_zero, Nat.zero_add]
  · rw [dif_neg c0]
    by_cases c1 : r.val - 16 < 16
    · rw [dif_pos c1, h1]
      simp only [show 16 * 1 + (r.val - 16) = r.val by omega]
    · rw [dif_neg c1]
      by_cases c2 : r.val - 16 - 16 < 16
      · rw [dif_pos c2, h2]
        simp only [show 16 * 2 + (r.val - 16 - 16) = r.val by omega]
      · rw [dif_neg c2, h3]
        simp only [show 16 * 3 + (r.val - 16 - 16 - 16) = r.val by omega]

end Rows

end Cert.HgrnIdeal.Hg

end
-- ==== Proof.AttnRef.lean ====
module

public import proofs.«01_k».proof.Proof.Gen.ReferenceIdeal.Run
public import proofs.«01_k».proof.Proof.AttnMath
public import Idealize.ShloMosaic.Lib.WordCmp

/-! The reference attention's result, stage by stage, and each stage read at an entry. -/

@[expose] public section

set_option maxRecDepth 16384

noncomputable section

namespace Cert.ReferenceIdeal.Attn

open Cert.ReferenceIdeal Cert.ReferenceIdeal.Gen Cert.StickBreaking
open Idealize.ShloMosaic Idealize.ShloMosaic.TcCoe Idealize.ShloMosaic.Tactic
open scoped BigOperators

/-- A tensor of scores: batch row, head, query, key. -/
abbrev T4 := FVec Ideal S4x8x4096x4096 .f32
/-- A tensor of heads: batch row, head, position, lane. -/
abbrev H4 := FVec Ideal S4x8x4096x128 .f32

/-- The 1024 columns from `o`, head by head. -/
def heads (o : ℕ) (hs : S4x4096x15360.Slices ![0, 0, o] S4x4096x1024) (a0 : FVec Ideal S16384x15360 .f32) : H4 :=
  transpose S4x8x4096x128 [0, 2, 1, 3] (shapeCast _ (extractStridedSlice S4x4096x1024 ![0, 0, o] (shapeCast _ a0 shapeCasts_S16384x15360_S4x4096x15360) hs) shapeCasts_S4x4096x1024_S4x4096x8x128) transposes_S4x4096x8x128_S4x8x4096x128_0_2_1_3

/-- RMS norm of every head's row, times a weight. -/
def rms (x : H4) (w : FVec Ideal S128 .f32) : H4 :=
  mulf (mulf x (broadcastInDim S4x8x4096x128 ![0, 1, 2, 3] bcast_S4x8x4096x1_S4x8x4096x128_0_1_2_3 (Host.rsqrt (addf (Host.divf (broadcastInDim S4x8x4096x1 ![0, 1, 2] bcast_S4x8x4096_S4x8x4096x1_0_1_2 (Host.reduceAdd (mulf x x) (constant S_ .f32 0x00000000#32) reducesTo_S4x8x4096x128_S4x8x4096_d3 h_S_)) (broadcastInDim S4x8x4096x1 ![] bcast_S_S4x8x4096x1 (constant S_ .f32 0x43000000#32))) (broadcastInDim S4x8x4096x1 ![] bcast_S_S4x8x4096x1 (constant S_ .f32 0x358637BD#32)))))) (broadcastInDim S4x8x4096x128 ![0, 1, 2, 3] bcast_S1x1x1x128_S4x8x4096x128_0_1_2_3 (broadcastInDim S1x1x1x128 ![3] bcast_S128_S1x1x1x128_3 w))

/-- The scaled scores. -/
def scores (q k : H4) : T4 :=
  mulf (Host.dotGeneral dot_S4x8x4096x128_S4x8x4096x128_S4x8x4096x4096_3_3_2_2_01_01 none q k) (broadcastInDim S4x8x4096x4096 ![] bcast_S_S4x8x4096x4096 (constant S_ .f32 0x3DB504F3#32))

/-- The causal mask: the key is before the query. -/
def mask : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- Zero everywhere. -/
def zero4 : T4 := broadcastInDim S4x8x4096x4096 ![] bcast_S_S4x8x4096x4096 (constant (F := Ideal) S_ .f32 0x00000000#32)

/-- The logarithm of the sigmoid, as the negated softplus of the negation. -/
def logsig (x : T4) : T4 :=
  Host.negf (select (cmpf .une (subf (Host.negf x) zero4) (subf (Host.negf x) zero4)) (addf (Host.negf x) zero4) (addf (maximumf (Host.negf x) zero4) (Host.log1p (Host.exp (Host.negf (Host.absf (subf (Host.negf x) zero4)))))))

/-- The log-one-minus-sigmoids of the keys before the query. -/
def logom (z : T4) : T4 := select mask (logsig (Host.negf z)) zero4

/-- Suffix sums over the keys. -/
def suffix (x : T4) : T4 :=
  Host.reduceWindowAdd ![1, 1, 1, 4096] ![1, 1, 1, 1] ![0, 0, 0, 0] ![0, 0, 0, 4095] x (broadcastInDim S_ ![] bcast_S_S_ (constant (F := Ideal) S_ .f32 0x00000000#32)) reduceWindows_S4x8x4096x4096_S4x8x4096x4096_w1s1p0_0_w1s1p0_0_w1s1p0_0_w4096s1p0_4095 h_S_

/-- The weights. -/
def weights (z l : T4) : T4 := select mask (Host.exp (addf (logsig z) (subf (suffix l) l))) zero4

/-- The weighted values, back in rows of all heads. -/
def merged (w : T4) (v : H4) : FVec Ideal S16384x1024 .bf16 :=
  truncf .bf16 (shapeCast _ (shapeCast _ (transpose S4x4096x8x128 [0, 2, 1, 3] (Host.dotGeneral dot_S4x8x4096x4096_S4x8x4096x128_S4x8x4096x128_3_2_2_3_01_01 none w v) transposes_S4x8x4096x128_S4x4096x8x128_0_2_1_3) shapeCasts_S4x4096x8x128_S4x4096x1024) shapeCasts_S4x4096x1024_S16384x1024) bitsLt_bf16_f32

/-- The reference as a function of its arguments. -/
def REF (a0 : FVec Ideal S16384x15360 .f32) (a1 a2 : FVec Ideal S128 .f32) : FVec Ideal S16384x1024 .bf16 :=
  merged (weights (scores (rms (heads 0 slices_S4x4096x15360_S4x4096x1024_0_0_0 a0) a1) (rms (heads 1024 slices_S4x4096x15360_S4x4096x1024_0_0_1024 a0) a2))
    (logom (scores (rms (heads 0 slices_S4x4096x15360_S4x4096x1024_0_0_0 a0) a1) (rms (heads 1024 slices_S4x4096x15360_S4x4096x1024_0_0_1024 a0) a2))))
    (heads 2048 slices_S4x4096x15360_S4x4096x1024_0_0_2048 a0)

/-- The reference's run ends with its result at `REF` of the arguments. -/
theorem res_eq (m : (ℓ : Loc nD τ sig) → Buf (Elt Ideal) ℓ) (c : Dev nD) :
    Cert.ReferenceIdeal.Value.res_main_v59 m c = REF (m ((c.tc : Thread nD τ).loc main_arg0)) (m ((c.tc : Thread nD τ).loc main_arg1)) (m ((c.tc : Thread nD τ).loc main_arg2)) := rfl

/-! ## The stages at an entry -/

theorem heads_at (o : ℕ) (hs : S4x4096x15360.Slices ![0, 0, o] S4x4096x1024) (a0 : FVec Ideal S16384x15360 .f32) (ho : o ≤ 14336) (b : Fin 4) (h : Fin 8) (t : Fin 4096) (d : Fin 128) :
    heads o hs a0 (ix4 b h t d) = a0 (ix2 ⟨4096 * b.val + t.val, by omega⟩ ⟨o + 128 * h.val + d.val, by omega⟩) := by
  pointwise [heads]
  congr 2
  · exact Fin.ext (show b.val * 4096 + t.val = 4096 * b.val + t.val by omega)
  · exact Fin.ext (show o + (h.val * 128 + d.val) = o + 128 * h.val + d.val by omega)

theorem rms_at (x : H4) (w : FVec Ideal S128 .f32) (b : Fin 4) (h : Fin 8) (t : Fin 4096) (d : Fin 128) :
    rms x w (ix4 b h t d) = x (ix4 b h t d) * Ideal.rsqrt (Ideal.div (∑ e : Fin 128, x (ix4 b h t e) * x (ix4 b h t e)) (Ideal.ofBits .f32 0x43000000#32) + Ideal.ofBits .f32 0x358637BD#32) * w (ix1 d) := by
  pointwise [rms]

theorem scores_at (q k : H4) (b : Fin 4) (h : Fin 8) (t s : Fin 4096) :
    scores q k (ix4 b h t s) = (∑ d : Fin 128, q (ix4 b h t d) * k (ix4 b h s d)) * Ideal.ofBits .f32 0x3DB504F3#32 := by
  pointwise [scores]

theorem mask_at (b : Fin 4) (h : Fin 8) (t s : Fin 4096) (x y : EReal) :
    Scalar.select (mask (ix4 b h t s)) x y = if s.val < t.val then x else y := by
  have e : mask (ix4 b h t s) = if s.val < t.val then 1#1 else 0#1 := by
    pointwise [mask]
    have hs : s.val < 4096 := s.isLt
    have ht : t.val < 4096 := t.isLt
    word_cmp
    by_cases h : s.val < t.val <;> simp [h]
  rw [e]
  by_cases h : s.val < t.val
  · rw [if_pos h, if_pos h]; rfl
  · rw [if_neg h, if_neg h]; rfl

theorem logsig_at (x : T4) (i : S4x8x4096x4096.Idx) : logsig x i = lsE (x i) := by
  pointwise [logsig, zero4, lsE]
  rw [if_neg (fun h => h rfl)]
  rfl

/-- A left fold of additions is the sum. -/
theorem foldl_add {ι : Type} (L : List ι) (f : ι → EReal) (a : EReal) : L.foldl (fun r n => r + f n) a = a + (L.map f).sum := by
  induction L generalizing a with
  | nil => simp
  | cons b L ih => rw [List.foldl_cons, ih, List.map_cons, List.sum_cons, add_assoc]

theorem suffix_at (x : T4) (b : Fin 4) (h : Fin 8) (t s : Fin 4096) :
    suffix x (ix4 b h t s) = ∑ k : Fin 4096, if hk : s.val + k.val < 4096 then x (ix4 b h t ⟨s.val + k.val, hk⟩) else 0 := by
  unfold suffix Host.reduceWindowAdd
  show Ideal.hostReduceWindowAdd _ _ _ _ _ x _ (ix4 b h t s) = _
  unfold Ideal.hostReduceWindowAdd Host.reduceWindow
  dsimp only
  have h0 : broadcastInDim S_ ![] bcast_S_S_ (constant (F := Ideal) S_ FTy.f32 0#32) (Shape.Idx.first h_S_) = (0 : EReal) := Ideal.ofBits_zero .f32
  rw [foldl_add, h0, zero_add, ← Fin.sum_univ_def]
  let W : Shape := ⟨4, ![1, 1, 1, 4096]⟩
  let g : W.Idx → EReal := fun p => if hk : s.val + (p 3).val < 4096 then x (ix4 b h t ⟨s.val + (p 3).val, hk⟩) else 0
  have hg : ∀ (p : W.Idx) (inst : Decidable (∀ a : Fin 4, ![0, 0, 0, 0] a ≤ (ix4 b h t s a).val * ![1, 1, 1, 1] a + (p a).val
      ∧ (ix4 b h t s a).val * ![1, 1, 1, 1] a + (p a).val - ![0, 0, 0, 0] a < S4x8x4096x4096.size a)), (if hin : ∀ a : Fin 4, ![0, 0, 0, 0] a ≤ (ix4 b h t s a).val * ![1, 1, 1, 1] a + (p a).val
      ∧ (ix4 b h t s a).val * ![1, 1, 1, 1] a + (p a).val - ![0, 0, 0, 0] a < S4x8x4096x4096.size a
      then x (fun a => ⟨(ix4 b h t s a).val * ![1, 1, 1, 1] a + (p a).val - ![0, 0, 0, 0] a, (hin a).2⟩) else (0 : EReal)) = g p := by
    intro p inst
    have p0 : (p 0).val < 1 := (p 0).isLt
    have p1 : (p 1).val < 1 := (p 1).isLt
    have p2 : (p 2).val < 1 := (p 2).isLt
    have hb : b.val < 4 := b.isLt
    have hh : h.val < 8 := h.isLt
    have ht : t.val < 4096 := t.isLt
    by_cases hk : s.val + (p 3).val < 4096
    · rw [dif_pos, show g p = x (ix4 b h t ⟨s.val + (p 3).val, hk⟩) from dif_pos hk]
      · congr 1
        funext a
        match a with
        | ⟨0, _⟩ => exact Fin.ext (show b.val * 1 + (p 0).val - 0 = b.val by omega)
        | ⟨1, _⟩ => exact Fin.ext (show h.val * 1 + (p 1).val - 0 = h.val by omega)
        | ⟨2, _⟩ => exact Fin.ext (show t.val * 1 + (p 2).val - 0 = t.val by omega)
        | ⟨3, _⟩ => exact Fin.ext (show s.val * 1 + (p 3).val - 0 = s.val + (p 3).val by omega)
      · intro a
        match a with
        | ⟨0, _⟩ => exact ⟨Nat.zero_le _, show b.val * 1 + (p 0).val - 0 < 4 by omega⟩
        | ⟨1, _⟩ => exact ⟨Nat.zero_le _, show h.val * 1 + (p 1).val - 0 < 8 by omega⟩
        | ⟨2, _⟩ => exact ⟨Nat.zero_le _, show t.val * 1 + (p 2).val - 0 < 4096 by omega⟩
        | ⟨3, _⟩ => exact ⟨Nat.zero_le _, show s.val * 1 + (p 3).val - 0 < 4096 by omega⟩
    · rw [dif_neg, show g p = 0 from dif_neg hk]
      intro hin
      have : s.val * 1 + (p 3).val - 0 < 4096 := (hin 3).2
      omega
  refine (Finset.sum_congr rfl fun n _ => hg (W.rowMajor.symm n) _).trans ?_
  rw [Equiv.sum_comp W.rowMajor.symm g, sum_idx4]
  simp only [Fin.sum_univ_one]
  rfl

theorem merged_at (w : T4) (v : H4) (b : Fin 4) (h : Fin 8) (t : Fin 4096) (d : Fin 128) :
    merged w v (ix2 ⟨4096 * b.val + t.val, by omega⟩ ⟨128 * h.val + d.val, by omega⟩) = ∑ s : Fin 4096, w (ix4 b h t s) * v (ix4 b h s d) := by
  pointwise [merged]

end Cert.ReferenceIdeal.Attn

end
-- ==== Proof.HgRef.lean ====
module

public import proofs.«01_k».proof.Proof.Gen.HgrnRefIdeal.Run
public import proofs.«01_k».proof.Proof.AttnRef
public import proofs.«01_k».proof.Proof.HgMath

/-! The reference recurrence's result, stage by stage, and each stage read at an entry. -/

@[expose] public section

set_option maxRecDepth 16384

noncomputable section

namespace Cert.HgrnRefIdeal.Hr

open Cert.HgrnRefIdeal Cert.HgrnRefIdeal.Gen Cert.StickBreaking
open Cert.Decay (laE)
open Idealize.ShloMosaic Idealize.ShloMosaic.TcCoe Idealize.ShloMosaic.Tactic
open Cert.ReferenceIdeal.Attn (heads rms heads_at rms_at foldl_add T4 H4)
open scoped BigOperators

/-- The lower bounds, head by head. -/
def lbh (a1 : FVec Ideal S1024 .f32) : FVec Ideal S8x1x128 .f32 := shapeCast _ a1 shapeCasts_S1024_S8x1x128

/-- A row of lanes for every head, at every position. -/
def spread (x : FVec Ideal S1x8x1x128 .f32) : H4 :=
  broadcastInDim S4x8x4096x128 ![0, 1, 2, 3] bcast_S1x8x1x128_S4x8x4096x128_0_1_2_3 x

/-- Zero everywhere. -/
def zeroH : H4 := broadcastInDim S4x8x4096x128 ![] bcast_S_S4x8x4096x128 (constant (F := Ideal) S_ .f32 0x00000000#32)

/-- The logarithm of the sigmoid. -/
def logsig (x : H4) : H4 :=
  Host.negf (select (cmpf .une (subf (Host.negf x) zeroH) (subf (Host.negf x) zeroH)) (addf (Host.negf x) zeroH) (addf (maximumf (Host.negf x) zeroH) (Host.log1p (Host.exp (Host.negf (Host.absf (subf (Host.negf x) zeroH)))))))

/-- The logarithm of the gate's part above the lower bound. -/
def above (a1 : FVec Ideal S1024 .f32) (f : H4) : H4 :=
  addf (spread (broadcastInDim S1x8x1x128 ![1, 2, 3] bcast_S8x1x128_S1x8x1x128_1_2_3 (Host.log1p (Host.negf (lbh a1))))) (logsig f)

/-- The logarithm of the sum of two exponentials. -/
def logadd (x y : H4) : H4 :=
  select (cmpf .une (subf x y) (subf x y)) (addf x y) (addf (maximumf x y) (Host.log1p (Host.exp (Host.negf (Host.absf (subf x y))))))

/-- The logarithm of the gate. -/
def gate (a1 : FVec Ideal S1024 .f32) (f : H4) : H4 :=
  logadd (spread (broadcastInDim S1x8x1x128 ![1, 2, 3] bcast_S8x1x128_S1x8x1x128_1_2_3 (Host.log (lbh a1)))) (above a1 f)

/-- Sums over the positions up to each. -/
def prefixes (x : H4) : H4 :=
  Host.reduceWindowAdd ![1, 1, 4096, 1] ![1, 1, 1, 1] ![0, 0, 4095, 0] ![0, 0, 0, 0] x (broadcastInDim S_ ![] bcast_S_S_ (constant (F := Ideal) S_ .f32 0x00000000#32)) reduceWindows_S4x8x4096x128_S4x8x4096x128_w1s1p0_0_w1s1p0_0_w4096s1p4095_0_w1s1p0_0 h_S_

/-- A head's rows along the first position of a pair. -/
def fst5 (x : H4) : FVec Ideal S4x8x4096x4096x128 .f32 :=
  broadcastInDim S4x8x4096x4096x128 ![0, 1, 2, 3, 4] bcast_S4x8x4096x1x128_S4x8x4096x4096x128_0_1_2_3_4 (broadcastInDim S4x8x4096x1x128 ![0, 1, 2, 4] bcast_S4x8x4096x128_S4x8x4096x1x128_0_1_2_4 x)

/-- A head's rows along the second position of a pair. -/
def snd5 (x : H4) : FVec Ideal S4x8x4096x4096x128 .f32 :=
  broadcastInDim S4x8x4096x4096x128 ![0, 1, 2, 3, 4] bcast_S4x8x1x4096x128_S4x8x4096x4096x128_0_1_2_3_4 (broadcastInDim S4x8x1x4096x128 ![0, 1, 3, 4] bcast_S4x8x4096x128_S4x8x1x4096x128_0_1_3_4 x)

/-- The causal mask over pairs of positions. -/
def mask5 : IVec S4x8x4096x4096x128 1 :=
  broadcastInDim S4x8x4096x4096x128 ![2, 3, 4] bcast_S4096x4096x1_S4x8x4096x4096x128_2_3_4 (broadcastInDim S4096x4096x1 ![0, 1] bcast_S4096x4096_S4096x4096x1_0_1 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scores: queries against keys, each lane decayed by the gates between. -/
def scores (q k b : H4) : T4 :=
  Host.reduceAdd (mulf (mulf (fst5 q) (snd5 k)) (Host.exp (select mask5 (subf (fst5 b) (snd5 b)) (broadcastInDim S4x8x4096x4096x128 ![] bcast_S_S4x8x4096x4096x128 (id (constant S_ .f32 0xFF800000#32)))))) (constant S_ .f32 0x00000000#32) reducesTo_S4x8x4096x4096x128_S4x8x4096x4096_d4 h_S_

/-- The rows over values. -/
def mix (s : T4) (v : H4) : H4 :=
  Host.dotGeneral dot_S4x8x4096x4096_S4x8x4096x128_S4x8x4096x128_3_2_2_3_01_01 none s v

/-- The norm, the gate's sigmoid, and the rows of all heads. -/
def out (o g : H4) (w : FVec Ideal S128 .f32) : FVec Ideal S16384x1024 .bf16 :=
  truncf .bf16 (shapeCast _ (shapeCast _ (transpose S4x4096x8x128 [0, 2, 1, 3] (mulf (rms o w) (Host.divf (broadcastInDim S4x8x4096x128 ![] bcast_S_S4x8x4096x128 (constant S_ .f32 0x3F800000#32)) (addf (broadcastInDim S4x8x4096x128 ![] bcast_S_S4x8x4096x128 (constant S_ .f32 0x3F800000#32)) (Host.exp (Host.negf g))))) transposes_S4x8x4096x128_S4x4096x8x128_0_2_1_3) shapeCasts_S4x4096x8x128_S4x4096x1024) shapeCasts_S4x4096x1024_S16384x1024) bitsLt_bf16_f32

/-- The logarithm of the gate of the arguments. -/
def GT (a0 : FVec Ideal S16384x15360 .f32) (a1 : FVec Ideal S1024 .f32) : H4 :=
  gate a1 (heads 4096 slices_S4x4096x15360_S4x4096x1024_0_0_4096 a0)

/-- The rows of the arguments before the norm. -/
def MX (a0 : FVec Ideal S16384x15360 .f32) (a1 : FVec Ideal S1024 .f32) : H4 :=
  mix (scores (heads 3072 slices_S4x4096x15360_S4x4096x1024_0_0_3072 a0) (Host.negf (Host.expm1 (GT a0 a1))) (prefixes (GT a0 a1)))
    (heads 5120 slices_S4x4096x15360_S4x4096x1024_0_0_5120 a0)

/-- The reference as a function of its arguments. -/
def REF (a0 : FVec Ideal S16384x15360 .f32) (a1 : FVec Ideal S1024 .f32) (a2 : FVec Ideal S128 .f32) : FVec Ideal S16384x1024 .bf16 :=
  out (MX a0 a1) (heads 6144 slices_S4x4096x15360_S4x4096x1024_0_0_6144 a0) a2

section Run

open Idealize.SL.Sem Idealize.ShloMosaic.StableHlo

variable (m : (ℓ : Loc nD τ sig) → Buf (Elt Ideal) ℓ) (c : Dev nD)

theorem res_above : Value.res_main_v20 (launchContents m c) = above (m ((c.tc : Thread nD τ).loc main_arg1)) (heads 4096 slices_S4x4096x15360_S4x4096x1024_0_0_4096 (m ((c.tc : Thread nD τ).loc main_arg0))) := rfl

theorem res_gate : Value.res_main_v34 (launchContents m c) = GT (m ((c.tc : Thread nD τ).loc main_arg0)) (m ((c.tc : Thread nD τ).loc main_arg1)) := by
  unfold Value.res_main_v34 Value.res_main_v25
  rw [res_above]
  rfl

theorem res_mix : Value.res_main_v60 (launchContents m c) = MX (m ((c.tc : Thread nD τ).loc main_arg0)) (m ((c.tc : Thread nD τ).loc main_arg1)) := by
  unfold Value.res_main_v60 Value.res_main_v37
  rw [res_gate]
  rfl

/-- The reference's run ends with its result at `REF` of the arguments, and the arguments as they were. -/
theorem res_ref (ρ : Dev nD → PrngReg) :
    θ_run defs (onTc (τ := τ) (main (F := Ideal))) ⟨m, fun _ => 0, ρ⟩ fun r => ∀ c : Dev nD,
      r.2.mem ((c.tc : Thread nD τ).loc main_v84) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Value.run m ρ)
  rw [res_mix]
  rfl

end Run

/-! ## The stages at an entry -/

theorem logsig_at (x : H4) (i : S4x8x4096x128.Idx) : logsig x i = lsE (x i) := by
  pointwise [logsig, zeroH, lsE]
  rw [if_neg (fun h => h rfl)]
  rfl

theorem gate_at (a1 : FVec Ideal S1024 .f32) (f : H4) (b : Fin 4) (h : Fin 8) (t : Fin 4096) (d : Fin 128) :
    gate a1 f (ix4 b h t d) = laE (Ideal.log (a1 (ix1 ⟨128 * h.val + d.val, by omega⟩))) (Ideal.log1p (-(a1 (ix1 ⟨128 * h.val + d.val, by omega⟩))) + lsE (f (ix4 b h t d))) := by
  rw [← logsig_at]
  have hi : (⟨128 * h.val + d.val, by omega⟩ : Fin 1024) = ⟨h.val * 128 + d.val, by omega⟩ := Fin.ext (by show 128 * h.val + d.val = h.val * 128 + d.val; omega)
  rw [hi]
  pointwise [gate, logadd, above, spread, lbh, laE]
  rw [if_neg (fun h => h rfl)]
  rfl

theorem mask_at (b : Fin 4) (h : Fin 8) (t s : Fin 4096) (d : Fin 128) (x y : EReal) :
    Scalar.select (mask5 (ix5 b h t s d)) x y = if s.val ≤ t.val then x else y := by
  have e : mask5 (ix5 b h t s d) = if s.val ≤ t.val then 1#1 else 0#1 := by
    pointwise [mask5]
    have hs : s.val < 4096 := s.isLt
    have ht : t.val < 4096 := t.isLt
    word_cmp
    by_cases h : s.val ≤ t.val <;> simp [h]
  rw [e]
  by_cases h : s.val ≤ t.val
  · rw [if_pos h, if_pos h]; rfl
  · rw [if_neg h, if_neg h]; rfl

theorem scores_at (q k b : H4) (i : Fin 4) (h : Fin 8) (t s : Fin 4096) :
    scores q k b (ix4 i h t s) = ∑ d : Fin 128, q (ix4 i h t d) * k (ix4 i h s d) * Ideal.exp (if s.val ≤ t.val then b (ix4 i h t d) - b (ix4 i h s d) else Ideal.ofBits .f32 0xFF800000#32) := by
  have hm := mask_at i h t s
  pointwise [scores, fst5, snd5]
  refine Finset.sum_congr rfl fun d _ => ?_
  rw [hm d]
  rfl

theorem mix_at (s : T4) (v : H4) (b : Fin 4) (h : Fin 8) (t : Fin 4096) (d : Fin 128) :
    mix s v (ix4 b h t d) = ∑ u : Fin 4096, s (ix4 b h t u) * v (ix4 b h u d) := by
  pointwise [mix]

theorem out_at (o g : H4) (w : FVec Ideal S128 .f32) (b : Fin 4) (h : Fin 8) (t : Fin 4096) (d : Fin 128) :
    out o g w (ix2 ⟨4096 * b.val + t.val, by omega⟩ ⟨128 * h.val + d.val, by omega⟩) = rms o w (ix4 b h t d) * Ideal.div 1 (1 + Ideal.exp (-g (ix4 b h t d))) := by
  pointwise [out]

theorem key_at (x : H4) (i : S4x8x4096x128.Idx) : Host.negf (Host.expm1 x) i = -(Ideal.exp (x i) - 1) := by
  rfl

theorem prefix_at (x : H4) (b : Fin 4) (h : Fin 8) (t : Fin 4096) (d : Fin 128) :
    prefixes x (ix4 b h t d) = ∑ k : Fin 4096, if hk : 4095 ≤ t.val + k.val then x (ix4 b h ⟨t.val + k.val - 4095, by omega⟩ d) else 0 := by
  unfold prefixes Host.reduceWindowAdd
  show Ideal.hostReduceWindowAdd _ _ _ _ _ x _ (ix4 b h t d) = _
  unfold Ideal.hostReduceWindowAdd Host.reduceWindow
  dsimp only
  have h0 : broadcastInDim S_ ![] bcast_S_S_ (constant (F := Ideal) S_ FTy.f32 0#32) (Shape.Idx.first h_S_) = (0 : EReal) := Ideal.ofBits_zero .f32
  rw [foldl_add, h0, zero_add, ← Fin.sum_univ_def]
  let W : Shape := ⟨4, ![1, 1, 4096, 1]⟩
  let g : W.Idx → EReal := fun p => if hk : 4095 ≤ t.val + (p 2).val then x (ix4 b h ⟨t.val + (p 2).val - 4095, by have p2 : (p 2).val < 4096 := (p 2).isLt; omega⟩ d) else 0
  have hg : ∀ (p : W.Idx) (inst : Decidable (∀ a : Fin 4, ![0, 0, 4095, 0] a ≤ (ix4 b h t d a).val * ![1, 1, 1, 1] a + (p a).val
      ∧ (ix4 b h t d a).val * ![1, 1, 1, 1] a + (p a).val - ![0, 0, 4095, 0] a < S4x8x4096x128.size a)), (if hin : ∀ a : Fin 4, ![0, 0, 4095, 0] a ≤ (ix4 b h t d a).val * ![1, 1, 1, 1] a + (p a).val
      ∧ (ix4 b h t d a).val * ![1, 1, 1, 1] a + (p a).val - ![0, 0, 4095, 0] a < S4x8x4096x128.size a
      then x (fun a => ⟨(ix4 b h t d a).val * ![1, 1, 1, 1] a + (p a).val - ![0, 0, 4095, 0] a, (hin a).2⟩) else (0 : EReal)) = g p := by
    intro p inst
    have p0 : (p 0).val < 1 := (p 0).isLt
    have p1 : (p 1).val < 1 := (p 1).isLt
    have p2 : (p 2).val < 4096 := (p 2).isLt
    have p3 : (p 3).val < 1 := (p 3).isLt
    have hb : b.val < 4 := b.isLt
    have hh : h.val < 8 := h.isLt
    have ht : t.val < 4096 := t.isLt
    have hd : d.val < 128 := d.isLt
    by_cases hk : 4095 ≤ t.val + (p 2).val
    · rw [dif_pos, show g p = x (ix4 b h ⟨t.val + (p 2).val - 4095, by omega⟩ d) from dif_pos hk]
      · congr 1
        funext a
        match a with
        | ⟨0, _⟩ => exact Fin.ext (show b.val * 1 + (p 0).val - 0 = b.val by omega)
        | ⟨1, _⟩ => exact Fin.ext (show h.val * 1 + (p 1).val - 0 = h.val by omega)
        | ⟨2, _⟩ => exact Fin.ext (show t.val * 1 + (p 2).val - 4095 = t.val + (p 2).val - 4095 by omega)
        | ⟨3, _⟩ => exact Fin.ext (show d.val * 1 + (p 3).val - 0 = d.val by omega)
      · intro a
        match a with
        | ⟨0, _⟩ => exact ⟨Nat.zero_le _, show b.val * 1 + (p 0).val - 0 < 4 by omega⟩
        | ⟨1, _⟩ => exact ⟨Nat.zero_le _, show h.val * 1 + (p 1).val - 0 < 8 by omega⟩
        | ⟨2, _⟩ => exact ⟨show 4095 ≤ t.val * 1 + (p 2).val by omega, show t.val * 1 + (p 2).val - 4095 < 4096 by omega⟩
        | ⟨3, _⟩ => exact ⟨Nat.zero_le _, show d.val * 1 + (p 3).val - 0 < 128 by omega⟩
    · rw [dif_neg, show g p = 0 from dif_neg hk]
      intro hin
      have : 4095 ≤ t.val * 1 + (p 2).val := (hin 2).1
      omega
  refine (Finset.sum_congr rfl fun n _ => hg (W.rowMajor.symm n) _).trans ?_
  rw [Equiv.sum_comp W.rowMajor.symm g, sum_idx4]
  simp only [Fin.sum_univ_one]
  rfl

end Cert.HgrnRefIdeal.Hr

end
-- ==== Proof.HgValue.lean ====
module

public import proofs.«01_k».proof.Proof.HgBlocks
public import proofs.«01_k».proof.Proof.HgTri
public import proofs.«01_k».proof.Proof.HgEnt
public import proofs.«01_k».proof.Proof.HgRef

/-! The recurrence kernel's result array is the reference recurrence of its arguments, the gates being real numbers. -/

@[expose] public section

set_option maxRecDepth 16384

noncomputable section

namespace Cert.HgrnIdeal.Hg

open Cert.HgrnIdeal Cert.HgrnIdeal.Gen
open Idealize.ShloMosaic Idealize.ShloMosaic.TcCoe Idealize.ShloMosaic.Tactic Idealize.SL.Sem
open Idealize.ShloMosaic.Pipeline (Dat)
open Cert.StickBreaking (coe_sum lsR lsE lsE_coe)
open Cert.Decay
open Cert.ReferenceIdeal.Attn (heads heads_at rms rms_at)
open Cert.HgrnRefIdeal.Hr (GT MX REF gate gate_at scores scores_at mix mix_at prefixes prefix_at out out_at key_at)
open scoped BigOperators

/-! ## A chunk -/

/-- The key of a position: one less its gate. -/
def key (g : ℕ → Fin 128 → ℝ) (s : ℕ) (d : Fin 128) : ℝ := 1 - Real.exp (g s d)

section Chunk
variable (P : ℕ) (q v g : ℕ → Fin 128 → ℝ)
  (xq xf xv xg : Vec Ideal S64x128 .f32) (l : Vec Ideal S1x2x128 .f32) (w : Vec Ideal S1x128 .f32) (l3 : Vec Ideal S64x192 .bf16) (S : Vec Ideal S128x128 .f32)
  (hq : ∀ (r : Fin 64) (d : Fin 128), xq (ix2 r d) = (q (P + r.val) d : EReal))
  (hf : ∀ (r : Fin 64) (d : Fin 128), laK (l (ix3 0 0 d)) (l (ix3 0 1 d) + lsK (xf (ix2 r d))) = (g (P + r.val) d : EReal))
  (hv : ∀ (r : Fin 64) (d : Fin 128), xv (ix2 r d) = (v (P + r.val) d : EReal))
  (hl : ∀ (r : Fin 64) (x : Fin 192), l3 (ix2 r x) = if x.val % 64 ≤ r.val then (1 : EReal) else 0)
  (hS : ∀ e d : Fin 128, S (ix2 e d) = (T (key g) v g P e d : EReal))

include hf in
theorem lf_real (r : Fin 64) (d : Fin 128) : k0_pay6 xf l (ix2 r d) = (g (P + r.val) d : EReal) :=
  (pay6_at xf l r d).trans (hf r d)

include hf in
theorem k_real (r : Fin 64) (d : Fin 128) : k0_pay7 (k0_pay6 xf l) (ix2 r d) = (key g (P + r.val) d : EReal) :=
  pay7_real (k0_pay6 xf l) (fun j => g (P + j)) (lf_real P g xf l hf) r d

include hf hl in
theorem b_real (r : Fin 64) (d : Fin 128) : k0_pay8 (k0_pay5 l3) (k0_pay6 xf l) (ix2 r d) = ((A g (P + r.val + 1) d - A g P d : ℝ) : EReal) := by
  have h5 : ∀ (r : Fin 64) (x : Fin 192), k0_pay5 l3 (ix2 r x) = if x.val % 64 ≤ r.val then (1 : EReal) else 0 := by
    intro r x
    rw [← hl r x]
    pointwise [k0_pay5]
  rw [pay8_real _ _ (fun j => g (P + j)) h5 (lf_real P g xf l hf), A_add g P (r.val + 1) d]
  rfl

include hf hv hl hS in
/-- The state after a chunk. -/
theorem stepS_real (e d : Fin 128) : stepS xf xv l l3 S (ix2 e d) = (T (key g) v g (P + 64) e d : EReal) := by
  unfold stepS
  rw [pay85_at, ← T_step (key g) v g P 64 e d, hS]
  have h63 : k0_pay8 (k0_pay5 l3) (k0_pay6 xf l) (ix2 63 d) = ((A g (P + 64) d - A g P d : ℝ) : EReal) := b_real P g xf l l3 hf hl 63 d
  rw [h63, EReal.coe_add, EReal.coe_mul, Ideal.exp_coe]
  congr 1
  rw [← Fin.sum_univ_eq_sum_range (fun j => v (P + j) e * (key g (P + j) d * Real.exp ((A g (P + 64) d - A g P d) - (A g (P + j + 1) d - A g P d)))) 64, coe_sum]
  refine Finset.sum_congr rfl fun j _ => ?_
  rw [hv, k_real P g xf l hf, b_real P g xf l l3 hf hl, ← EReal.coe_sub, Ideal.exp_coe, ← EReal.coe_mul, ← EReal.coe_mul]

include hq hf hl hS in
/-- A row's part from the state. -/
theorem x_real (r : Fin 64) (e : Fin 128) : k0_pay9 S xq (k0_pay5 l3) (k0_pay6 xf l) (ix2 r e)
    = ((∑ d : Fin 128, q (P + r.val) d * Real.exp (A g (P + r.val + 1) d - A g P d) * T (key g) v g P e d : ℝ) : EReal) := by
  rw [pay9_at, coe_sum]
  refine Finset.sum_congr rfl fun d _ => ?_
  rw [hq, b_real P g xf l l3 hf hl, hS, Ideal.exp_coe, ← EReal.coe_mul, ← EReal.coe_mul]

/-- The row of position `t` before the norm. -/
def orow (t : ℕ) (e : Fin 128) : ℝ := ∑ s ∈ Finset.range (t + 1), W q (key g) g t s * v s e

include hq hf hv hl hS in
theorem chunk_rows (r : Fin 64) (e : Fin 128) :
    rows xq (k0_pay7 (k0_pay6 xf l)) (k0_pay8 (k0_pay5 l3) (k0_pay6 xf l)) (k0_pay9 S xq (k0_pay5 l3) (k0_pay6 xf l)) xv (ix2 r e) = (orow q v g (P + r.val) e : EReal) := by
  unfold orow
  rw [← row q (key g) v g P r.val e]
  exact rows_real xq _ _ _ xv (fun i => q (P + i)) (fun i => key g (P + i)) (fun i d => A g (P + i + 1) d - A g P d)
    (fun i e => ∑ d : Fin 128, q (P + i) d * Real.exp (A g (P + i + 1) d - A g P d) * T (key g) v g P e d) (fun i => v (P + i))
    hq (k_real P g xf l hf) (b_real P g xf l l3 hf hl) (x_real P q v g xq xf l l3 S hq hf hl hS) hv r e

/-- A result's entry from a row before the norm, a weight and a gate. -/
def outE (o : Fin 128 → EReal) (w g : EReal) (e : Fin 128) : EReal :=
  o e * Ideal.rsqrt (Ideal.div (∑ d : Fin 128, o d * o d) (Ideal.ofBits .f32 0x43000000#32) + Ideal.ofBits .f32 0x358637BD#32) * w * Ideal.div 1 (1 + Ideal.exp (-g))

include hq hf hv hl hS in
theorem stepY_real (r : Fin 64) (e : Fin 128) :
    stepY xq xf xv xg l w l3 S (ix2 r e) = outE (fun e => (orow q v g (P + r.val) e : EReal)) (w (ix2 0 e)) (xg (ix2 r e)) e := by
  have h := chunk_rows P q v g xq xf xv l l3 S hq hf hv hl hS r
  unfold stepY outE
  rw [pay2_at, fin_at, zero_sub]
  simp only [h]

end Chunk

/-! ## A block -/

theorem chunk_at {e : EltTy} (X : Vec Ideal S512x128 e) (n : ℕ) (hn : n < 8) (r : Fin 64) (d : Fin 128) :
    chunk X (64 * n) (ix2 r d) = X (ix2 ⟨64 * n + r.val, by omega⟩ d) :=
  congrArg (fun z => X (ix2 z d)) (Fin.ext (show (64 * n + r.val) % 512 = 64 * n + r.val by omega))

section Block
variable (P : ℕ) (q v g : ℕ → Fin 128 → ℝ)
  (x0 x1 x2 x3 : Vec Ideal S512x128 .f32) (x4 : Vec Ideal S1x2x128 .f32) (x5 : Vec Ideal S1x128 .f32) (x6 : Vec Ideal S64x192 .bf16) (S : Vec Ideal S128x128 .f32)
  (hq : ∀ (r : Fin 512) (d : Fin 128), x0 (ix2 r d) = (q (P + r.val) d : EReal))
  (hf : ∀ (r : Fin 512) (d : Fin 128), laK (x4 (ix3 0 0 d)) (x4 (ix3 0 1 d) + lsK (x1 (ix2 r d))) = (g (P + r.val) d : EReal))
  (hv : ∀ (r : Fin 512) (d : Fin 128), x2 (ix2 r d) = (v (P + r.val) d : EReal))
  (hl : ∀ (r : Fin 64) (x : Fin 192), x6 (ix2 r x) = if x.val % 64 ≤ r.val then (1 : EReal) else 0)
  (hS : ∀ e d : Fin 128, S (ix2 e d) = (T (key g) v g P e d : EReal))

include hf in
theorem chunk_f (n : ℕ) (hn : n < 8) (r : Fin 64) (d : Fin 128) :
    laK (x4 (ix3 0 0 d)) (x4 (ix3 0 1 d) + lsK (chunk x1 (64 * n) (ix2 r d))) = (g (P + 64 * n + r.val) d : EReal) := by
  rw [chunk_at x1 n hn, hf]
  rw [← Nat.add_assoc]

theorem chunk_c (x : Vec Ideal S512x128 .f32) (y : ℕ → Fin 128 → ℝ) (h : ∀ (r : Fin 512) (d : Fin 128), x (ix2 r d) = (y (P + r.val) d : EReal))
    (n : ℕ) (hn : n < 8) (r : Fin 64) (d : Fin 128) : chunk x (64 * n) (ix2 r d) = (y (P + 64 * n + r.val) d : EReal) := by
  rw [chunk_at x n hn, h]
  rw [← Nat.add_assoc]

include hf hv hl hS in
theorem foldS_real : ∀ (n : ℕ) (hn : n ≤ 8) (e d : Fin 128), foldS x1 x2 x4 x6 S n (ix2 e d) = (T (key g) v g (P + 64 * n) e d : EReal)
  | 0, hn, e, d => hS e d
  | n + 1, hn, e, d => by
    show stepS (chunk x1 (64 * n)) (chunk x2 (64 * n)) x4 x6 (foldS x1 x2 x4 x6 S n) (ix2 e d) = _
    rw [stepS_real (P + 64 * n) v g _ _ x4 x6 _ (chunk_f P g x1 x4 hf n hn) (chunk_c P x2 v hv n hn) hl (foldS_real n (Nat.le_of_succ_le hn))]
    rw [show P + 64 * n + 64 = P + 64 * (n + 1) by ring]

include hq hf hv hl hS in
theorem OUT_real (r : Fin 512) (e : Fin 128) :
    OUT x0 x1 x2 x3 x4 x5 x6 S (ix2 r e) = outE (fun e => (orow q v g (P + r.val) e : EReal)) (x5 (ix2 0 e)) (x3 (ix2 r e)) e := by
  have hr : r.val < 512 := r.isLt
  have hn : r.val / 64 < 8 := by omega
  show stepY (chunk x0 (64 * (r.val / 64))) (chunk x1 (64 * (r.val / 64))) (chunk x2 (64 * (r.val / 64))) (chunk x3 (64 * (r.val / 64))) x4 x5 x6
    (foldS x1 x2 x4 x6 S (r.val / 64)) (ix2 ⟨r.val % 64, Nat.mod_lt _ (by decide)⟩ e) = _
  rw [stepY_real (P + 64 * (r.val / 64)) q v g _ _ _ _ x4 x5 x6 _ (chunk_c P x0 q hq _ hn) (chunk_f P g x1 x4 hf _ hn) (chunk_c P x2 v hv _ hn) hl
    (foldS_real P v g x1 x2 x4 x6 S hf hv hl hS _ (Nat.le_of_lt hn))]
  rw [chunk_at x3 _ hn]
  have e1 : P + 64 * (r.val / 64) + r.val % 64 = P + r.val := by omega
  have e2 : (⟨64 * (r.val / 64) + r.val % 64, by omega⟩ : Fin 512) = r := Fin.ext (by show 64 * (r.val / 64) + r.val % 64 = r.val; omega)
  dsimp only
  rw [e1, e2]

end Block

/-! ## The arguments -/

section Args
variable (a0 : FVec Ideal S16384x15360 .f32) (a1 : FVec Ideal S1024 .f32) (a2 : FVec Ideal S128 .f32)
  (ha : ∀ (r : Fin 16384) (d : Fin 15360), 3072 ≤ d.val → d.val < 6144 → ∃ x : ℝ, a0 (ix2 r d) = x)
  (hb : ∀ d : Fin 1024, ∃ x : ℝ, a1 (ix1 d) = x)

abbrev hQ : Cert.ReferenceIdeal.Attn.H4 := heads 3072 Cert.HgrnRefIdeal.Gen.slices_S4x4096x15360_S4x4096x1024_0_0_3072 a0
abbrev hF : Cert.ReferenceIdeal.Attn.H4 := heads 4096 Cert.HgrnRefIdeal.Gen.slices_S4x4096x15360_S4x4096x1024_0_0_4096 a0
abbrev hV : Cert.ReferenceIdeal.Attn.H4 := heads 5120 Cert.HgrnRefIdeal.Gen.slices_S4x4096x15360_S4x4096x1024_0_0_5120 a0
abbrev hG : Cert.ReferenceIdeal.Attn.H4 := heads 6144 Cert.HgrnRefIdeal.Gen.slices_S4x4096x15360_S4x4096x1024_0_0_6144 a0

/-- A head's rows as real numbers, by position. -/
def real (x : Cert.ReferenceIdeal.Attn.H4) (b : Fin 4) (h : Fin 8) (s : ℕ) (d : Fin 128) : ℝ :=
  (x (ix4 b h ⟨s % 4096, Nat.mod_lt _ (by decide)⟩ d)).toReal

theorem real_eq (x : Cert.ReferenceIdeal.Attn.H4) (hx : ∀ (b : Fin 4) (h : Fin 8) (s : Fin 4096) (d : Fin 128), ∃ r : ℝ, x (ix4 b h s d) = r)
    (b : Fin 4) (h : Fin 8) (s : Fin 4096) (d : Fin 128) : x (ix4 b h s d) = (real x b h s.val d : EReal) := by
  unfold real
  have e : (⟨s.val % 4096, Nat.mod_lt _ (by decide)⟩ : Fin 4096) = s := Fin.ext (Nat.mod_eq_of_lt s.isLt)
  rw [e]
  obtain ⟨r, hr⟩ := hx b h s d
  rw [hr, EReal.toReal_coe]

include ha in
theorem hQ_real (b : Fin 4) (h : Fin 8) (s : Fin 4096) (d : Fin 128) : ∃ r : ℝ, hQ a0 (ix4 b h s d) = r := by
  rw [show hQ a0 (ix4 b h s d) = _ from heads_at 3072 _ a0 (by omega) b h s d]
  exact ha _ _ (by show 3072 ≤ 3072 + 128 * h.val + d.val; omega) (by show 3072 + 128 * h.val + d.val < 6144; omega)

include ha in
theorem hF_real (b : Fin 4) (h : Fin 8) (s : Fin 4096) (d : Fin 128) : ∃ r : ℝ, hF a0 (ix4 b h s d) = r := by
  rw [show hF a0 (ix4 b h s d) = _ from heads_at 4096 _ a0 (by omega) b h s d]
  exact ha _ _ (by show 3072 ≤ 4096 + 128 * h.val + d.val; omega) (by show 4096 + 128 * h.val + d.val < 6144; omega)

include ha in
theorem hV_real (b : Fin 4) (h : Fin 8) (s : Fin 4096) (d : Fin 128) : ∃ r : ℝ, hV a0 (ix4 b h s d) = r := by
  rw [show hV a0 (ix4 b h s d) = _ from heads_at 5120 _ a0 (by omega) b h s d]
  exact ha _ _ (by show 3072 ≤ 5120 + 128 * h.val + d.val; omega) (by show 5120 + 128 * h.val + d.val < 6144; omega)

include ha hb in
theorem GT_real (b : Fin 4) (h : Fin 8) (s : Fin 4096) (d : Fin 128) : ∃ r : ℝ, GT a0 a1 (ix4 b h s d) = r := by
  rw [show GT a0 a1 (ix4 b h s d) = _ from gate_at a1 (hF a0) b h s d]
  obtain ⟨f, hf⟩ := hF_real a0 ha b h s d
  obtain ⟨l, hl⟩ := hb ⟨128 * h.val + d.val, by omega⟩
  rw [hf, hl, lsE_coe]
  exact gate_real l f

/-- The sums of the gates' logarithms up to a position. -/
theorem prefix_real (x : Cert.ReferenceIdeal.Attn.H4) (hx : ∀ (b : Fin 4) (h : Fin 8) (s : Fin 4096) (d : Fin 128), ∃ r : ℝ, x (ix4 b h s d) = r)
    (b : Fin 4) (h : Fin 8) (t : Fin 4096) (d : Fin 128) : prefixes x (ix4 b h t d) = (A (real x b h) (t.val + 1) d : EReal) := by
  have ht : t.val < 4096 := t.isLt
  let f : ℕ → ℝ := fun s => real x b h s d
  have e : ∀ k : Fin 4096, (if hk : 4095 ≤ t.val + k.val then x (ix4 b h ⟨t.val + k.val - 4095, by omega⟩ d) else 0)
      = ((if 4095 ≤ t.val + k.val then f (t.val + k.val - 4095) else 0 : ℝ) : EReal) := by
    intro k
    by_cases hk : 4095 ≤ t.val + k.val
    · rw [dif_pos hk, if_pos hk]; exact real_eq x hx b h _ d
    · rw [dif_neg hk, if_neg hk]; rfl
  rw [prefix_at]
  refine (Finset.sum_congr rfl fun k _ => e k).trans ?_
  rw [← coe_sum, Fin.sum_univ_eq_sum_range (fun k => if 4095 ≤ t.val + k then f (t.val + k - 4095) else 0) 4096, ← Finset.sum_filter]
  refine congrArg (fun x : ℝ => (x : EReal)) ?_
  have hs : (Finset.range 4096).filter (fun k => 4095 ≤ t.val + k) = Finset.Ico (4095 - t.val) 4096 := by
    ext k
    simp only [Finset.mem_filter, Finset.mem_range, Finset.mem_Ico]
    omega
  rw [hs, Finset.sum_Ico_eq_sum_range, show 4096 - (4095 - t.val) = t.val + 1 by omega]
  unfold A
  refine Finset.sum_congr rfl fun i _ => ?_
  exact congrArg f (by omega)

include ha hb in
/-- The reference's rows before the norm. -/
theorem MX_real (b : Fin 4) (h : Fin 8) (t : Fin 4096) (e : Fin 128) :
    MX a0 a1 (ix4 b h t e) = (orow (real (hQ a0) b h) (real (hV a0) b h) (real (GT a0 a1) b h) t.val e : EReal) := by
  have hg := GT_real a0 a1 ha hb
  have hs : ∀ s : Fin 4096, scores (hQ a0) (Host.negf (Host.expm1 (GT a0 a1))) (prefixes (GT a0 a1)) (ix4 b h t s)
      = ((if s.val ≤ t.val then W (real (hQ a0) b h) (key (real (GT a0 a1) b h)) (real (GT a0 a1) b h) t.val s.val else 0 : ℝ) : EReal) := by
    intro s
    have hk : ∀ d : Fin 128, -(Ideal.exp (GT a0 a1 (ix4 b h s d)) - 1) = (key (real (GT a0 a1) b h) s.val d : EReal) := by
      intro d
      rw [real_eq _ hg b h s d, Ideal.exp_coe]
      unfold key
      rw [show (1 : EReal) = ((1 : ℝ) : EReal) from rfl, ← EReal.coe_sub, ← EReal.coe_neg]
      congr 1
      ring
    rw [scores_at]
    simp only [key_at, hk, real_eq _ (hQ_real a0 ha) b h, prefix_real _ hg b h, ninf_bot, exp_if, ← EReal.coe_mul, ← coe_sum]
    congr 1
    unfold W
    by_cases c : s.val ≤ t.val
    · simp only [if_pos c]
    · simp only [if_neg c, mul_zero, Finset.sum_const_zero]
  show mix (scores (hQ a0) (Host.negf (Host.expm1 (GT a0 a1))) (prefixes (GT a0 a1))) (hV a0) (ix4 b h t e) = _
  rw [mix_at]
  unfold orow
  rw [← sum_mask (fun s => W (real (hQ a0) b h) (key (real (GT a0 a1) b h)) (real (GT a0 a1) b h) t.val s * real (hV a0) b h s e) t.val t.isLt, coe_sum]
  refine Finset.sum_congr rfl fun s _ => ?_
  rw [hs, real_eq _ (hV_real a0 ha) b h s e, ← EReal.coe_mul]
  congr 1
  by_cases c : s.val ≤ t.val
  · rw [if_pos c, if_pos c]
  · rw [if_neg c, if_neg c, zero_mul]

include ha hb in
theorem REF_real (b : Fin 4) (h : Fin 8) (t : Fin 4096) (e : Fin 128) :
    REF a0 a1 a2 (ix2 ⟨4096 * b.val + t.val, by omega⟩ ⟨128 * h.val + e.val, by omega⟩)
      = outE (fun e => (orow (real (hQ a0) b h) (real (hV a0) b h) (real (GT a0 a1) b h) t.val e : EReal)) (a2 (ix1 e)) (hG a0 (ix4 b h t e)) e := by
  unfold REF outE
  rw [out_at, rms_at]
  simp only [MX_real a0 a1 ha hb]

end Args

/-! ## The grid -/

variable (m : (ℓ : Loc nD τ sig) → Buf (Elt Ideal) ℓ) (c : Dev nD)

/-- The projected activations. -/
abbrev A0 : FVec Ideal S16384x15360 .f32 := m ((c : Thread nD τ).loc main_arg0)
/-- The norm's weight. -/
abbrev A2 : FVec Ideal S128 .f32 := m ((c : Thread nD τ).loc main_arg2)

/-- A point's batch row. -/
def pb (t : Fin cfg0.N) : Fin 4 := ⟨t.val / 64, by have := tlt t; omega⟩
/-- A point's head. -/
def ph (t : Fin cfg0.N) : Fin 8 := ⟨t.val / 8 % 8, by omega⟩
/-- The position of row `r` of a point's block. -/
def pq (t : Fin cfg0.N) (r : Fin 512) : Fin 4096 := ⟨512 * (t.val % 8) + r.val, by omega⟩

/-- The query block of a point. -/
def X0 (t : Fin cfg0.N) : Vec Ideal S512x128 .f32 := iblk m c 0 t
/-- The gate block of a point. -/
def X1 (t : Fin cfg0.N) : Vec Ideal S512x128 .f32 := iblk m c 1 t
/-- The value block of a point. -/
def X2 (t : Fin cfg0.N) : Vec Ideal S512x128 .f32 := iblk m c 2 t
/-- The output gate block of a point. -/
def X3 (t : Fin cfg0.N) : Vec Ideal S512x128 .f32 := iblk m c 3 t
/-- The lower bound block of a point. -/
def X4 (t : Fin cfg0.N) : Vec Ideal S1x2x128 .f32 := iblk m c 4 t
/-- The norm weight block of a point. -/
def X5 (t : Fin cfg0.N) : Vec Ideal S1x128 .f32 := iblk m c 5 t
/-- The triangle block of a point. -/
def X6 (t : Fin cfg0.N) : Vec Ideal S64x192 .bf16 := iblk m c 6 t

theorem X6_at (t : Fin cfg0.N) (r : Fin 64) (x : Fin 192) : X6 m c t (ix2 r x) = if x.val % 64 ≤ r.val then (1 : EReal) else 0 := blk6 m c t r x
theorem X5_at (t : Fin cfg0.N) (e : Fin 128) : X5 m c t (ix2 0 e) = A2 m c (ix1 e) := blk5 m c t e
theorem X4_at0 (t : Fin cfg0.N) (d : Fin 128) : X4 m c t (ix3 0 0 d) = Ideal.log (A1 m c (ix1 ⟨128 * (ph t).val + d.val, by omega⟩)) := blk4a m c t d
theorem X4_at1 (t : Fin cfg0.N) (d : Fin 128) : X4 m c t (ix3 0 1 d) = Ideal.log1p (-(A1 m c (ix1 ⟨128 * (ph t).val + d.val, by omega⟩))) := blk4b m c t d

/-- A point's state from the state before it. -/
theorem stS_X (t : Fin cfg0.N) (e d : Fin 128) :
    stS m c t.val t.isLt (ix2 e d) = foldS (X1 m c t) (X2 m c t) (X4 m c t) (X6 m c t) (inS m c t.val t.isLt) 8 (ix2 e d) := by
  rw [stS_eq]
  show k0_pay3 (foldS (X1 m c t) (X2 m c t) (X4 m c t) (X6 m c t) (inS m c t.val t.isLt) 8) (ix2 e d) = _
  generalize foldS (X1 m c t) (X2 m c t) (X4 m c t) (X6 m c t) (inS m c t.val t.isLt) 8 = X
  pointwise [k0_pay3]

variable (ha : ∀ (r : Fin 16384) (d : Fin 15360), 3072 ≤ d.val → d.val < 6144 → ∃ x : ℝ, A0 m c (ix2 r d) = x)
  (hb : ∀ d : Fin 1024, ∃ x : ℝ, A1 m c (ix1 d) = x)

include ha in
theorem q_at (t : Fin cfg0.N) (r : Fin 512) (d : Fin 128) :
    X0 m c t (ix2 r d) = (real (hQ (A0 m c)) (pb t) (ph t) (512 * (t.val % 8) + r.val) d : EReal) :=
  ((blk0 m c t r d).trans (heads_at 3072 _ (A0 m c) (by omega) (pb t) (ph t) (pq t r) d).symm).trans (real_eq _ (hQ_real _ ha) (pb t) (ph t) (pq t r) d)

include ha in
theorem v_at (t : Fin cfg0.N) (r : Fin 512) (d : Fin 128) :
    X2 m c t (ix2 r d) = (real (hV (A0 m c)) (pb t) (ph t) (512 * (t.val % 8) + r.val) d : EReal) :=
  ((blk2 m c t r d).trans (heads_at 5120 _ (A0 m c) (by omega) (pb t) (ph t) (pq t r) d).symm).trans (real_eq _ (hV_real _ ha) (pb t) (ph t) (pq t r) d)

theorem g_at (t : Fin cfg0.N) (r : Fin 512) (d : Fin 128) :
    X3 m c t (ix2 r d) = hG (A0 m c) (ix4 (pb t) (ph t) (pq t r) d) :=
  (blk3 m c t r d).trans (heads_at 6144 _ (A0 m c) (by omega) (pb t) (ph t) (pq t r) d).symm

include ha hb in
theorem f_at (t : Fin cfg0.N) (r : Fin 512) (d : Fin 128) :
    laK (X4 m c t (ix3 0 0 d)) (X4 m c t (ix3 0 1 d) + lsK (X1 m c t (ix2 r d)))
      = (real (GT (A0 m c) (A1 m c)) (pb t) (ph t) (512 * (t.val % 8) + r.val) d : EReal) := by
  refine Eq.trans ?_ (real_eq _ (GT_real _ _ ha hb) (pb t) (ph t) (pq t r) d)
  refine Eq.trans ?_ (gate_at (A1 m c) (hF (A0 m c)) (pb t) (ph t) (pq t r) d).symm
  have h1 : X1 m c t (ix2 r d) = hF (A0 m c) (ix4 (pb t) (ph t) (pq t r) d) :=
    (blk1 m c t r d).trans (heads_at 4096 _ (A0 m c) (by omega) (pb t) (ph t) (pq t r) d).symm
  obtain ⟨f, hf⟩ := hF_real _ ha (pb t) (ph t) (pq t r) d
  rw [h1, hf, lsK_coe, lsE_coe, X4_at0, X4_at1, laK_eq]

include ha hb in
/-- The state before a point: the sums over the positions of its batch row and head before its block. -/
theorem inS_real : ∀ (n : ℕ) (t : Fin cfg0.N), t.val % 8 = n → ∀ e d : Fin 128, inS m c t.val t.isLt (ix2 e d)
      = (Decay.T (key (real (GT (A0 m c) (A1 m c)) (pb t) (ph t))) (real (hV (A0 m c)) (pb t) (ph t)) (real (GT (A0 m c) (A1 m c)) (pb t) (ph t)) (512 * (t.val % 8)) e d : EReal)
  | 0, t, hn, e, d => by
    rw [inS_A m c t hn, hn]
    show k0_pay1 (ix2 e d) = _
    unfold Decay.T
    rw [Nat.mul_zero, Finset.range_zero, Finset.sum_empty]
    pointwise [k0_pay1]
    rfl
  | n + 1, t, hn, e, d => by
    have ht := tlt t
    rw [inS_B m c t (by omega)]
    have hlt : t.val - 1 < cfg0.N := Nat.lt_of_le_of_lt (Nat.sub_le _ _) t.isLt
    have hm : (t.val - 1) % 8 = n := by omega
    have eb : pb ⟨t.val - 1, hlt⟩ = pb t := Fin.ext (by show (t.val - 1) / 64 = t.val / 64; omega)
    have eh : ph ⟨t.val - 1, hlt⟩ = ph t := Fin.ext (by show (t.val - 1) / 8 % 8 = t.val / 8 % 8; omega)
    have ih := inS_real n ⟨t.val - 1, hlt⟩ hm
    rw [eb, eh] at ih
    have hf := f_at m c ha hb ⟨t.val - 1, hlt⟩
    have hv := v_at m c ha ⟨t.val - 1, hlt⟩
    rw [eb, eh] at hf hv
    refine (stS_X m c ⟨t.val - 1, hlt⟩ e d).trans ?_
    rw [foldS_real (512 * ((t.val - 1) % 8)) _ _ _ _ _ _ _ hf hv (X6_at m c ⟨t.val - 1, hlt⟩) ih 8 (Nat.le_refl _)]
    rw [show 512 * ((t.val - 1) % 8) + 64 * 8 = 512 * (t.val % 8) by omega]

include ha hb in
/-- POINT: the block stored at a grid point, at a row and lane, is the reference at the place it is written to. -/
theorem point (t : Fin cfg0.N) (r : Fin 512) (e : Fin 128) :
    OUT (X0 m c t) (X1 m c t) (X2 m c t) (X3 m c t) (X4 m c t) (X5 m c t) (X6 m c t) (inS m c t.val t.isLt) (ix2 r e)
      = REF (A0 m c) (A1 m c) (A2 m c) (ix2 ⟨4096 * (pb t).val + (pq t r).val, by omega⟩ ⟨128 * (ph t).val + e.val, by omega⟩) := by
  rw [REF_real _ _ _ ha hb]
  refine (OUT_real (512 * (t.val % 8)) _ _ _ _ _ _ _ _ _ _ _ (q_at m c ha t) (f_at m c ha hb t) (v_at m c ha t) (X6_at m c t) (inS_real m c ha hb _ t rfl) r e).trans ?_
  rw [X5_at, g_at]
  rfl

include ha hb in
/-- THE RESULT ARRAY after the run is the reference of the arguments, the gates being real. -/
theorem final : (dats m 0 c).arrAt 7 (cfgs 0).N = REF (A0 m c) (A1 m c) (A2 m c) := by
  refine (dats m 0 c).arrAt_eq_of_covers 7 _ (by decide +kernel) fun t _ y => ?_
  blk_simp
  rw [after0_7]
  obtain ⟨e0, e1, e2, e3, e4, e5, e6, e7⟩ := idx t
  obtain ⟨r, l, rfl⟩ : ∃ (r : Fin 512) (l : Fin 128), y = ix2 r l := ⟨y 0, y 1, eq_ix2 y⟩
  refine (point m c ha hb t r l).trans (congrArg (REF (A0 m c) (A1 m c) (A2 m c)) ?_)
  unfold pb ph pq
  blk_ext [e7]

end Cert.HgrnIdeal.Hg

end
-- ==== Proof.AttnRuns.lean ====
module

public import proofs.«01_k».proof.Proof.Gen.KernelIdeal.Frame
public import proofs.«01_k».proof.Proof.Gen.KernelIdeal.Skeleton
public import proofs.«01_k».proof.Proof.Gen.KernelIdeal.Loops

/-! The attention kernel's body over whole staging memrefs: its one branch condition in closed form, the memrefs of a grid
    point, and the region invariant with the two scratch buffers as memrefs. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 512 := Nat.lt_of_lt_of_eq t.isLt N_0
    have e0 : (grid0.coords t 0).val = t.val / 128 % 4 := Pipeline.Grid.coords_val t 0 (by decide) rfl
    have e1 : (grid0.coords t 1).val = t.val / 16 % 8 := Pipeline.Grid.coords_val t 1 (by decide) rfl
    have e2 : (grid0.coords t 2).val = t.val / 1 % 16 := Pipeline.Grid.coords_val t 2 (by decide) rfl
    simp only [cond0_0, k0_cond1, e0, e1, e2]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4096x128 .bf16 := Memref.whole cc0_scratch0
abbrev scM0_1 : Memref sig .tc .vmem S4096x128 .bf16 := Memref.whole cc0_scratch1
/-- The scratch `arg10` the kernel carries between points, as a view: what it holds is stated through it. -/
abbrev VS0_0 : View sig .tc .vmem S4096x128 .bf16 := scM0_0.view
/-- The scratch `arg11` the kernel carries between points, as a view: what it holds is stated through it. -/
abbrev VS0_1 : View sig .tc .vmem S4096x128 .bf16 := scM0_1.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Attn

end
-- ==== Proof.AttnScratch.lean ====
module

public import proofs.«01_k».proof.Proof.AttnRuns
public import Idealize.ShloMosaic.Lib.Pointwise
public import Idealize.ShloMosaic.Lib.WholeRead
public import Idealize.ShloMosaic.Lib.WritesUnit

/-! What the attention kernel's first inner loop leaves in its two scratch buffers: the normalized key block and the value
    block, in bfloat16. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame. -/
local notation "𝕄" => MT nD τ sig Unit (Elt F) ℕ (UR sig nD τ) ℕ

/-- The 256 rows of a buffer from row `o` on. -/
def chunk {e : EltTy} (X : Vec F S4096x128 e) (o : ℕ) : Vec F S256x128 e :=
  fun y => X (ix2 ⟨(o + (y 0).val) % 4096, Nat.mod_lt _ (by decide)⟩ (y 1))

/-- The normalized key block: every 256 rows of it are the first loop's payload on those rows of the key block. -/
def KN (x1 : Vec F S4096x128 .f32) (x4 : Vec F S1x128 .f32) : Vec F S4096x128 .bf16 :=
  fun y => k0_pay13 (chunk x1 (256 * ((y 0).val / 256))) x4 (ix2 ⟨(y 0).val % 256, Nat.mod_lt _ (by decide)⟩ (y 1))

/-- The value block in bfloat16, by the same rows. -/
def VN (x2 : Vec F S4096x128 .f32) : Vec F S4096x128 .bf16 :=
  fun y => k0_pay14 (chunk x2 (256 * ((y 0).val / 256))) (ix2 ⟨(y 0).val % 256, Nat.mod_lt _ (by decide)⟩ (y 1))

/-- The rows `256 * j` on of the normalized key block. -/
theorem chunk_KN (x1 : Vec F S4096x128 .f32) (x4 : Vec F S1x128 .f32) (j : ℕ) (hj : j < 16) :
    chunk (KN x1 x4) (256 * j) = k0_pay13 (chunk x1 (256 * j)) x4 := by
  funext y
  have hy : (y 0).val < 256 := (y 0).isLt
  have e1 : (256 * j + (y 0).val) % 4096 / 256 = j := by omega
  have e2 : (256 * j + (y 0).val) % 4096 % 256 = (y 0).val := by omega
  show k0_pay13 (chunk x1 (256 * ((256 * j + (y 0).val) % 4096 / 256))) x4
    (ix2 ⟨(256 * j + (y 0).val) % 4096 % 256, _⟩ (y 1)) = _
  rw [e1]
  congr 1
  refine Eq.trans ?_ (ix2_eta y)
  congr 1
  exact Fin.ext e2

/-- The rows `256 * j` on of the value block. -/
theorem chunk_VN (x2 : Vec F S4096x128 .f32) (j : ℕ) (hj : j < 16) :
    chunk (VN x2) (256 * j) = k0_pay14 (chunk x2 (256 * j)) := by
  funext y
  have hy : (y 0).val < 256 := (y 0).isLt
  have e1 : (256 * j + (y 0).val) % 4096 / 256 = j := by omega
  have e2 : (256 * j + (y 0).val) % 4096 % 256 = (y 0).val := by omega
  show k0_pay14 (chunk x2 (256 * ((256 * j + (y 0).val) % 4096 / 256)))
    (ix2 ⟨(256 * j + (y 0).val) % 4096 % 256, _⟩ (y 1)) = _
  rw [e1]
  congr 1
  refine Eq.trans ?_ (ix2_eta y)
  congr 1
  exact Fin.ext e2

/-- A load of 256 whole rows of a whole buffer. -/
theorem readAt_rows {e : EltTy} (M : Memref sig .tc .vmem S4096x128 e) (h : M.IsWhole) (X : Vec F S4096x128 e) (off : Fin 2 → ℕ)
    (inb : ∀ a, off a + S256x128.size a ≤ S4096x128.size a) (o : ℕ) (ho : off = ![o, 0]) :
    View.readAt (Elt F) M.view (Rect.unit (s := S4096x128) off S256x128.size inb).toLoadRect (h.unread X) = chunk X o := by
  subst ho
  have hb : o + 256 ≤ 4096 := inb 0
  funext y
  have hy : (y 0).val < 256 := (y 0).isLt
  rw [h.readAt_unread]
  unfold chunk
  congr 1
  funext a
  match a with
  | ⟨0, _⟩ =>
    refine Fin.ext ?_
    show o + 1 * (y 0).val = (o + (y 0).val) % 4096
    omega
  | ⟨1, _⟩ =>
    refine Fin.ext ?_
    show 0 + 1 * (y 1).val = (y 1).val
    omega

/-- A load of a whole buffer. -/
theorem readAt_all {S : Shape} {e : EltTy} (M : Memref sig .tc .vmem S e) (h : M.IsWhole) (X : Vec F S e) (off : Fin S.rank → ℕ)
    (inb : ∀ a, off a + S.size a ≤ S.size a) :
    View.readAt (Elt F) M.view (Rect.unit (s := S) off S.size inb).toLoadRect (h.unread X) = X := by
  funext y
  rw [h.readAt_unread]
  congr 1
  funext a
  refine Fin.ext ?_
  have h0 := inb a
  show off a + 1 * (y a).val = (y a).val
  omega

/-- The first loop makes sixteen trips. -/
theorem t1_trips : k0_t1_loop.trips = 16 := by decide +kernel

/-- Before trip `n` the first loop has filled the rows below `256 * n` of the two scratch buffers. -/
theorem pb_read (𝒱 : Variants) (c : Dev nD) (bd : Option 𝒱.V) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (h1 : k0_cond1 i = 1#1)
    (x1 x2 : Vec F S4096x128 .f32) (x4 : Vec F S1x128 .f32) (f10 : BufTy.Contents (Elt F) arg10.view.ty) (f11 : BufTy.Contents (Elt F) arg11.view.ty) :
    ∀ n : ℕ, n ≤ 16 → ∀ y : S4096x128.Idx, (y 0).val < 256 * n →
      arg10.view.read (Elt F) (arg10.view.writes (Elt F) f10 (pb_k0_t1 (F := F) 𝒱 c bd i arg3 harg3 arg4 harg4 arg5 harg5 arg6 harg6 arg7 harg7 arg8 harg8 arg9 harg9 arg10 harg10 arg11 harg11 h1 (harg4.unread x1) (harg5.unread x2) (harg7.unread x4) n).1) y = KN x1 x4 y
      ∧ arg11.view.read (Elt F) (arg11.view.writes (Elt F) f11 (pb_k0_t1 (F := F) 𝒱 c bd i arg3 harg3 arg4 harg4 arg5 harg5 arg6 harg6 arg7 harg7 arg8 harg8 arg9 harg9 arg10 harg10 arg11 harg11 h1 (harg4.unread x1) (harg5.unread x2) (harg7.unread x4) n).2) y = VN x2 y
  | 0, _, y, hy => absurd hy (by omega)
  | n + 1, hn, y, hy => by
    have hk : n < k0_t1_loop.trips := by rw [t1_trips]; omega
    have ih := pb_read 𝒱 c bd i arg3 harg3 arg4 harg4 arg5 harg5 arg6 harg6 arg7 harg7 arg8 harg8 arg9 harg9 arg10 harg10 arg11 harg11 h1 x1 x2 x4 f10 f11 n (by omega) y
    rw [show n + 1 = (⟨n, hk⟩ : Fin k0_t1_loop.trips).val + 1 from rfl, pb_k0_t1_succ]
    have e10 : ∀ k : Fin k0_t1_loop.trips, (tripL_k0_t1 (F := F) 𝒱 c bd i arg3 harg3 arg4 harg4 arg5 harg5 arg6 harg6 arg7 harg7 arg8 harg8 arg9 harg9 arg10 harg10 arg11 harg11 h1 (harg4.unread x1) (harg5.unread x2) (harg7.unread x4) k).1
        = [⟨Rect.unit (s := S4096x128) (k0_off1 k) S256x128.size (k0_off1_inb i k h1), k0_pay13 (chunk x1 (256 * k.val)) x4⟩] := fun k => by
      unfold tripL_k0_t1 trip_k0_t1
      dsimp only
      rw [readAt_rows arg4 harg4 x1 _ _ (256 * k.val) (k0_off1_eq k)]
      erw [readAt_all arg7 harg7 x4]
    have e11 : ∀ k : Fin k0_t1_loop.trips, (tripL_k0_t1 (F := F) 𝒱 c bd i arg3 harg3 arg4 harg4 arg5 harg5 arg6 harg6 arg7 harg7 arg8 harg8 arg9 harg9 arg10 harg10 arg11 harg11 h1 (harg4.unread x1) (harg5.unread x2) (harg7.unread x4) k).2
        = [⟨Rect.unit (s := S4096x128) (k0_off1 k) S256x128.size (k0_off1_inb i k h1), k0_pay14 (chunk x2 (256 * k.val))⟩] := fun k => by
      unfold tripL_k0_t1 trip_k0_t1
      dsimp only
      rw [readAt_rows arg5 harg5 x2 _ _ (256 * k.val) (k0_off1_eq k)]
    rw [e10, e11]
    dsimp only [List.cons_append, List.nil_append]
    by_cases hlt : (y 0).val < 256 * n
    · have := ih hlt
      constructor
      · rw [← this.1]
        exact View.read_writes_cons_rows_of_not_mem arg10.view f10 _ _ _ y (k0_off1_eq ⟨n, hk⟩) rfl (Or.inl hlt)
      · rw [← this.2]
        exact View.read_writes_cons_rows_of_not_mem arg11.view f11 _ _ _ y (k0_off1_eq ⟨n, hk⟩) rfl (Or.inl hlt)
    · have hd : (y 0).val / 256 = n := by omega
      have hx : (y 0).val = 256 * n + (y 0).val % 256 := by omega
      constructor
      · refine (View.read_writes_cons_rows_of_mem arg10.view f10 _ _ _ y (ix2 ⟨(y 0).val % 256, Nat.mod_lt _ (by decide)⟩ (y 1)) (k0_off1_eq ⟨n, hk⟩) hx rfl).trans ?_
        show _ = k0_pay13 (chunk x1 (256 * ((y 0).val / 256))) x4 _
        rw [hd]
        rfl
      · refine (View.read_writes_cons_rows_of_mem arg11.view f11 _ _ _ y (ix2 ⟨(y 0).val % 256, Nat.mod_lt _ (by decide)⟩ (y 1)) (k0_off1_eq ⟨n, hk⟩) hx rfl).trans ?_
        show _ = k0_pay14 (chunk x2 (256 * ((y 0).val / 256))) _
        rw [hd]
        rfl

/-- After the first loop the key scratch holds the normalized key block, -/
theorem scratch_k (𝒱 : Variants) (c : Dev nD) (bd : Option 𝒱.V) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (h1 : k0_cond1 i = 1#1)
    (x1 x2 : Vec F S4096x128 .f32) (x4 : Vec F S1x128 .f32) (f10 : BufTy.Contents (Elt F) arg10.view.ty) :
    arg10.view.writes (Elt F) f10 (pb_k0_t1 (F := F) 𝒱 c bd i arg3 harg3 arg4 harg4 arg5 harg5 arg6 harg6 arg7 harg7 arg8 harg8 arg9 harg9 arg10 harg10 arg11 harg11 h1 (harg4.unread x1) (harg5.unread x2) (harg7.unread x4) k0_t1_loop.trips).1
      = harg10.unread (KN x1 x4) :=
  harg10.eq_unread (funext fun y => (pb_read 𝒱 c bd i arg3 harg3 arg4 harg4 arg5 harg5 arg6 harg6 arg7 harg7 arg8 harg8 arg9 harg9 arg10 harg10 arg11 harg11 h1 x1 x2 x4 f10 (harg11.unread (VN x2)) k0_t1_loop.trips
    (le_of_eq t1_trips) y (by rw [t1_trips]; exact (y 0).isLt)).1)

/-- and the value scratch the value block. -/
theorem scratch_v (𝒱 : Variants) (c : Dev nD) (bd : Option 𝒱.V) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (h1 : k0_cond1 i = 1#1)
    (x1 x2 : Vec F S4096x128 .f32) (x4 : Vec F S1x128 .f32) (f11 : BufTy.Contents (Elt F) arg11.view.ty) :
    arg11.view.writes (Elt F) f11 (pb_k0_t1 (F := F) 𝒱 c bd i arg3 harg3 arg4 harg4 arg5 harg5 arg6 harg6 arg7 harg7 arg8 harg8 arg9 harg9 arg10 harg10 arg11 harg11 h1 (harg4.unread x1) (harg5.unread x2) (harg7.unread x4) k0_t1_loop.trips).2
      = harg11.unread (VN x2) :=
  harg11.eq_unread (funext fun y => (pb_read 𝒱 c bd i arg3 harg3 arg4 harg4 arg5 harg5 arg6 harg6 arg7 harg7 arg8 harg8 arg9 harg9 arg10 harg10 arg11 harg11 h1 x1 x2 x4 (harg10.unread (KN x1 x4)) f11 k0_t1_loop.trips
    (le_of_eq t1_trips) y (by rw [t1_trips]; exact (y 0).isLt)).2)

/-! ## The second loop -/

/-- One trip of the block loop: the running sum and the accumulator after the key block at row `o`. -/
def stepF (x5 : Vec F S512x256 .bf16) (q : FVec F S256x128 .bf16) (kn vn : Vec F S4096x128 .bf16) (o : ℕ)
    (acc : FVec F S256x1 .f32 × FVec F S256x128 .f32) : FVec F S256x1 .f32 × FVec F S256x128 .f32 :=
  (k0_pay7 q acc.1 (chunk kn o), k0_pay6 q acc.1 acc.2 (chunk kn o) x5 (chunk vn o))

/-- The running sum and the accumulator after the diagonal block `j`. -/
def initF (x0 : Vec F S256x128 .f32) (x3 : Vec F S1x128 .f32) (x5 : Vec F S512x256 .bf16) (kn vn : Vec F S4096x128 .bf16) (j : ℕ) :
    FVec F S256x1 .f32 × FVec F S256x128 .f32 :=
  (k0_pay3 k0_pay16 k0_pay17 (k0_pay21 x0 x3 (chunk kn (256 * j))) (k0_pay22 x0 x3 (chunk kn (256 * j))),
   k0_pay2 k0_pay16 k0_pay17 k0_pay18 (k0_pay19 x0 x3 (chunk kn (256 * j))) (k0_pay21 x0 x3 (chunk kn (256 * j)))
    (k0_pay22 x0 x3 (chunk kn (256 * j))) x5 (chunk vn (256 * j)))

/-- The running sum and the accumulator after `n` blocks below the diagonal block `j`. -/
def foldF (x0 : Vec F S256x128 .f32) (x3 : Vec F S1x128 .f32) (x5 : Vec F S512x256 .bf16) (kn vn : Vec F S4096x128 .bf16) (j : ℕ) :
    ℕ → FVec F S256x1 .f32 × FVec F S256x128 .f32
  | 0 => initF x0 x3 x5 kn vn j
  | n + 1 => stepF x5 (k0_pay15 x0 x3) kn vn (256 * (j - 1 - n)) (foldF x0 x3 x5 kn vn j n)

/-- The block the body stores at query block `j`. -/
def OUT (x0 : Vec F S256x128 .f32) (x3 : Vec F S1x128 .f32) (x5 : Vec F S512x256 .bf16) (kn vn : Vec F S4096x128 .bf16) (j : ℕ) :
    Vec F S256x128 .bf16 :=
  k0_pay12 (foldF x0 x3 x5 kn vn j j).2

/-- The block loop makes one trip per block below the diagonal, -/
theorem t2_trips : ∀ i : grid0.Coords, (k0_t2_loop i).trips = (i 2).val := by decide +kernel
/-- its rest loop none, -/
theorem t3_trips : ∀ i : grid0.Coords, (k0_t3_loop i).trips = 0 := by decide +kernel
/-- and trip `k` is at key block `qi - 1 - k`. -/
theorem off3_eq : ∀ (i : grid0.Coords) (k : Fin (k0_t2_loop i).trips), k0_off3 i k = ![256 * ((i 2).val - 1 - k.val), 0] := by decide +kernel

/-- What the block loop carries before trip `n`. -/
theorem st2_eq (𝒱 : Variants) (c : Dev nD) (bd : Option 𝒱.V) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole)
    (x0 : Vec F S256x128 .f32) (x3 : Vec F S1x128 .f32) (x5 : Vec F S512x256 .bf16) (kn vn : Vec F S4096x128 .bf16) :
    ∀ n : ℕ, n ≤ (k0_t2_loop i).trips →
      st_k0_t2 (F := F) 𝒱 c bd i arg3 harg3 arg4 harg4 arg5 harg5 arg6 harg6 arg7 harg7 arg8 harg8 arg9 harg9 arg10 harg10 arg11 harg11 (k0_pay15 x0 x3) (harg8.unread x5) (harg10.unread kn) (harg11.unread vn) (initF x0 x3 x5 kn vn (i 2).val) n
        = foldF x0 x3 x5 kn vn (i 2).val n
  | 0, _ => rfl
  | n + 1, hn => by
    rw [show n + 1 = (⟨n, hn⟩ : Fin (k0_t2_loop i).trips).val + 1 from rfl, st_k0_t2_succ]
    have ih := st2_eq 𝒱 c bd i arg3 harg3 arg4 harg4 arg5 harg5 arg6 harg6 arg7 harg7 arg8 harg8 arg9 harg9 arg10 harg10 arg11 harg11 x0 x3 x5 kn vn n (by omega)
    have e : ∀ (k : Fin (k0_t2_loop i).trips) acc, tripR_k0_t2 (F := F) 𝒱 c bd i arg3 harg3 arg4 harg4 arg5 harg5 arg6 harg6 arg7 harg7 arg8 harg8 arg9 harg9 arg10 harg10 arg11 harg11 (k0_pay15 x0 x3) (harg8.unread x5) (harg10.unread kn) (harg11.unread vn) k acc
        = stepF x5 (k0_pay15 x0 x3) kn vn (256 * ((i 2).val - 1 - k.val)) acc := fun k acc => by
      unfold tripR_k0_t2 trip_k0_t2 stepF
      dsimp only
      rw [readAt_rows arg10 harg10 kn _ _ _ (off3_eq i k), readAt_rows arg11 harg11 vn _ _ _ (off3_eq i k)]
      erw [readAt_all arg8 harg8 x5]
    rw [e]
    exact congrArg _ ih

/-- What the block loop leaves. -/
theorem st2_trips (𝒱 : Variants) (c : Dev nD) (bd : Option 𝒱.V) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole)
    (x0 : Vec F S256x128 .f32) (x3 : Vec F S1x128 .f32) (x5 : Vec F S512x256 .bf16) (kn vn : Vec F S4096x128 .bf16) :
    st_k0_t2 (F := F) 𝒱 c bd i arg3 harg3 arg4 harg4 arg5 harg5 arg6 harg6 arg7 harg7 arg8 harg8 arg9 harg9 arg10 harg10 arg11 harg11 (k0_pay15 x0 x3) (harg8.unread x5) (harg10.unread kn) (harg11.unread vn) (initF x0 x3 x5 kn vn (i 2).val) (k0_t2_loop i).trips
        = foldF x0 x3 x5 kn vn (i 2).val (i 2).val := by
  rw [st2_eq 𝒱 c bd i arg3 harg3 arg4 harg4 arg5 harg5 arg6 harg6 arg7 harg7 arg8 harg8 arg9 harg9 arg10 harg10 arg11 harg11 x0 x3 x5 kn vn _ le_rfl, t2_trips]

end Cert.KernelIdeal.Attn

end
-- ==== Proof.AttnBody.lean ====
module

public import proofs.«01_k».proof.Proof.AttnScratch

/-! The attention kernel's body over whole staging memrefs, at a first query block (which fills the scratch buffers) and at
    a later one (which finds them filled). -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame. -/
local notation "𝕄" => MT nD τ sig Unit (Elt F) ℕ (UR sig nD τ) ℕ

/-- What the body's one store of the output block leaves there, the scratch buffers holding `kn` and `vn`. -/
theorem out_eq (c : Dev nD) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole)
    (x0 : Vec F S256x128 .f32) (x3 : Vec F S1x128 .f32) (x5 : Vec F S512x256 .bf16) (kn vn : Vec F S4096x128 .bf16)
    (f9 : BufTy.Contents (Elt F) arg9.view.ty) (X10 : BufTy.Contents (Elt F) arg10.view.ty) (X11 : BufTy.Contents (Elt F) arg11.view.ty)
    (h10 : X10 = harg10.unread kn) (h11 : X11 = harg11.unread vn) :
    arg9.view.read (Elt F) (arg9.view.writes (Elt F) f9 [⟨Rect.unit (s := S256x128) ![0, 0] S256x128.size inb_S256x128_S256x128_0_0,
      k0_pay12 (st_k0_t3 (F := F) Variants.none c none i arg3 harg3 arg4 harg4 arg5 harg5 arg6 harg6 arg7 harg7 arg8 harg8 arg9 harg9 arg10 harg10 arg11 harg11 (k0_pay15 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3))) (harg8.unread x5) X10 X11 ((st_k0_t2 (F := F) Variants.none c none i arg3 harg3 arg4 harg4 arg5 harg5 arg6 harg6 arg7 harg7 arg8 harg8 arg9 harg9 arg10 harg10 arg11 harg11 (k0_pay15 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3))) (harg8.unread x5) X10 X11 (k0_pay3 k0_pay16 k0_pay17 (k0_pay21 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (k0_pay22 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)), k0_pay2 k0_pay16 k0_pay17 k0_pay18 (k0_pay19 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (k0_pay21 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (k0_pay22 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (View.readAt (Elt F) arg8.view (Rect.unit (s := S512x256) ![0, 0] S512x256.size inb_S512x256_S512x256_0_0).toLoadRect (harg8.unread x5)) (View.readAt (Elt F) arg11.view (Rect.unit (s := S4096x128) (k0_off2 i) S256x128.size (k0_off2_inb i)).toLoadRect X11)) (k0_t2_loop i).trips).1, (st_k0_t2 (F := F) Variants.none c none i arg3 harg3 arg4 harg4 arg5 harg5 arg6 harg6 arg7 harg7 arg8 harg8 arg9 harg9 arg10 harg10 arg11 harg11 (k0_pay15 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3))) (harg8.unread x5) X10 X11 (k0_pay3 k0_pay16 k0_pay17 (k0_pay21 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (k0_pay22 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)), k0_pay2 k0_pay16 k0_pay17 k0_pay18 (k0_pay19 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (k0_pay21 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (k0_pay22 (View.readAt (Elt F) arg3.view (Rect.unit (s := S256x128) ![0, 0] S256x128.size inb_S256x128_S256x128_0_0).toLoadRect (harg3.unread x0)) (View.readAt (Elt F) arg6.view (Rect.unit (s := S1x128) ![0, 0] S1x128.size inb_S1x128_S1x128_0_0).toLoadRect (harg6.unread x3)) (View.readAt (Elt F) arg10.view (Rect.unit (s := S4096x128) (k0_off2 i) S256x128.size (k0_off2_inb i)).toLoadRect X10)) (View.readAt (Elt F) arg8.view (Rect.unit (s := S512x256) ![0, 0] S512x256.size inb_S512x256_S512x256_0_0).toLoadRect (harg8.unread x5)) (View.readAt (Elt F) arg11.view (Rect.unit (s := S4096x128) (k0_off2 i) S256x128.size (k0_off2_inb i)).toLoadRect X11)) (k0_t2_loop i).trips).2) (k0_t3_loop i).trips).2⟩]) = OUT x0 x3 x5 kn vn (i 2).val := by
  subst h10 h11
  rw [readAt_all arg3 harg3 x0, readAt_all arg6 harg6 x3, readAt_all arg8 harg8 x5,
    readAt_rows arg10 harg10 kn _ _ _ (k0_off2_eq i), readAt_rows arg11 harg11 vn _ _ _ (k0_off2_eq i), t3_trips]
  have e := st2_trips Variants.none c none i arg3 harg3 arg4 harg4 arg5 harg5 arg6 harg6 arg7 harg7 arg8 harg8 arg9 harg9 arg10 harg10 arg11 harg11 x0 x3 x5 kn vn
  unfold initF at e
  rw [e]
  funext y
  refine (View.read_writes_cons_rows_of_mem (o := 0) arg9.view f9 _ _ _ y y rfl ?_ rfl).trans rfl
  exact (Nat.zero_add _).symm

/-- The body at a later query block: the scratch buffers are left as they were, and the output block is stored. -/
theorem bodyB (c : Dev nD) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (hc0 : ¬ cond0_0 i)
    (x0 : Vec F S256x128 .f32) (x1 : Vec F S4096x128 .f32) (x2 : Vec F S4096x128 .f32) (x3 : Vec F S1x128 .f32) (x4 : Vec F S1x128 .f32) (x5 : Vec F S512x256 .bf16) (kn vn : Vec F S4096x128 .bf16)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare kn ∗ owns (c : Thread nD τ) arg11 fullShare vn
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (OUT x0 x3 x5 kn vn (i 2).val) ∗ owns (c : Thread nD τ) arg10 fullShare kn ∗ owns (c : Thread nD τ) arg11 fullShare vn) -∗ K ⟨⟩))
          ⊢ wp frame (wpE (defs₀ (F := F)) Variants.none c none) E (cc0__sb_attn_body i arg3 harg3 arg4 harg4 arg5 harg5 arg6 harg6 arg7 harg7 arg8 harg8 arg9 harg9 arg10 harg10 arg11 harg11) K := by
  simp only [cc0__sb_attn_body_eq_skeleton]; unfold cc0__sb_attn_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hs0; obtain rfl := harg11.eq_unread hs1
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    exact out_eq c i arg3 harg3 arg4 harg4 arg5 harg5 arg6 harg6 arg7 harg7 arg8 harg8 arg9 harg9 arg10 harg10 arg11 harg11 x0 x3 x5 kn vn f6 _ _ rfl rfl
  isplitl [HS0]
  · iexists _; isplitr; · ipureintro; exact harg10.read_unread _
    iexact HS0
  iexists _; isplitr; · ipureintro; exact harg11.read_unread _
  iexact HS1

/-- The body at a first query block: whatever the scratch buffers held, they end with the normalized key block and the value
    block, and the output block is stored. -/
theorem bodyA (c : Dev nD) (i : grid0.Coords) (arg3 : Memref sig .tc .vmem S256x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x256 .bf16) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (hc0 : cond0_0 i)
    (x0 : Vec F S256x128 .f32) (x1 : Vec F S4096x128 .f32) (x2 : Vec F S4096x128 .f32) (x3 : Vec F S1x128 .f32) (x4 : Vec F S1x128 .f32) (x5 : Vec F S512x256 .bf16)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (OUT x0 x3 x5 (KN x1 x4) (VN x2) (i 2).val) ∗ owns (c : Thread nD τ) arg10 fullShare (KN x1 x4) ∗ owns (c : Thread nD τ) arg11 fullShare (VN x2)) -∗ K ⟨⟩))
          ⊢ wp frame (wpE (defs₀ (F := F)) Variants.none c none) E (cc0__sb_attn_body i arg3 harg3 arg4 harg4 arg5 harg5 arg6 harg6 arg7 harg7 arg8 harg8 arg9 harg9 arg10 harg10 arg11 harg11) K := by
  simp only [cc0__sb_attn_body_eq_skeleton]; unfold cc0__sb_attn_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    exact out_eq c i arg3 harg3 arg4 harg4 arg5 harg5 arg6 harg6 arg7 harg7 arg8 harg8 arg9 harg9 arg10 harg10 arg11 harg11 x0 x3 x5 (KN x1 x4) (VN x2) f6 _ _ (scratch_k Variants.none c none i arg3 harg3 arg4 harg4 arg5 harg5 arg6 harg6 arg7 harg7 arg8 harg8 arg9 harg9 arg10 harg10 arg11 harg11 hc0 x1 x2 x4 fs0) (scratch_v Variants.none c none i arg3 harg3 arg4 harg4 arg5 harg5 arg6 harg6 arg7 harg7 arg8 harg8 arg9 harg9 arg10 harg10 arg11 harg11 hc0 x1 x2 x4 fs1)
  isplitl [HS0]
  · iexists _; isplitr; swap; · iexact HS0
    ipureintro
    exact (congrArg _ (scratch_k Variants.none c none i arg3 harg3 arg4 harg4 arg5 harg5 arg6 harg6 arg7 harg7 arg8 harg8 arg9 harg9 arg10 harg10 arg11 harg11 hc0 x1 x2 x4 fs0)).trans (harg10.read_unread _)
  iexists _; isplitr; swap; · iexact HS1
  ipureintro
  exact (congrArg _ (scratch_v Variants.none c none i arg3 harg3 arg4 harg4 arg5 harg5 arg6 harg6 arg7 harg7 arg8 harg8 arg9 harg9 arg10 harg10 arg11 harg11 hc0 x1 x2 x4 fs1)).trans (harg11.read_unread _)

end Cert.KernelIdeal.Attn

end
-- ==== Proof.AttnFrame.lean ====
module

public import proofs.«01_k».proof.Proof.AttnBody
public import Idealize.ShloMosaic.Lib.Claim

/-! The attention kernel over its whole grid: what every buffer holds after each grid point, the launch, and the frame. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

variable (m : (ℓ : Loc nD τ sig) → Buf (Elt F) ℓ) (ρ : Dev nD → PrngReg)

/-! ## What the scratch buffers hold -/

/-- The first grid point of a point's batch row and head: the one that fills the scratch buffers. -/
def base (n : ℕ) (hn : n < cfg0.N) : Fin cfg0.N := ⟨16 * (n / 16), lt_of_le_of_lt (Nat.mul_div_le n 16) hn⟩

/-- The normalized keys held after point `n`: those of the batch row and head of its first point. -/
def kS (c : Dev nD) (n : ℕ) (hn : n < cfg0.N) : Vec F S4096x128 .bf16 := KN (iblk m c 1 (base n hn)) (iblk m c 4 (base n hn))

/-- The values held after point `n`: those of the batch row and head of its first point. -/
def vS (c : Dev nD) (n : ℕ) (hn : n < cfg0.N) : Vec F S4096x128 .bf16 := VN (iblk m c 2 (base n hn))

theorem base_A (t : Fin cfg0.N) (h0 : t.val % 16 = 0) : base t.val t.isLt = t :=
  Fin.ext (show 16 * (t.val / 16) = t.val by omega)

theorem base_B (t : Fin cfg0.N) (h0 : ¬t.val % 16 = 0) :
    base t.val t.isLt = base (t.val - 1) (Nat.lt_of_le_of_lt (Nat.sub_le _ _) t.isLt) :=
  Fin.ext (show 16 * (t.val / 16) = 16 * ((t.val - 1) / 16) by omega)

/-- At a first point the keys are the point's own. -/
theorem kS_A (c : Dev nD) (t : Fin cfg0.N) (h0 : t.val % 16 = 0) :
    kS m c t.val t.isLt = KN (iblk m c 1 t) (iblk m c 4 t) := by unfold kS; rw [base_A t h0]

/-- At a first point the values are the point's own. -/
theorem vS_A (c : Dev nD) (t : Fin cfg0.N) (h0 : t.val % 16 = 0) :
    vS m c t.val t.isLt = VN (iblk m c 2 t) := by unfold vS; rw [base_A t h0]

/-- At a later point the keys are those of the point before. -/
theorem kS_B (c : Dev nD) (t : Fin cfg0.N) (h0 : ¬t.val % 16 = 0) :
    kS m c t.val t.isLt = kS m c (t.val - 1) (Nat.lt_of_le_of_lt (Nat.sub_le _ _) t.isLt) := by unfold kS; rw [base_B t h0]

/-- At a later point the values are those of the point before. -/
theorem vS_B (c : Dev nD) (t : Fin cfg0.N) (h0 : ¬t.val % 16 = 0) :
    vS m c t.val t.isLt = vS m c (t.val - 1) (Nat.lt_of_le_of_lt (Nat.sub_le _ _) t.isLt) := by unfold vS; rw [base_B t h0]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (kS m c n hn) ∗ owns (c : Thread nD τ) scM0_1 fullShare (vS m c n hn)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (kS m c n hn) ∗ owns (c : Thread nD τ) scM0_1 fullShare (vS m c n hn)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (kS m c (n - 1) (by omega)) ∗ owns (c : Thread nD τ) scM0_1 fullShare (vS m c (n - 1) (by omega))) ∗ (∃ r, prngReg c r)) := by
  cases n with
  | zero => exact absurd rfl hz
  | succ n => rfl

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (iblk m c 0 t) (iblk m c 3 t) (iblk m c 5 t) (kS m c t.val t.isLt) (vS m c t.val t.isLt) (grid0.coords t 2).val
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = OUT (iblk m c 0 t) (iblk m c 3 t) (iblk m c 5 t) (kS m c t.val t.isLt) (vS m c t.val t.isLt) (grid0.coords t 2).val := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point, from what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  by_cases h0 : t.val % 16 = 0
  · by_cases hz : t.val = 0
    · rw [PhiS_castSucc m c t, PhiS_zero m c _ _ hz, PhiA0_eq]
      rw [kS_A m c t h0, vS_A m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyA c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      rw [kS_A m c t h0, vS_A m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyA c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [PhiS_castSucc m c t, PhiS_pos m c _ _ hz]
    rw [kS_B m c t h0, vS_B m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (bodyB c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- the launch lemma's implicit arguments are found by unifying its conclusion with this one
set_option backward.isDefEq.respectTransparency.types false in
/-- The launch: the run ends with the kernel's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: every weakly fair execution terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Attn

end
-- ==== Proof.AttnBlocks.lean ====
module

public import proofs.«01_k».proof.Proof.AttnFrame
public import Idealize.ShloMosaic.Lib.Pipeline.ValueKit
public import Idealize.ShloMosaic.Lib.WordCmp

/-! The attention kernel's input blocks at an entry, as entries of the argument arrays. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Every window's block index at every grid point. -/
theorem idx : ∀ t : Fin cfg0.N, win0_0.index t = ![16 * (t.val / 128) + t.val % 16, t.val / 16 % 8]
    ∧ win0_1.index t = ![t.val / 128, 8 + t.val / 16 % 8]
    ∧ win0_2.index t = ![t.val / 128, 16 + t.val / 16 % 8]
    ∧ win0_3.index t = ![0, 0]
    ∧ win0_4.index t = ![0, 0]
    ∧ win0_5.index t = ![0, 0]
    ∧ win0_6.index t = ![16 * (t.val / 128) + t.val % 16, t.val / 16 % 8]
    ∧ (grid0.coords t 2).val = t.val % 16 :=
  (by decide +kernel : ∀ t : Fin grid0.N, _)

theorem tlt (t : Fin cfg0.N) : t.val < 512 := t.isLt

/-- The query block. -/
theorem blk0 (c : Dev nD) (t : Fin cfg0.N) (r : Fin 256) (d : Fin 128) :
    iblk m c 0 t (ix2 r d) = m ((c : Thread nD τ).loc main_arg0) (ix2 ⟨4096 * (t.val / 128) + (256 * (t.val % 16) + r.val), by have := tlt t; omega⟩ ⟨0 + 128 * (t.val / 16 % 8) + d.val, by omega⟩) := by
  obtain ⟨e0, e1, e2, e3, e4, e5, e6, e7⟩ := idx t
  blk_ext [iblk, V, e0]

/-- The keys. -/
theorem blk1 (c : Dev nD) (t : Fin cfg0.N) (r : Fin 4096) (d : Fin 128) :
    iblk m c 1 t (ix2 r d) = m ((c : Thread nD τ).loc main_arg0) (ix2 ⟨4096 * (t.val / 128) + r.val, by have := tlt t; omega⟩ ⟨1024 + 128 * (t.val / 16 % 8) + d.val, by omega⟩) := by
  obtain ⟨e0, e1, e2, e3, e4, e5, e6, e7⟩ := idx t
  blk_ext [iblk, V, e1]

/-- The values. -/
theorem blk2 (c : Dev nD) (t : Fin cfg0.N) (r : Fin 4096) (d : Fin 128) :
    iblk m c 2 t (ix2 r d) = m ((c : Thread nD τ).loc main_arg0) (ix2 ⟨4096 * (t.val / 128) + r.val, by have := tlt t; omega⟩ ⟨2048 + 128 * (t.val / 16 % 8) + d.val, by omega⟩) := by
  obtain ⟨e0, e1, e2, e3, e4, e5, e6, e7⟩ := idx t
  blk_ext [iblk, V, e2]

/-- The query norm's weight. -/
theorem blk3 (c : Dev nD) (t : Fin cfg0.N) (d : Fin 128) :
    iblk m c 3 t (ix2 0 d) = m ((c : Thread nD τ).loc main_arg1) (ix1 d) := by
  obtain ⟨e0, e1, e2, e3, e4, e5, e6, e7⟩ := idx t
  blk_simp [iblk, e3]
  entry_read
  pointwise
  blk_ext [e3]

/-- The key norm's weight. -/
theorem blk4 (c : Dev nD) (t : Fin cfg0.N) (d : Fin 128) :
    iblk m c 4 t (ix2 0 d) = m ((c : Thread nD τ).loc main_arg2) (ix1 d) := by
  obtain ⟨e0, e1, e2, e3, e4, e5, e6, e7⟩ := idx t
  blk_simp [iblk, e4]
  entry_read
  pointwise
  blk_ext [e4]

/-- The strict upper triangle. -/
theorem blk5 (c : Dev nD) (t : Fin cfg0.N) (k x : Fin 256) :
    iblk m c 5 t (ix2 ⟨k.val, by omega⟩ x) = if x.val < k.val then (1 : EReal) else 0 := by
  obtain ⟨e0, e1, e2, e3, e4, e5, e6, e7⟩ := idx t
  have E : ((cfg0.win 5).blk t).view.emb (ix2 ⟨k.val, by omega⟩ x) = ix2 ⟨k.val, by omega⟩ x := by blk_ext [e5]
  have hk : k.val < 256 := k.isLt
  have hx : x.val < 256 := x.isLt
  show V m c main_v8 (((cfg0.win 5).blk t).view.emb (ix2 ⟨k.val, by omega⟩ x)) = _
  rw [E]
  entry_read
  pointwise
  have e : IntOp.cmpi CmpIPredicate.sgt (BitVec.ofNat 32 k.val) (BitVec.ofNat 32 x.val) = if x.val < k.val then 1#1 else 0#1 := by
    word_cmp
    by_cases h : x.val < k.val <;> simp [h]
  refine (congrArg (FloatOps.uitofp (F := Ideal) FTy.bf16) e).trans ?_
  by_cases h : x.val < k.val
  · rw [if_pos h, if_pos h]; show (((1#1).toNat : ℝ) : EReal) = 1; norm_num
  · rw [if_neg h, if_neg h]; show (((0#1).toNat : ℝ) : EReal) = 0; norm_num

end Cert.KernelIdeal.Attn

end
-- ==== Proof.AttnRow.lean ====
module

public import proofs.«01_k».proof.Proof.AttnScratch
public import proofs.«01_k».proof.Proof.AttnMath

/-! One row of the block the attention kernel stores: the fold over the key blocks is the sum over all keys of weight times value. -/

@[expose] public section

set_option maxRecDepth 16384

noncomputable section

namespace Cert.KernelIdeal.Attn

open Cert.KernelIdeal.Gen Cert.StickBreaking
open Idealize.ShloMosaic Idealize.ShloMosaic.TcCoe Idealize.ShloMosaic.Tactic
open scoped BigOperators

/-- The scaled score of query row `r` and key row `c` of a block. -/
def zE (q : FVec Ideal S256x128 .bf16) (kb : Vec Ideal S256x128 .bf16) (r c : Fin 256) : EReal :=
  (∑ d : Fin 128, q (ix2 r d) * kb (ix2 c d)) * Ideal.ofBits .f32 0x3DB504F3#32

/-- A later block's running sum, read at a row. -/
theorem pay7_at (q : FVec Ideal S256x128 .bf16) (C : FVec Ideal S256x1 .f32) (kb : Vec Ideal S256x128 .bf16) (r : Fin 256) :
    k0_pay7 q C kb (ix2 r (0 : Fin 1)) = C (ix2 r (0 : Fin 1)) + ∑ x : Fin 256, lomE (zE q kb r x) := by
  pointwise [k0_pay7, k0_pay5, k0_pay4, lomE, zE]
  rfl

/-- A later block's accumulator, read at an entry. -/
theorem pay6_at (q : FVec Ideal S256x128 .bf16) (C : FVec Ideal S256x1 .f32) (A : FVec Ideal S256x128 .f32) (kb vb : Vec Ideal S256x128 .bf16)
    (x5 : Vec Ideal S512x256 .bf16) (r : Fin 256) (l : Fin 128) :
    k0_pay6 q C A kb x5 vb (ix2 r l) = A (ix2 r l) + ∑ x : Fin 256,
      Ideal.exp (zE q kb r x + lomE (zE q kb r x)
        + (∑ k : Fin 256, lomE (zE q kb r k) * x5 (ix2 ⟨k.val, by omega⟩ x)
          + ∑ k : Fin 256, (lomE (zE q kb r k) - lomE (zE q kb r k)) * x5 (ix2 ⟨256 + k.val, by omega⟩ x))
        + C (ix2 r (0 : Fin 1))) * vb (ix2 x l) := by
  pointwise [k0_pay6, k0_pay5, k0_pay4, lomE, zE]
  rfl

/-- A key of the diagonal block is before the query in its block. -/
def msk (x r : Fin 256) : BitVec 1 := IntOp.cmpi .slt (BitVec.ofNat 32 x.val) (BitVec.ofNat 32 r.val)

/-- The diagonal block's running sum, read at a row. -/
theorem pay3_at (x0 : Vec Ideal S256x128 .f32) (x3 : Vec Ideal S1x128 .f32) (kb : Vec Ideal S256x128 .bf16) (r : Fin 256) :
    k0_pay3 k0_pay16 k0_pay17 (k0_pay21 x0 x3 kb) (k0_pay22 x0 x3 kb) (ix2 r (0 : Fin 1))
      = ∑ x : Fin 256, Scalar.select (msk x r) (lomE (zE (k0_pay15 x0 x3) kb r x)) 0 := by
  generalize hq : k0_pay15 x0 x3 = q
  pointwise [k0_pay3, k0_pay1, k0_pay16, k0_pay17, k0_pay19, k0_pay20, k0_pay21, k0_pay22, hq, lomE, zE, msk]
  rfl

/-- The diagonal block's accumulator, read at an entry. -/
theorem pay2_at (x0 : Vec Ideal S256x128 .f32) (x3 : Vec Ideal S1x128 .f32) (kb vb : Vec Ideal S256x128 .bf16) (x5 : Vec Ideal S512x256 .bf16)
    (r : Fin 256) (l : Fin 128) :
    k0_pay2 k0_pay16 k0_pay17 k0_pay18 (k0_pay19 x0 x3 kb) (k0_pay21 x0 x3 kb) (k0_pay22 x0 x3 kb) x5 vb (ix2 r l)
      = ∑ x : Fin 256, Scalar.select (msk x r) (Ideal.exp (zE (k0_pay15 x0 x3) kb r x + Scalar.select (msk x r) (lomE (zE (k0_pay15 x0 x3) kb r x)) 0
        + (∑ k : Fin 256, Scalar.select (msk k r) (lomE (zE (k0_pay15 x0 x3) kb r k)) 0 * x5 (ix2 ⟨k.val, by omega⟩ x)
          + ∑ k : Fin 256, (Scalar.select (msk k r) (lomE (zE (k0_pay15 x0 x3) kb r k)) 0 - Scalar.select (msk k r) (lomE (zE (k0_pay15 x0 x3) kb r k)) 0)
              * x5 (ix2 ⟨256 + k.val, by omega⟩ x)))) 0 * vb (ix2 x l) := by
  generalize hq : k0_pay15 x0 x3 = q
  pointwise [k0_pay2, k0_pay1, k0_pay16, k0_pay17, k0_pay18, k0_pay19, k0_pay20, k0_pay21, k0_pay22, hq, lomE, zE, msk]
  rfl

/-- The mask is the order of the two positions. -/
theorem msk_eq (x r : Fin 256) (a b : EReal) : Scalar.select (msk x r) a b = if x.val < r.val then a else b := by
  have e : msk x r = if x.val < r.val then 1#1 else 0#1 := by
    unfold msk
    have hx : x.val < 256 := x.isLt
    have hr : r.val < 256 := r.isLt
    word_cmp
    by_cases h : x.val < r.val <;> simp [h]
  rw [e]
  by_cases h : x.val < r.val
  · rw [if_pos h, if_pos h]; rfl
  · rw [if_neg h, if_neg h]; rfl

/-- A real minus itself. -/
theorem coe_sub_self (a : ℝ) : (a : EReal) - (a : EReal) = 0 := by rw [← EReal.coe_sub, sub_self]; rfl

section Row

variable (z : ℕ → ℝ) (v : ℕ → EReal) (t n o : ℕ) (r : Fin 256) (l : Fin 128)
  (kb vb : Vec Ideal S256x128 .bf16) (x5 : Vec Ideal S512x256 .bf16)
  (hv : ∀ c : Fin 256, vb (ix2 c l) = v (o + c.val))
  (hu : ∀ k x : Fin 256, x5 (ix2 ⟨k.val, by omega⟩ x) = if x.val < k.val then 1 else 0)

/-- The running sum over a block all of whose keys are before the query. -/
theorem step_carry (q : FVec Ideal S256x128 .bf16) (hz : ∀ c : Fin 256, zE q kb r c = (z (o + c.val) : EReal))
    (C : FVec Ideal S256x1 .f32) (ho : o + 256 ≤ t) (hon : o + 256 ≤ n)
    (hC : C (ix2 r (0 : Fin 1)) = ((∑ s ∈ Finset.Ico (o + 256) n, lom z t s : ℝ) : EReal)) :
    k0_pay7 q C kb (ix2 r (0 : Fin 1)) = ((∑ s ∈ Finset.Ico o n, lom z t s : ℝ) : EReal) := by
  rw [pay7_at, hC]
  have h1 : ∀ x : Fin 256, lomE (zE q kb r x) = ((lom z t (o + x.val) : ℝ) : EReal) := by
    intro x
    have hx : x.val < 256 := x.isLt
    rw [hz, lomE_coe, lom, if_pos (by omega)]
  rw [Finset.sum_congr rfl fun x _ => h1 x, ← coe_sum, sum_block (fun s => lom z t s), ← EReal.coe_add, add_comm,
    Finset.sum_Ico_consecutive _ (Nat.le_add_right o 256) hon]

include hv hu in
/-- The accumulator over a block all of whose keys are before the query. -/
theorem step_acc (q : FVec Ideal S256x128 .bf16) (hz : ∀ c : Fin 256, zE q kb r c = (z (o + c.val) : EReal))
    (C : FVec Ideal S256x1 .f32) (A : FVec Ideal S256x128 .f32) (ho : o + 256 ≤ t) (hon : o + 256 ≤ n) (ht : t ≤ n) (hn : n ≤ 4096)
    (hC : C (ix2 r (0 : Fin 1)) = ((∑ s ∈ Finset.Ico (o + 256) n, lom z t s : ℝ) : EReal))
    (hA : A (ix2 r l) = ∑ s ∈ Finset.Ico (o + 256) n, wt z t s * v s) :
    k0_pay6 q C A kb x5 vb (ix2 r l) = ∑ s ∈ Finset.Ico o n, wt z t s * v s := by
  rw [pay6_at, hC, hA]
  have h1 : ∀ x : Fin 256, lomE (zE q kb r x) = ((lom z t (o + x.val) : ℝ) : EReal) := by
    intro x
    have hx : x.val < 256 := x.isLt
    rw [hz, lomE_coe, lom, if_pos (by omega)]
  have h2 : ∀ x : Fin 256, Ideal.exp (zE q kb r x + lomE (zE q kb r x)
        + (∑ k : Fin 256, lomE (zE q kb r k) * x5 (ix2 ⟨k.val, by omega⟩ x)
          + ∑ k : Fin 256, (lomE (zE q kb r k) - lomE (zE q kb r k)) * x5 (ix2 ⟨256 + k.val, by omega⟩ x))
        + ((∑ s ∈ Finset.Ico (o + 256) n, lom z t s : ℝ) : EReal)) * vb (ix2 x l) = wt z t (o + x.val) * v (o + x.val) := by
    intro x
    have hx : x.val < 256 := x.isLt
    simp only [h1]
    simp only [hz, hu, coe_sub_self, zero_mul, Finset.sum_const_zero, add_zero]
    rw [sum_block_gt (fun s => lom z t s) o x, exponent z t o n x hon ht hn (by omega), Ideal.exp_coe, hv]
    rw [wt, if_pos (by omega)]
  rw [Finset.sum_congr rfl fun x _ => h2 x, sum_block (fun s => wt z t s * v s), add_comm,
    Finset.sum_Ico_consecutive _ (Nat.le_add_right o 256) hon]

/-- The running sum over the diagonal block. -/
theorem init_carry (x0 : Vec Ideal S256x128 .f32) (x3 : Vec Ideal S1x128 .f32)
    (hz : ∀ c : Fin 256, zE (k0_pay15 x0 x3) kb r c = (z (o + c.val) : EReal)) (ht : t = o + r.val) :
    k0_pay3 k0_pay16 k0_pay17 (k0_pay21 x0 x3 kb) (k0_pay22 x0 x3 kb) (ix2 r (0 : Fin 1))
      = ((∑ s ∈ Finset.Ico o (o + 256), lom z t s : ℝ) : EReal) := by
  rw [pay3_at]
  have h1 : ∀ x : Fin 256, Scalar.select (msk x r) (lomE (zE (k0_pay15 x0 x3) kb r x)) 0 = ((lom z t (o + x.val) : ℝ) : EReal) := by
    intro x
    rw [msk_eq, hz, lomE_coe, lom]
    by_cases h : x.val < r.val
    · rw [if_pos h, if_pos (by omega)]
    · rw [if_neg h, if_neg (by omega)]; rfl
  rw [Finset.sum_congr rfl fun x _ => h1 x, ← coe_sum, sum_block (fun s => lom z t s)]

include hv hu in
/-- The accumulator over the diagonal block. -/
theorem init_acc (x0 : Vec Ideal S256x128 .f32) (x3 : Vec Ideal S1x128 .f32)
    (hz : ∀ c : Fin 256, zE (k0_pay15 x0 x3) kb r c = (z (o + c.val) : EReal)) (ht : t = o + r.val) (hn : o + 256 ≤ 4096) :
    k0_pay2 k0_pay16 k0_pay17 k0_pay18 (k0_pay19 x0 x3 kb) (k0_pay21 x0 x3 kb) (k0_pay22 x0 x3 kb) x5 vb (ix2 r l)
      = ∑ s ∈ Finset.Ico o (o + 256), wt z t s * v s := by
  rw [pay2_at]
  have hr : r.val < 256 := r.isLt
  have h1 : ∀ x : Fin 256, Scalar.select (msk x r) (lomE (zE (k0_pay15 x0 x3) kb r x)) 0 = ((lom z t (o + x.val) : ℝ) : EReal) := by
    intro x
    rw [msk_eq, hz, lomE_coe, lom]
    by_cases h : x.val < r.val
    · rw [if_pos h, if_pos (by omega)]
    · rw [if_neg h, if_neg (by omega)]; rfl
  simp only [h1]
  have h2 : ∀ x : Fin 256, Scalar.select (msk x r) (Ideal.exp (zE (k0_pay15 x0 x3) kb r x + ((lom z t (o + x.val) : ℝ) : EReal)
        + (∑ k : Fin 256, ((lom z t (o + k.val) : ℝ) : EReal) * x5 (ix2 ⟨k.val, by omega⟩ x)
          + ∑ k : Fin 256, (((lom z t (o + k.val) : ℝ) : EReal) - ((lom z t (o + k.val) : ℝ) : EReal))
              * x5 (ix2 ⟨256 + k.val, by omega⟩ x)))) 0 * vb (ix2 x l) = wt z t (o + x.val) * v (o + x.val) := by
    intro x
    rw [msk_eq, hv]
    by_cases h : x.val < r.val
    · rw [if_pos h]
      simp only [hz, hu, coe_sub_self, zero_mul, Finset.sum_const_zero, add_zero]
      have e := exponent z t o (o + 256) x le_rfl (by omega) hn (by omega)
      rw [Finset.Ico_self, Finset.sum_empty, EReal.coe_zero, add_zero] at e
      rw [sum_block_gt (fun s => lom z t s) o x, e, Ideal.exp_coe]
      rw [wt, if_pos (by omega)]
    · rw [if_neg h, wt, if_neg (by omega)]
  rw [Finset.sum_congr rfl fun x _ => h2 x, sum_block (fun s => wt z t s * v s)]

end Row

/-- Rows `o` on of a block, read at an entry. -/
theorem chunk_at {e : EltTy} (X : Vec Ideal S4096x128 e) (o : ℕ) (ho : o + 256 ≤ 4096) (c : Fin 256) (d : Fin 128) :
    chunk X o (ix2 c d) = X (ix2 ⟨o + c.val, by omega⟩ d) := by
  have hc : c.val < 256 := c.isLt
  show X (ix2 ⟨(o + c.val) % 4096, _⟩ d) = _
  congr 2
  exact Fin.ext (Nat.mod_eq_of_lt (by omega))

/-- THE ROW: at query block `j` and row `r`, the scores of the query against the keys being the reals `z`, the stored block's
    entry is the sum over all keys of weight times value. -/
theorem OUT_at (x0 : Vec Ideal S256x128 .f32) (x3 : Vec Ideal S1x128 .f32) (x5 : Vec Ideal S512x256 .bf16) (kn vn : Vec Ideal S4096x128 .bf16)
    (j : ℕ) (hj : j < 16) (r : Fin 256) (l : Fin 128) (z : ℕ → ℝ)
    (hz : ∀ s : Fin 4096, (∑ d : Fin 128, k0_pay15 x0 x3 (ix2 r d) * kn (ix2 s d)) * Ideal.ofBits .f32 0x3DB504F3#32 = (z s.val : EReal))
    (hu : ∀ k x : Fin 256, x5 (ix2 ⟨k.val, by omega⟩ x) = if x.val < k.val then 1 else 0) :
    OUT x0 x3 x5 kn vn j (ix2 r l) = ∑ s : Fin 4096, wt z (256 * j + r.val) s.val * vn (ix2 s l) := by
  have hr : r.val < 256 := r.isLt
  let v : ℕ → EReal := fun s => vn (ix2 ⟨s % 4096, Nat.mod_lt _ (by decide)⟩ l)
  have hvs : ∀ s : Fin 4096, v s.val = vn (ix2 s l) := fun s => by
    show vn (ix2 ⟨s.val % 4096, _⟩ l) = _
    congr 2
    exact Fin.ext (Nat.mod_eq_of_lt s.isLt)
  have hzb : ∀ o, o + 256 ≤ 4096 → ∀ c : Fin 256, zE (k0_pay15 x0 x3) (chunk kn o) r c = (z (o + c.val) : EReal) := fun o ho c => by
    rw [← hz ⟨o + c.val, by omega⟩]
    unfold zE
    simp only [chunk_at kn o ho]
  have hvb : ∀ o, o + 256 ≤ 4096 → ∀ c : Fin 256, chunk vn o (ix2 c l) = v (o + c.val) := fun o ho c => by
    rw [chunk_at vn o ho, ← hvs]
  have key : ∀ n, n ≤ j →
      (foldF x0 x3 x5 kn vn j n).1 (ix2 r (0 : Fin 1)) = ((∑ s ∈ Finset.Ico (256 * (j - n)) (256 * j + 256), lom z (256 * j + r.val) s : ℝ) : EReal)
      ∧ (foldF x0 x3 x5 kn vn j n).2 (ix2 r l) = ∑ s ∈ Finset.Ico (256 * (j - n)) (256 * j + 256), wt z (256 * j + r.val) s * v s := by
    intro n
    induction n with
    | zero =>
      intro _
      exact ⟨init_carry z _ (256 * j) r (chunk kn (256 * j)) x0 x3 (hzb _ (by omega)) rfl,
        init_acc z v _ (256 * j) r l (chunk kn (256 * j)) (chunk vn (256 * j)) x5 (hvb _ (by omega)) hu x0 x3 (hzb _ (by omega)) rfl (by omega)⟩
    | succ n ih =>
      intro hn
      obtain ⟨hC, hA⟩ := ih (by omega)
      have ho : 256 * (j - n) = 256 * (j - 1 - n) + 256 := by omega
      rw [show 256 * (j - (n + 1)) = 256 * (j - 1 - n) by omega]
      rw [ho] at hC hA
      exact ⟨step_carry z _ (256 * j + 256) (256 * (j - 1 - n)) r _ _ (hzb _ (by omega)) _ (by omega) (by omega) hC,
        step_acc z v _ (256 * j + 256) (256 * (j - 1 - n)) r l _ _ x5 (hvb _ (by omega)) hu _ (hzb _ (by omega)) _ _ (by omega) (by omega) (by omega) (by omega) hC hA⟩
  have e := (key j le_rfl).2
  rw [Nat.sub_self, Nat.mul_zero, sum_wt z v _ _ (by omega) (by omega)] at e
  unfold OUT k0_pay12
  refine Eq.trans ?_ (e.trans (Finset.sum_congr rfl fun s _ => by rw [hvs s]))
  rfl

end Cert.KernelIdeal.Attn

end
-- ==== Proof.AttnNorm.lean ====
module

public import proofs.«01_k».proof.Proof.AttnRef

/-! An RMS-normalized row is real under a real weight, and the reference's weights at an entry. -/

@[expose] public section

set_option maxRecDepth 16384

noncomputable section

namespace Cert.StickBreaking

open Idealize.ShloMosaic
open scoped BigOperators

theorem lanes_coe : Ideal.ofBits .f32 0x43000000#32 = ((128 : ℝ) : EReal) := by
  simp [Ideal.ofBits, Ideal.ieee]
  rw [← EReal.coe_mul]
  norm_num

theorem eps_coe : ∃ e : ℝ, 0 < e ∧ Ideal.ofBits .f32 0x358637BD#32 = (e : EReal) := by
  refine ⟨_, ?_, by simp [Ideal.ofBits, Ideal.ieee]; rfl⟩
  positivity

theorem scale_coe : ∃ e : ℝ, Ideal.ofBits .f32 0x3DB504F3#32 = (e : EReal) := by
  exact ⟨_, by simp [Ideal.ofBits, Ideal.ieee]; rfl⟩

/-- A square is not negative. -/
theorem mul_self_nonneg' (x : EReal) : 0 ≤ x * x := by
  induction x with
  | bot => simp
  | top => simp
  | coe r => rw [← EReal.coe_mul]; exact_mod_cast mul_self_nonneg r

/-- An entry of an RMS-normalized row is real: an infinite row normalizes to zero. -/
theorem norm_real (x : Fin 128 → EReal) (w : EReal) (hw : ∃ r : ℝ, w = r) (l : Fin 128) :
    ∃ r : ℝ, x l * Ideal.rsqrt (Ideal.div (∑ e : Fin 128, x e * x e) (Ideal.ofBits .f32 0x43000000#32) + Ideal.ofBits .f32 0x358637BD#32) * w = (r : EReal) := by
  obtain ⟨w, rfl⟩ := hw
  obtain ⟨ε, he, h2⟩ := eps_coe
  rw [lanes_coe, h2, Ideal.div_coe (by norm_num)]
  by_cases hx : ∀ e, ∃ r : ℝ, x e = r
  · choose y hy using hx
    have hs : ∑ e : Fin 128, x e * x e = ((∑ e : Fin 128, y e * y e : ℝ) : EReal) := by
      rw [coe_sum]; exact Finset.sum_congr rfl fun e _ => by rw [hy, EReal.coe_mul]
    have hp : 0 < (∑ e : Fin 128, y e * y e) * (1 / 128) + ε := by
      have : 0 ≤ ∑ e : Fin 128, y e * y e := Finset.sum_nonneg fun e _ => mul_self_nonneg _
      positivity
    refine ⟨y l * (Real.sqrt ((∑ e : Fin 128, y e * y e) * (1 / 128) + ε))⁻¹ * w, ?_⟩
    rw [hs, ← EReal.coe_mul, ← EReal.coe_add, Ideal.rsqrt_coe, if_neg (not_lt.mpr hp.le), if_neg hp.ne', hy, ← EReal.coe_mul, ← EReal.coe_mul]
  · obtain ⟨e, hne⟩ := not_forall.mp hx
    have htop : x e * x e = ⊤ := by
      revert hne
      induction x e with
      | bot => intro _; rfl
      | top => intro _; rfl
      | coe r => intro h; exact absurd ⟨r, rfl⟩ h
    have hs : ∑ e : Fin 128, x e * x e = ⊤ := by
      refine top_le_iff.mp (htop ▸ ?_)
      exact Finset.single_le_sum (f := fun e => x e * x e) (fun i _ => mul_self_nonneg' _) (Finset.mem_univ e)
    refine ⟨0, ?_⟩
    rw [hs, EReal.top_mul_of_pos (by exact_mod_cast (by norm_num : (0:ℝ) < 1 / 128)), EReal.top_add_coe, Ideal.rsqrt_top, mul_zero, zero_mul]
    rfl

/-- A sum from `s` on, as the window's sum. -/
theorem sum_window (f : ℕ → ℝ) (s : ℕ) (hs : s < 4096) :
    ∑ k : Fin 4096, (if s + k.val < 4096 then f (s + k.val) else 0) = ∑ i ∈ Finset.Ico s 4096, f i := by
  rw [← Finset.sum_range (fun k => if s + k < 4096 then f (s + k) else 0), ← Finset.sum_filter, Finset.sum_Ico_eq_sum_range]
  refine Finset.sum_congr ?_ fun _ _ => rfl
  ext k
  simp only [Finset.mem_filter, Finset.mem_range]
  omega

end Cert.StickBreaking

namespace Cert.ReferenceIdeal.Attn

open Cert.ReferenceIdeal Cert.ReferenceIdeal.Gen Cert.StickBreaking
open Idealize.ShloMosaic Idealize.ShloMosaic.TcCoe Idealize.ShloMosaic.Tactic
open scoped BigOperators

theorem rms_real (x : H4) (w : FVec Ideal S128 .f32) (hw : ∀ d : Fin 128, ∃ r : ℝ, w (ix1 d) = r) (b : Fin 4) (h : Fin 8) (t : Fin 4096) (d : Fin 128) :
    ∃ r : ℝ, rms x w (ix4 b h t d) = (r : EReal) := by
  rw [rms_at]
  exact norm_real (fun e => x (ix4 b h t e)) _ (hw d) d

/-- Scores of real heads are real. -/
theorem scores_real (q k : H4) (hq : ∀ b h t d, ∃ r : ℝ, q (ix4 b h t d) = (r : EReal)) (hk : ∀ b h t d, ∃ r : ℝ, k (ix4 b h t d) = (r : EReal))
    (b : Fin 4) (h : Fin 8) (t s : Fin 4096) : ∃ r : ℝ, scores q k (ix4 b h t s) = (r : EReal) := by
  choose f hf using hq
  choose g hg using hk
  obtain ⟨e, he⟩ := scale_coe
  refine ⟨(∑ d : Fin 128, f b h t d * g b h s d) * e, ?_⟩
  rw [scores_at, he, EReal.coe_mul, coe_sum]
  congr 1
  exact Finset.sum_congr rfl fun d _ => by rw [hf, hg, EReal.coe_mul]

variable (Z : T4) (b : Fin 4) (h : Fin 8) (t : Fin 4096) (z : ℕ → ℝ) (hz : ∀ s : Fin 4096, Z (ix4 b h t s) = (z s.val : EReal))
include hz

theorem logom_at (s : Fin 4096) : logom Z (ix4 b h t s) = (lom z t s : EReal) := by
  show Scalar.select (mask (ix4 b h t s)) (logsig (Host.negf Z) (ix4 b h t s)) (zero4 (ix4 b h t s)) = _
  rw [mask_at, logsig_at, show Host.negf Z (ix4 b h t s) = -(Z (ix4 b h t s)) from rfl, hz, ← EReal.coe_neg, lsE_coe, lsR_neg,
    show zero4 (ix4 b h t s) = (0 : EReal) from Ideal.ofBits_zero .f32]
  unfold lom
  split <;> rfl

theorem weights_at (s : Fin 4096) : weights Z (logom Z) (ix4 b h t s) = wt z t s := by
  show Scalar.select (mask (ix4 b h t s)) (Ideal.exp (logsig Z (ix4 b h t s) + (suffix (logom Z) (ix4 b h t s) - logom Z (ix4 b h t s)))) (zero4 (ix4 b h t s)) = _
  have hsuf : suffix (logom Z) (ix4 b h t s) = ((∑ i ∈ Finset.Ico s.val 4096, lom z t i : ℝ) : EReal) := by
    rw [suffix_at, ← sum_window _ _ s.isLt, coe_sum]
    refine Finset.sum_congr rfl fun k _ => ?_
    by_cases hk : s.val + k.val < 4096
    · rw [dif_pos hk, if_pos hk, logom_at Z b h t z hz]
    · rw [dif_neg hk, if_neg hk]; rfl
  rw [mask_at, logsig_at, hsuf, logom_at Z b h t z hz, hz, lsE_coe, ← EReal.coe_sub, ← EReal.coe_add, Ideal.exp_coe,
    show zero4 (ix4 b h t s) = (0 : EReal) from Ideal.ofBits_zero .f32]
  unfold wt rest
  rw [Finset.sum_eq_sum_Ico_succ_bot s.isLt, add_sub_cancel_left]

end Cert.ReferenceIdeal.Attn

end
-- ==== Proof.AttnValue.lean ====
module

public import proofs.«01_k».proof.Proof.AttnBlocks
public import proofs.«01_k».proof.Proof.AttnRow
public import proofs.«01_k».proof.Proof.AttnNorm

/-! The attention kernel's result array is the reference attention of its arguments. -/

@[expose] public section

set_option maxRecDepth 16384

noncomputable section

namespace Cert.KernelIdeal.Attn

open Cert.KernelIdeal Cert.KernelIdeal.Gen Cert.StickBreaking
open Idealize.ShloMosaic Idealize.ShloMosaic.TcCoe Idealize.ShloMosaic.Tactic Idealize.SL.Sem
open Idealize.ShloMosaic.Pipeline (Dat)
open scoped BigOperators

/-- A query entry of a block. -/
theorem pay15_at (x0 : Vec Ideal S256x128 .f32) (x3 : Vec Ideal S1x128 .f32) (r : Fin 256) (d : Fin 128) :
    k0_pay15 x0 x3 (ix2 r d) = x0 (ix2 r d) * Ideal.rsqrt (Ideal.div (∑ e : Fin 128, x0 (ix2 r e) * x0 (ix2 r e)) (Ideal.ofBits .f32 0x43000000#32) + Ideal.ofBits .f32 0x358637BD#32) * x3 (ix2 0 d) := by
  pointwise [k0_pay15]
  try rfl

/-- A normalized key. -/
theorem pay13_at (x0 : Vec Ideal S256x128 .f32) (x3 : Vec Ideal S1x128 .f32) (r : Fin 256) (d : Fin 128) :
    k0_pay13 x0 x3 (ix2 r d) = x0 (ix2 r d) * Ideal.rsqrt (Ideal.div (∑ e : Fin 128, x0 (ix2 r e) * x0 (ix2 r e)) (Ideal.ofBits .f32 0x43000000#32) + Ideal.ofBits .f32 0x358637BD#32) * x3 (ix2 0 d) := by
  pointwise [k0_pay13]
  try rfl

theorem pay14_at (x : Vec Ideal S256x128 .f32) (r : Fin 256) (d : Fin 128) : k0_pay14 x (ix2 r d) = x (ix2 r d) := by
  pointwise [k0_pay14]
  try rfl

/-- The row of the chunk that holds row `s`, read there, is row `s`. -/
theorem chunk_row {e : EltTy} (X : Vec Ideal S4096x128 e) (s : Fin 4096) (d : Fin 128) :
    chunk X (256 * (s.val / 256)) (ix2 ⟨s.val % 256, Nat.mod_lt _ (by decide)⟩ d) = X (ix2 s d) := by
  have hs : s.val < 4096 := s.isLt
  rw [chunk_at X _ (by omega)]
  congr 2
  exact Fin.ext (show 256 * (s.val / 256) + s.val % 256 = s.val by omega)

theorem KN_at (x1 : Vec Ideal S4096x128 .f32) (x4 : Vec Ideal S1x128 .f32) (s : Fin 4096) (d : Fin 128) :
    KN x1 x4 (ix2 s d) = x1 (ix2 s d) * Ideal.rsqrt (Ideal.div (∑ e : Fin 128, x1 (ix2 s e) * x1 (ix2 s e)) (Ideal.ofBits .f32 0x43000000#32) + Ideal.ofBits .f32 0x358637BD#32) * x4 (ix2 0 d) := by
  show k0_pay13 (chunk x1 (256 * (s.val / 256))) x4 (ix2 ⟨s.val % 256, Nat.mod_lt _ (by decide)⟩ d) = _
  rw [pay13_at]
  simp only [chunk_row]

theorem VN_at (x2 : Vec Ideal S4096x128 .f32) (s : Fin 4096) (d : Fin 128) : VN x2 (ix2 s d) = x2 (ix2 s d) := by
  show k0_pay14 (chunk x2 (256 * (s.val / 256))) (ix2 ⟨s.val % 256, Nat.mod_lt _ (by decide)⟩ d) = _
  rw [pay14_at, chunk_row]

variable (m : (ℓ : Loc nD τ sig) → Buf (Elt Ideal) ℓ) (c : Dev nD)

/-- The projected activations. -/
abbrev A0 : FVec Ideal S16384x15360 .f32 := m ((c : Thread nD τ).loc main_arg0)
/-- The query norm's weight. -/
abbrev A1 : FVec Ideal S128 .f32 := m ((c : Thread nD τ).loc main_arg1)
/-- The key norm's weight. -/
abbrev A2 : FVec Ideal S128 .f32 := m ((c : Thread nD τ).loc main_arg2)

open Cert.ReferenceIdeal.Attn (heads rms scores weights logom merged REF heads_at rms_at scores_at weights_at merged_at rms_real scores_real)

/-- The reference's normalized queries. -/
abbrev Q : Cert.ReferenceIdeal.Attn.H4 := rms (heads 0 Cert.ReferenceIdeal.Gen.slices_S4x4096x15360_S4x4096x1024_0_0_0 (A0 m c)) (A1 m c)
/-- The reference's normalized keys. -/
abbrev K : Cert.ReferenceIdeal.Attn.H4 := rms (heads 1024 Cert.ReferenceIdeal.Gen.slices_S4x4096x15360_S4x4096x1024_0_0_1024 (A0 m c)) (A2 m c)
/-- The reference's values. -/
abbrev VV : Cert.ReferenceIdeal.Attn.H4 := heads 2048 Cert.ReferenceIdeal.Gen.slices_S4x4096x15360_S4x4096x1024_0_0_2048 (A0 m c)

/-- A point's batch row. -/
def pb (t : Fin cfg0.N) : Fin 4 := ⟨t.val / 128, by have := tlt t; omega⟩
/-- A point's head. -/
def ph (t : Fin cfg0.N) : Fin 8 := ⟨t.val / 16 % 8, by omega⟩
/-- The position of row `r` of a point's query block. -/
def pq (t : Fin cfg0.N) (r : Fin 256) : Fin 4096 := ⟨256 * (t.val % 16) + r.val, by omega⟩

theorem q_at (t : Fin cfg0.N) (r : Fin 256) (d : Fin 128) :
    k0_pay15 (iblk m c 0 t) (iblk m c 3 t) (ix2 r d) = Q m c (ix4 (pb t) (ph t) (pq t r) d) := by
  have hb : ∀ e : Fin 128, iblk m c 0 t (ix2 r e) = heads 0 Cert.ReferenceIdeal.Gen.slices_S4x4096x15360_S4x4096x1024_0_0_0 (A0 m c) (ix4 (pb t) (ph t) (pq t r) e) := fun e =>
    (blk0 m c t r e).trans (heads_at 0 _ (A0 m c) (by omega) (pb t) (ph t) (pq t r) e).symm
  refine (pay15_at _ _ r d).trans (Eq.trans ?_ (rms_at _ _ (pb t) (ph t) (pq t r) d).symm)
  rw [show iblk m c 3 t (ix2 0 d) = A1 m c (ix1 d) from blk3 m c t d]
  simp only [hb]

theorem base_val (t : Fin cfg0.N) : pb (base t.val t.isLt) = pb t ∧ ph (base t.val t.isLt) = ph t := by
  have ht := tlt t
  constructor
  · exact Fin.ext (show 16 * (t.val / 16) / 128 = t.val / 128 by omega)
  · exact Fin.ext (show 16 * (t.val / 16) / 16 % 8 = t.val / 16 % 8 by omega)

theorem k_at (t : Fin cfg0.N) (s : Fin 4096) (d : Fin 128) :
    kS m c t.val t.isLt (ix2 s d) = K m c (ix4 (pb t) (ph t) s d) := by
  rw [← (base_val t).1, ← (base_val t).2]
  unfold kS
  generalize base t.val t.isLt = u
  have hb : ∀ e : Fin 128, iblk m c 1 u (ix2 s e) = heads 1024 Cert.ReferenceIdeal.Gen.slices_S4x4096x15360_S4x4096x1024_0_0_1024 (A0 m c) (ix4 (pb u) (ph u) s e) := fun e =>
    (blk1 m c u s e).trans (heads_at 1024 _ (A0 m c) (by omega) (pb u) (ph u) s e).symm
  refine (KN_at _ _ s d).trans (Eq.trans ?_ (rms_at _ _ (pb u) (ph u) s d).symm)
  rw [show iblk m c 4 u (ix2 0 d) = A2 m c (ix1 d) from blk4 m c u d]
  simp only [hb]

theorem v_at (t : Fin cfg0.N) (s : Fin 4096) (d : Fin 128) :
    vS m c t.val t.isLt (ix2 s d) = VV m c (ix4 (pb t) (ph t) s d) := by
  rw [← (base_val t).1, ← (base_val t).2]
  unfold vS
  generalize base t.val t.isLt = u
  exact (VN_at _ s d).trans ((blk2 m c u s d).trans (heads_at 2048 _ (A0 m c) (by omega) (pb u) (ph u) s d).symm)

/-- POINT: the block stored at a grid point, at a row and lane, is the reference at the place it is written to. -/
theorem point (h1 : ∀ d : Fin 128, ∃ r : ℝ, A1 m c (ix1 d) = r) (h2 : ∀ d : Fin 128, ∃ r : ℝ, A2 m c (ix1 d) = r)
    (t : Fin cfg0.N) (r : Fin 256) (l : Fin 128) :
    OUT (iblk m c 0 t) (iblk m c 3 t) (iblk m c 5 t) (kS m c t.val t.isLt) (vS m c t.val t.isLt) (t.val % 16) (ix2 r l)
      = REF (A0 m c) (A1 m c) (A2 m c) (ix2 ⟨4096 * (pb t).val + (pq t r).val, by omega⟩ ⟨128 * (ph t).val + l.val, by omega⟩) := by
  have hq := rms_real (heads 0 Cert.ReferenceIdeal.Gen.slices_S4x4096x15360_S4x4096x1024_0_0_0 (A0 m c)) (A1 m c) h1
  have hk := rms_real (heads 1024 Cert.ReferenceIdeal.Gen.slices_S4x4096x15360_S4x4096x1024_0_0_1024 (A0 m c)) (A2 m c) h2
  choose zz hzz using fun s => scores_real (Q m c) (K m c) hq hk (pb t) (ph t) (pq t r) s
  let z : ℕ → ℝ := fun s => zz ⟨s % 4096, Nat.mod_lt _ (by decide)⟩
  have hz : ∀ s : Fin 4096, scores (Q m c) (K m c) (ix4 (pb t) (ph t) (pq t r) s) = (z s.val : EReal) := fun s => by
    rw [hzz s]
    show _ = ((zz ⟨s.val % 4096, _⟩ : ℝ) : EReal)
    congr 2
    exact Fin.ext (Nat.mod_eq_of_lt s.isLt).symm
  refine (OUT_at _ _ _ _ _ (t.val % 16) (by omega) r l z ?_ (blk5 m c t)).trans ?_
  · intro s
    rw [← hz s, scores_at]
    simp only [q_at, k_at]
  · refine Eq.trans ?_ (merged_at _ _ (pb t) (ph t) (pq t r) l).symm
    refine Finset.sum_congr rfl fun s _ => ?_
    rw [v_at, weights_at _ _ _ _ z hz]
    rfl

/-- THE RESULT ARRAY after the run is the reference of the arguments, the norm weights being real. -/
theorem final (h1 : ∀ d : Fin 128, ∃ r : ℝ, A1 m c (ix1 d) = r) (h2 : ∀ d : Fin 128, ∃ r : ℝ, A2 m c (ix1 d) = r) :
    (dats m 0 c).arrAt 6 (cfgs 0).N = REF (A0 m c) (A1 m c) (A2 m c) := by
  refine (dats m 0 c).arrAt_eq_of_covers 6 _ (by decide +kernel) fun t _ y => ?_
  blk_simp
  rw [after0_6]
  obtain ⟨e0, e1, e2, e3, e4, e5, e6, e7⟩ := idx t
  rw [e7]
  obtain ⟨r, l, rfl⟩ : ∃ (r : Fin 256) (l : Fin 128), y = ix2 r l := ⟨y 0, y 1, eq_ix2 y⟩
  refine (point m c h1 h2 t r l).trans (congrArg (REF (A0 m c) (A1 m c) (A2 m c)) ?_)
  unfold pb pq ph
  blk_ext [e6]

end Cert.KernelIdeal.Attn

end
-- ==== Proof.MergeValue.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Claim

/-! The merge kernel's result array is the reference merge of its arguments. -/

@[expose] public section

set_option maxRecDepth 16384

noncomputable section

/-! ## The reference, stage by stage -/

namespace Cert.MergeRefIdeal.Mix

open Cert.MergeRefIdeal Cert.MergeRefIdeal.Gen
open Idealize.ShloMosaic Idealize.ShloMosaic.TcCoe Idealize.ShloMosaic.Tactic
open scoped BigOperators

/-- The sigmoid of the 2048 columns from `o`. -/
def gate (o : ℕ) (hs : S16384x15360.Slices ![0, o] S16384x2048) (a1 : FVec Ideal S16384x15360 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, o] a1 hs))))

/-- One branch's projection to the model's width. -/
def branch (x : FVec Ideal S16384x1024 .bf16) (w : FVec Ideal S1024x2048 .f32) : FVec Ideal S16384x2048 .f32 :=
  Host.dotGeneral dot_S16384x1024_S1024x2048_S16384x2048_1_0_0_1_n_n none (extf .f32 x bitsLt_bf16_f32) w

/-- The three branches, gated and added. -/
def mix (a1 : FVec Ideal S16384x15360 .f32) (a2 a3 a4 : FVec Ideal S16384x1024 .bf16) (a5 a6 a7 : FVec Ideal S1024x2048 .f32) : FVec Ideal S16384x2048 .f32 :=
  addf (addf (mulf (gate 9216 slices_S16384x15360_S16384x2048_0_9216 a1) (branch a2 a5)) (mulf (gate 11264 slices_S16384x15360_S16384x2048_0_11264 a1) (branch a3 a6))) (mulf (gate 13312 slices_S16384x15360_S16384x2048_0_13312 a1) (branch a4 a7))

/-- The reference as a function of its arguments. -/
def REF (a0 : FVec Ideal S16384x2048 .f32) (a1 : FVec Ideal S16384x15360 .f32) (a2 a3 a4 : FVec Ideal S16384x1024 .bf16) (a5 a6 a7 : FVec Ideal S1024x2048 .f32) (a8 : FVec Ideal S2048x2048 .f32) : FVec Ideal S16384x2048 .f32 :=
  addf a0 (Host.dotGeneral dot_S16384x2048_S2048x2048_S16384x2048_1_0_0_1_n_n none (mix a1 a2 a3 a4 a5 a6 a7) a8)

theorem REF_at (a0 : FVec Ideal S16384x2048 .f32) (a1 : FVec Ideal S16384x15360 .f32) (a2 a3 a4 : FVec Ideal S16384x1024 .bf16) (a5 a6 a7 : FVec Ideal S1024x2048 .f32) (a8 : FVec Ideal S2048x2048 .f32) (r : Fin 16384) (n : Fin 2048) :
    REF a0 a1 a2 a3 a4 a5 a6 a7 a8 (ix2 r n) = (a0 (ix2 r n) + ∑ k : Fin 1024, mix a1 a2 a3 a4 a5 a6 a7 (ix2 r ⟨k.val, by omega⟩) * a8 (ix2 ⟨k.val, by omega⟩ n))
      + ∑ k : Fin 1024, mix a1 a2 a3 a4 a5 a6 a7 (ix2 r ⟨1024 + k.val, by omega⟩) * a8 (ix2 ⟨1024 + k.val, by omega⟩ n) := by
  have e : REF a0 a1 a2 a3 a4 a5 a6 a7 a8 (ix2 r n) = a0 (ix2 r n) + ∑ k : Fin 2048, mix a1 a2 a3 a4 a5 a6 a7 (ix2 r k) * a8 (ix2 k n) := by
    pointwise [REF]
  rw [e, add_assoc]
  congr 1
  exact Fin.sum_univ_add (M := EReal) (a := 1024) (b := 1024) (fun k : Fin (1024 + 1024) => mix a1 a2 a3 a4 a5 a6 a7 (ix2 r k) * a8 (ix2 k n))

end Cert.MergeRefIdeal.Mix

/-! ## The kernel -/

namespace Cert.MergeIdeal.Mix

open Cert.MergeIdeal Cert.MergeIdeal.Gen
open Idealize.ShloMosaic Idealize.ShloMosaic.TcCoe Idealize.ShloMosaic.Tactic Idealize.SL.Sem
open Idealize.ShloMosaic.Pipeline (Dat)
open Cert.MergeRefIdeal.Mix (REF REF_at mix gate branch)
open scoped BigOperators

variable (m : (ℓ : Loc nD τ sig) → Buf (Elt Ideal) ℓ) (c : Dev nD)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 9]
    ∧ win0_5.index t = ![t.val, 10]
    ∧ win0_6.index t = ![t.val, 11]
    ∧ win0_7.index t = ![t.val, 12]
    ∧ win0_8.index t = ![t.val, 13]
    ∧ win0_9.index t = ![t.val, 14]
    ∧ win0_10.index t = ![0, 0]
    ∧ win0_11.index t = ![0, 0]
    ∧ win0_12.index t = ![0, 0]
    ∧ win0_13.index t = ![0, 0]
    ∧ win0_14.index t = ![t.val, 0] :=
  (by decide +kernel : ∀ t : Fin grid0.N, _)

/-- POINT: what the body stores is the reference at the place it is written to. -/
theorem point (t : Fin cfg0.N) (y) :
    k0_pay1 (k0_pay5 (iblk m c 0 t) (k0_pay2 (iblk m c 4 t) (iblk m c 1 t) (View.ld (iblk m c 10 t) r0_2) (iblk m c 6
      t) (iblk m c 2 t) (View.ld (iblk m c 11 t) r0_2)) (k0_pay3 (iblk m c 8 t)) (k0_pay4 (F := Ideal)) (iblk m c 3 t)
      (View.ld (iblk m c 12 t) r0_2) (View.ld (iblk m c 13 t) r0_3)) (k0_pay6 (iblk m c 5 t) (iblk m c 1 t) (View.ld
      (iblk m c 10 t) r0_4)) (k0_pay7 (iblk m c 7 t)) (iblk m c 2 t) (View.ld (iblk m c 11 t) r0_4) (iblk m c 9 t) (iblk
      m c 3 t) (View.ld (iblk m c 12 t) r0_4) (View.ld (iblk m c 13 t) r0_5) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) (((cfg0.win 14).blk t).view.emb y) := by
  have ht : t.val < 64 := t.isLt
  obtain ⟨r, n, rfl⟩ : ∃ (r : Fin 256) (n : Fin 2048), y = ix2 r n := ⟨y 0, y 1, eq_ix2 y⟩
  have E : ((cfg0.win 14).blk t).view.emb (ix2 r n) = ix2 ⟨256 * t.val + r.val, by omega⟩ n := by blk_ext [idx_val t]
  rw [E]
  refine Eq.trans ?_ (REF_at _ _ _ _ _ _ _ _ _ _ _).symm
  pointwise [k0_pay1, k0_pay5, k0_pay2, k0_pay3, k0_pay4, k0_pay6, k0_pay7, mix, gate, branch]
  have hz : ∀ x : EReal, 0 - x = -x := fun x => zero_sub x
  simp only [hz]
  blk_point [iblk, V, idx_val t]

/-- THE RESULT ARRAY after the run is the reference of the arguments. -/
theorem final : (dats m 0 c).arrAt 14 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp; rw [after0_14]; frame_out
  exact point m c t y

end Cert.MergeIdeal.Mix

end
-- ==== Proof.ProjValue.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.WholeRead
public import Idealize.ShloMosaic.Lib.WritesUnit
public import Idealize.ShloMosaic.Lib.Claim

/-! The projection kernel's result array is the reference projection of its arguments. -/

@[expose] public section

set_option maxRecDepth 16384

noncomputable section

/-! ## The reference, stage by stage -/

namespace Cert.ProjRefIdeal.Mm

open Cert.ProjRefIdeal Cert.ProjRefIdeal.Gen
open Idealize.ShloMosaic Idealize.ShloMosaic.TcCoe Idealize.ShloMosaic.Tactic
open scoped BigOperators

/-- The reciprocal root mean square of every row. -/
def rrms (a0 : FVec Ideal S16384x2048 .f32) : FVec Ideal S16384x1 .f32 :=
  Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))

/-- The normalized rows. -/
def rows (a0 : FVec Ideal S16384x2048 .f32) (a1 : FVec Ideal S2048 .f32) : FVec Ideal S16384x2048 .f32 :=
  mulf (mulf a0 (broadcastInDim S16384x2048 ![0, 1] bcast_S16384x1_S16384x2048_0_1 (rrms a0))) (broadcastInDim S16384x2048 ![0, 1] bcast_S1x2048_S16384x2048_0_1 (broadcastInDim S1x2048 ![1] bcast_S2048_S1x2048_1 a1))

/-- The reference as a function of its arguments. -/
def REF (a0 : FVec Ideal S16384x2048 .f32) (a1 : FVec Ideal S2048 .f32) (a2 : FVec Ideal S2048x15360 .f32) : FVec Ideal S16384x15360 .f32 :=
  Host.dotGeneral dot_S16384x2048_S2048x15360_S16384x15360_1_0_0_1_n_n none (rows a0 a1) a2

theorem REF_at (a0 : FVec Ideal S16384x2048 .f32) (a1 : FVec Ideal S2048 .f32) (a2 : FVec Ideal S2048x15360 .f32) (r : Fin 16384) (n : Fin 15360) :
    REF a0 a1 a2 (ix2 r n) = ∑ k : Fin 2048, rows a0 a1 (ix2 r k) * a2 (ix2 k n) := by
  pointwise [REF]

end Cert.ProjRefIdeal.Mm

/-! ## The kernel's scratch -/

namespace Cert.ProjIdeal.Mm

open Cert.ProjIdeal Cert.ProjIdeal.Gen
open Idealize.ShloMosaic Idealize.ShloMosaic.TcCoe Idealize.ShloMosaic.Tactic Idealize.SL.Sem
open Idealize.ShloMosaic.Pipeline (Dat)
open scoped BigOperators

variable {F : FTy → Type} [FloatOps F]

/-- The 256 rows of a block from row `o` on. -/
def chunk {e : EltTy} (X : Vec F S1024x2048 e) (o : ℕ) : Vec F S256x2048 e :=
  fun y => X (ix2 ⟨(o + (y 0).val) % 1024, Nat.mod_lt _ (by decide)⟩ (y 1))

/-- The normalized block: every 256 rows of it are the loop's payload on those rows. -/
def XN (x0 : Vec F S1024x2048 .f32) (x1 : Vec F S1x2048 .f32) : Vec F S1024x2048 .bf16 :=
  fun y => k0_pay1 (chunk x0 (256 * ((y 0).val / 256))) x1 (ix2 ⟨(y 0).val % 256, Nat.mod_lt _ (by decide)⟩ (y 1))

/-- A load of 256 whole rows of a whole buffer. -/
theorem readAt_rows {e : EltTy} (M : Memref sig .tc .vmem S1024x2048 e) (h : M.IsWhole) (X : Vec F S1024x2048 e) (off : Fin 2 → ℕ)
    (inb : ∀ a, off a + S256x2048.size a ≤ S1024x2048.size a) (o : ℕ) (ho : off = ![o, 0]) :
    View.readAt (Elt F) M.view (Rect.unit (s := S1024x2048) off S256x2048.size inb).toLoadRect (h.unread X) = chunk X o := by
  subst ho
  have hb : o + 256 ≤ 1024 := inb 0
  funext y
  have hy : (y 0).val < 256 := (y 0).isLt
  rw [h.readAt_unread]
  unfold chunk
  congr 1
  funext a
  match a with
  | ⟨0, _⟩ =>
    refine Fin.ext ?_
    show o + 1 * (y 0).val = (o + (y 0).val) % 1024
    omega
  | ⟨1, _⟩ =>
    refine Fin.ext ?_
    show 0 + 1 * (y 1).val = (y 1).val
    omega

/-- A load of a whole buffer. -/
theorem readAt_all {S : Shape} {e : EltTy} (M : Memref sig .tc .vmem S e) (h : M.IsWhole) (X : Vec F S e) (off : Fin S.rank → ℕ)
    (inb : ∀ a, off a + S.size a ≤ S.size a) :
    View.readAt (Elt F) M.view (Rect.unit (s := S) off S.size inb).toLoadRect (h.unread X) = X := by
  funext y
  rw [h.readAt_unread]
  congr 1
  funext a
  refine Fin.ext ?_
  have h0 := inb a
  show off a + 1 * (y a).val = (y a).val
  omega

/-- The loop makes four trips. -/
theorem t1_trips : k0_t1_loop.trips = 4 := by decide +kernel

/-- Before trip `n` the loop has filled the rows below `256 * n` of the scratch buffer. -/
theorem pb_read (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole) (h1 : k0_cond1 i = 1#1)
    (x0 : Vec F S1024x2048 .f32) (x1 : Vec F S1x2048 .f32) (f6 : BufTy.Contents (Elt F) arg6.view.ty) :
    ∀ n : ℕ, n ≤ 4 → ∀ y : S1024x2048.Idx, (y 0).val < 256 * n →
      arg6.view.read (Elt F) (arg6.view.writes (Elt F) f6 (pb_k0_t1 (F := F) 𝒱 c bd i arg2 harg2 arg3 harg3 arg4 harg4 arg5 harg5 arg6 harg6 h1 (harg2.unread x0) (harg3.unread x1) n)) y = XN x0 x1 y
  | 0, _, y, hy => absurd hy (by omega)
  | n + 1, hn, y, hy => by
    have hk : n < k0_t1_loop.trips := by rw [t1_trips]; omega
    have ih := pb_read 𝒱 c bd i arg2 harg2 arg3 harg3 arg4 harg4 arg5 harg5 arg6 harg6 h1 x0 x1 f6 n (by omega) y
    rw [show n + 1 = (⟨n, hk⟩ : Fin k0_t1_loop.trips).val + 1 from rfl, pb_k0_t1_succ]
    have e6 : ∀ k : Fin k0_t1_loop.trips, tripL_k0_t1 (F := F) 𝒱 c bd i arg2 harg2 arg3 harg3 arg4 harg4 arg5 harg5 arg6 harg6 h1 (harg2.unread x0) (harg3.unread x1) k
        = [⟨Rect.unit (s := S1024x2048) (k0_off1 k) S256x2048.size (k0_off1_inb i k h1), k0_pay1 (chunk x0 (256 * k.val)) x1⟩] := fun k => by
      unfold tripL_k0_t1 trip_k0_t1
      dsimp only
      rw [readAt_rows arg2 harg2 x0 _ _ (256 * k.val) (k0_off1_eq k)]
      erw [readAt_all arg3 harg3 x1]
    rw [e6]
    dsimp only [List.cons_append, List.nil_append]
    by_cases hlt : (y 0).val < 256 * n
    · rw [← ih hlt]
      exact View.read_writes_cons_rows_of_not_mem arg6.view f6 _ _ _ y (k0_off1_eq ⟨n, hk⟩) rfl (Or.inl hlt)
    · have hd : (y 0).val / 256 = n := by omega
      have hx : (y 0).val = 256 * n + (y 0).val % 256 := by omega
      refine (View.read_writes_cons_rows_of_mem arg6.view f6 _ _ _ y (ix2 ⟨(y 0).val % 256, Nat.mod_lt _ (by decide)⟩ (y 1)) (k0_off1_eq ⟨n, hk⟩) hx rfl).trans ?_
      show _ = k0_pay1 (chunk x0 (256 * ((y 0).val / 256))) x1 _
      rw [hd]
      rfl

/-- After the loop the scratch holds the normalized block. -/
theorem scratch (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole) (h1 : k0_cond1 i = 1#1)
    (x0 : Vec F S1024x2048 .f32) (x1 : Vec F S1x2048 .f32) (f6 : BufTy.Contents (Elt F) arg6.view.ty) :
    arg6.view.writes (Elt F) f6 (pb_k0_t1 (F := F) 𝒱 c bd i arg2 harg2 arg3 harg3 arg4 harg4 arg5 harg5 arg6 harg6 h1 (harg2.unread x0) (harg3.unread x1) k0_t1_loop.trips)
      = harg6.unread (XN x0 x1) :=
  harg6.eq_unread (funext fun y => pb_read 𝒱 c bd i arg2 harg2 arg3 harg3 arg4 harg4 arg5 harg5 arg6 harg6 h1 x0 x1 f6 k0_t1_loop.trips
    (le_of_eq t1_trips) y (by rw [t1_trips]; exact (y 0).isLt))

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole)
    (x0 : Vec F S1024x2048 .f32) (x1 : Vec F S1x2048 .f32) (x2 : Vec F S2048x1024 .bf16) (xs0 : Vec F S1024x2048 .bf16)

/-- At a first column block the scratch is filled, -/
theorem sout_A (hc0 : cond0_0 i) : sout0_A_0 c i arg2 harg2 arg3 harg3 arg4 harg4 arg5 harg5 scM0_0 (Memref.isWhole_whole _) hc0 x0 x1 x2 = XN x0 x1 := by
  unfold sout0_A_0
  have e : (kernelRun0_A c i arg2 harg2 arg3 harg3 arg4 harg4 arg5 harg5 scM0_0 (Memref.isWhole_whole _) hc0 x0 x1 x2).2.1
      = pb_k0_t1 (F := F) Variants.none c none i arg2 harg2 arg3 harg3 arg4 harg4 arg5 harg5 scM0_0 (Memref.isWhole_whole _) hc0 (harg2.unread x0) (harg3.unread x1) k0_t1_loop.trips := by
    unfold kernelRun0_A
    rfl
  rw [e]
  refine (congrArg (VS0_0.read (Elt F)) (scratch Variants.none c none i arg2 harg2 arg3 harg3 arg4 harg4 arg5 harg5 scM0_0 (Memref.isWhole_whole _) hc0 x0 x1 VS0_0.junk)).trans ?_
  exact (Memref.isWhole_whole _).read_unread _

/-- and the product is of the filled scratch; -/
theorem out_A (hc0 : cond0_0 i) : out0_A_3 c i arg2 harg2 arg3 harg3 arg4 harg4 arg5 harg5 arg6 harg6 hc0 x0 x1 x2 = k0_pay2 (XN x0 x1) x2 := by
  frame_out
  refine congrArg (fun z => k0_pay2 z x2) ?_
  unfold View.readCov
  refine (congrArg (View.readAt (Elt F) arg6.view _) (scratch Variants.none c none i arg2 harg2 arg3 harg3 arg4 harg4 arg5 harg5 arg6 harg6 hc0 x0 x1 _)).trans ?_
  exact readAt_all arg6 harg6 (XN x0 x1) _ _

/-- at the others, of the scratch as it stands. -/
theorem out_B (hc0 : ¬cond0_0 i) : out0_B_3 c i arg2 harg2 arg3 harg3 arg4 harg4 arg5 harg5 arg6 harg6 hc0 x0 x1 x2 xs0 = k0_pay2 xs0 x2 := by
  frame_out

/-! ## The value -/

section Value

open Cert.ProjRefIdeal.Mm (REF REF_at rows rrms)

variable (m : (ℓ : Loc nD τ sig) → Buf (Elt Ideal) ℓ) (c : Dev nD)

/-- Every window's block index at every grid point. -/
theorem idx_val : ∀ t : Fin cfg0.N, win0_0.index t = ![t.val / 15, 0]
    ∧ win0_1.index t = ![0, 0]
    ∧ win0_2.index t = ![0, t.val % 15]
    ∧ win0_3.index t = ![t.val / 15, t.val % 15] :=
  (by decide +kernel : ∀ t : Fin grid0.N, _)

/-- The block of rows at a point, by entries. -/
theorem blk0 (t : Fin cfg0.N) (r : Fin 1024) (k : Fin 2048) :
    (iblk m c 0 t : FVec Ideal S1024x2048 .f32) (ix2 r k) = m ((c : Thread nD τ).loc main_arg0) (ix2 ⟨(1024 * (t.val / 15) + r.val) % 16384, Nat.mod_lt _ (by decide)⟩ k) := by
  have ht : t.val < 240 := t.isLt
  have hq : t.val / 15 < 16 := by omega
  have h := r.isLt
  have E : ((cfg0.win 0).blk t).view.emb (ix2 r k) = ix2 ⟨(1024 * (t.val / 15) + r.val) % 16384, Nat.mod_lt _ (by decide)⟩ k := by
    blk_ext [idx_val t]
  exact congrArg (m ((c : Thread nD τ).loc main_arg0)) E

/-- The weights' block is the same at every point. -/
theorem blk1 (t : Fin cfg0.N) (k : Fin 2048) :
    (iblk m c 1 t : FVec Ideal S1x2048 .f32) (ix2 0 k) = m ((c : Thread nD τ).loc main_arg1) (ix1 k) := by
  pointwise []
  blk_point [iblk, V, idx_val t]

/-- The matrix's block, by entries. -/
theorem blk2 (t : Fin cfg0.N) (k : Fin 2048) (n : Fin 1024) :
    (iblk m c 2 t : FVec Ideal S2048x1024 .bf16) (ix2 k n) = m ((c : Thread nD τ).loc main_arg2) (ix2 k ⟨1024 * (t.val % 15) + n.val, by omega⟩) := by
  pointwise []
  blk_point [iblk, V, idx_val t]

/-- The normalized block, by entries. -/
theorem XN_at (t : Fin cfg0.N) (r : Fin 1024) (k : Fin 2048) :
    XN (F := Ideal) (iblk m c 0 t) (iblk m c 1 t) (ix2 r k)
      = rows (m ((c : Thread nD τ).loc main_arg0)) (m ((c : Thread nD τ).loc main_arg1)) (ix2 ⟨(1024 * (t.val / 15) + r.val) % 16384, Nat.mod_lt _ (by decide)⟩ k) := by
  have h := r.isLt
  have hc : ∀ e : Fin 2048, chunk (F := Ideal) (iblk m c 0 t : FVec Ideal S1024x2048 .f32) (256 * (r.val / 256)) (ix2 ⟨r.val % 256, Nat.mod_lt _ (by decide)⟩ e)
      = m ((c : Thread nD τ).loc main_arg0) (ix2 ⟨(1024 * (t.val / 15) + r.val) % 16384, Nat.mod_lt _ (by decide)⟩ e) := fun e => by
    rw [← blk0 m c t r e]
    show (iblk m c 0 t : FVec Ideal S1024x2048 .f32) (ix2 ⟨(256 * (r.val / 256) + r.val % 256) % 1024, _⟩ e) = _
    congr 2
    exact Fin.ext (by show (256 * (r.val / 256) + r.val % 256) % 1024 = r.val; omega)
  show k0_pay1 (chunk (F := Ideal) (iblk m c 0 t : FVec Ideal S1024x2048 .f32) (256 * (r.val / 256))) (iblk m c 1 t) (ix2 ⟨r.val % 256, Nat.mod_lt _ (by decide)⟩ k) = _
  generalize chunk (F := Ideal) (iblk m c 0 t : FVec Ideal S1024x2048 .f32) (256 * (r.val / 256)) = C at hc
  generalize hw : (iblk m c 1 t : FVec Ideal S1x2048 .f32) = W
  have hw' : ∀ e : Fin 2048, W (ix2 0 e) = m ((c : Thread nD τ).loc main_arg1) (ix1 e) := fun e => by rw [← hw]; exact blk1 m c t e
  pointwise [k0_pay1, rows, rrms]
  simp only [hc, hw']

/-- What the scratch holds after a point: the rows of the point's row block, normalized. -/
theorem scratch_at : ∀ (n : ℕ) (hn : n < cfg0.N) (r : Fin 1024) (k : Fin 2048),
    (outsAt0 m c n hn).2 (ix2 r k)
      = rows (m ((c : Thread nD τ).loc main_arg0)) (m ((c : Thread nD τ).loc main_arg1)) (ix2 ⟨(1024 * (n / 15) + r.val) % 16384, Nat.mod_lt _ (by decide)⟩ k) := by
  intro n
  induction n with
  | zero =>
    intro hn r k
    refine (congrFun (congrArg Prod.snd (outsAt0_A m c ⟨0, hn⟩ rfl)) _).trans ?_
    dsimp only
    rw [sout_A]
    exact XN_at m c ⟨0, hn⟩ r k
  | succ n ih =>
    intro hn r k
    by_cases h0 : (n + 1) % 15 = 0
    · refine (congrFun (congrArg Prod.snd (outsAt0_A m c ⟨n + 1, hn⟩ h0)) _).trans ?_
      dsimp only
      rw [sout_A]
      exact XN_at m c ⟨n + 1, hn⟩ r k
    · refine (congrFun (congrArg Prod.snd (outsAt0_B m c ⟨n + 1, hn⟩ h0)) _).trans ?_
      have e : (n + 1) / 15 = n / 15 := by omega
      simp only [e]
      exact ih (Nat.lt_of_succ_lt hn) r k

/-- A product of a block of normalized rows with the matrix's block is the reference at the place it is written to. -/
theorem point (t : Fin cfg0.N) (N : FVec Ideal S1024x2048 .bf16)
    (hN : ∀ (r : Fin 1024) (k : Fin 2048), N (ix2 r k) = rows (m ((c : Thread nD τ).loc main_arg0)) (m ((c : Thread nD τ).loc main_arg1)) (ix2 ⟨(1024 * (t.val / 15) + r.val) % 16384, Nat.mod_lt _ (by decide)⟩ k)) (y) :
    k0_pay2 N (iblk m c 2 t) y
      = REF (m ((c : Thread nD τ).loc main_arg0)) (m ((c : Thread nD τ).loc main_arg1)) (m ((c : Thread nD τ).loc main_arg2)) (((cfg0.win 3).blk t).view.emb y) := by
  have ht : t.val < 240 := t.isLt
  have hq : t.val / 15 < 16 := by omega
  have hm : t.val % 15 < 15 := by omega
  obtain ⟨r, n, rfl⟩ : ∃ (r : Fin 1024) (n : Fin 1024), y = ix2 r n := ⟨y 0, y 1, eq_ix2 y⟩
  have hr := r.isLt
  have E : ((cfg0.win 3).blk t).view.emb (ix2 r n) = ix2 ⟨(1024 * (t.val / 15) + r.val) % 16384, Nat.mod_lt _ (by decide)⟩ ⟨1024 * (t.val % 15) + n.val, by omega⟩ := by
    blk_ext [idx_val t]
  rw [E]
  refine Eq.trans ?_ (REF_at _ _ _ _ _).symm
  generalize hW : (iblk m c 2 t : FVec Ideal S2048x1024 .bf16) = W
  have hW' : ∀ e : Fin 2048, W (ix2 e n) = m ((c : Thread nD τ).loc main_arg2) (ix2 e ⟨1024 * (t.val % 15) + n.val, by omega⟩) := fun e => by rw [← hW]; exact blk2 m c t e n
  pointwise [k0_pay2]
  simp only [hN, hW']

/-- THE RESULT ARRAY after the run is the reference of the arguments. -/
theorem final : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  by_cases h : t.val % 15 = 0
  · rw [outsAt0_A m c t h]; dsimp only
    rw [out_A]
    exact point m c t _ (XN_at m c t) y
  · rw [outsAt0_B m c t h]; dsimp only
    rw [out_B]
    refine point m c t _ (fun r k => ?_) y
    have e : (t.val - 1) / 15 = t.val / 15 := by omega
    rw [scratch_at]
    simp only [e]

end Value

end Cert.ProjIdeal.Mm

end
-- ==== Proof.ScoresBody.lean ====
module

public import proofs.«01_k».proof.Proof.Gen.ScoresIdeal.Frame
public import proofs.«01_k».proof.Proof.Gen.ScoresIdeal.Skeleton
public import proofs.«01_k».proof.Proof.Gen.ScoresIdeal.Loops
public import Idealize.ShloMosaic.Lib.WholeRead
public import Idealize.ShloMosaic.Lib.WritesUnit
public import Idealize.ShloMosaic.Lib.Pointwise

/-! The scores kernel's body over whole staging memrefs, at a first head (which normalizes the row block into the first output's
    block) and at a later one (which finds it there). -/

@[expose] public section

set_option maxRecDepth 16384

noncomputable section

namespace Cert.ScoresIdeal.Sc

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

/-- The condition of the body's branch. -/
abbrev cond0_0 (i : grid0.Coords) : Prop := k0_cond1 i = 1#1
/-- It holds at the first head. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- Window 0's staging memref at a point. -/
abbrev ms0_0 (t : Fin cfg0.N) : Memref sig .tc .vmem S1024x2048 .f32 := win0_0.stage (cfg0.slots t 0)
/-- Window 1's staging memref at a point. -/
abbrev ms0_1 (t : Fin cfg0.N) : Memref sig .tc .vmem S1x2048 .f32 := win0_1.stage (cfg0.slots t 1)
/-- Window 2's staging memref at a point. -/
abbrev ms0_2 (t : Fin cfg0.N) : Memref sig .tc .vmem S2048x256 .bf16 := win0_2.stage (cfg0.slots t 2)
/-- Window 3's staging memref at a point. -/
abbrev ms0_3 (t : Fin cfg0.N) : Memref sig .tc .vmem S1x128x128 .bf16 := win0_3.stage (cfg0.slots t 3)
/-- Window 4's staging memref at a point. -/
abbrev ms0_4 (t : Fin cfg0.N) : Memref sig .tc .vmem S1x128x128 .bf16 := win0_4.stage (cfg0.slots t 4)
/-- Window 5's staging memref at a point. -/
abbrev ms0_5 (t : Fin cfg0.N) : Memref sig .tc .vmem S1024x2048 .bf16 := win0_5.stage (cfg0.slots t 5)
/-- Window 6's staging memref at a point. -/
abbrev ms0_6 (t : Fin cfg0.N) : Memref sig .tc .vmem S2x128x1024 .f32 := win0_6.stage (cfg0.slots t 6)

/-- The region invariant: nothing is scratch. -/
theorem PhiA0_eq (c : Dev nD) :
    (Pipeline.ΦA spec0 c : sProp 𝕄) = iprop((BI.emp : sProp 𝕄) ∗ (∃ r, prngReg c r)) := by
  unfold Pipeline.ΦA; rw [scopedRest0_eq]

/-- The 256 rows of a block from row `o` on. -/
def chunk {e : EltTy} (X : Vec F S1024x2048 e) (o : ℕ) : Vec F S256x2048 e :=
  fun y => X (ix2 ⟨(o + (y 0).val) % 1024, Nat.mod_lt _ (by decide)⟩ (y 1))

/-- The normalized block: every 256 rows of it are the loop's payload on those rows. -/
def XN (x0 : Vec F S1024x2048 .f32) (x1 : Vec F S1x2048 .f32) : Vec F S1024x2048 .bf16 :=
  fun y => k0_pay1 (chunk x0 (256 * ((y 0).val / 256))) x1 (ix2 ⟨(y 0).val % 256, Nat.mod_lt _ (by decide)⟩ (y 1))

/-- A load of 256 whole rows of a whole buffer. -/
theorem readAt_rows {e : EltTy} (M : Memref sig .tc .vmem S1024x2048 e) (h : M.IsWhole) (X : Vec F S1024x2048 e) (off : Fin 2 → ℕ)
    (inb : ∀ a, off a + S256x2048.size a ≤ S1024x2048.size a) (o : ℕ) (ho : off = ![o, 0]) :
    View.readAt (Elt F) M.view (Rect.unit (s := S1024x2048) off S256x2048.size inb).toLoadRect (h.unread X) = chunk X o := by
  subst ho
  have hb : o + 256 ≤ 1024 := inb 0
  funext y
  have hy : (y 0).val < 256 := (y 0).isLt
  rw [h.readAt_unread]
  unfold chunk
  congr 1
  funext a
  match a with
  | ⟨0, _⟩ =>
    refine Fin.ext ?_
    show o + 1 * (y 0).val = (o + (y 0).val) % 1024
    omega
  | ⟨1, _⟩ =>
    refine Fin.ext ?_
    show 0 + 1 * (y 1).val = (y 1).val
    omega

/-- A load of a whole buffer. -/
theorem readAt_all {S : Shape} {e : EltTy} (M : Memref sig .tc .vmem S e) (h : M.IsWhole) (X : Vec F S e) (off : Fin S.rank → ℕ)
    (inb : ∀ a, off a + S.size a ≤ S.size a) :
    View.readAt (Elt F) M.view (Rect.unit (s := S) off S.size inb).toLoadRect (h.unread X) = X := by
  funext y
  rw [h.readAt_unread]
  congr 1
  funext a
  refine Fin.ext ?_
  have h0 := inb a
  show off a + 1 * (y a).val = (y a).val
  omega

/-- The loop makes four trips. -/
theorem t1_trips : k0_t1_loop.trips = 4 := by decide +kernel

/-- Before trip `n` the loop has filled the rows below `256 * n` of the first output's block. -/
theorem pb_read (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1024x2048 .bf16) (harg7 : arg7.IsWhole) (arg8 : Memref sig .tc .vmem S2x128x1024 .f32) (harg8 : arg8.IsWhole) (h1 : k0_cond1 i = 1#1)
    (x0 : Vec F S1024x2048 .f32) (x1 : Vec F S1x2048 .f32) (f6 : BufTy.Contents (Elt F) arg7.view.ty) :
    ∀ n : ℕ, n ≤ 4 → ∀ y : S1024x2048.Idx, (y 0).val < 256 * n →
      arg7.view.read (Elt F) (arg7.view.writes (Elt F) f6 (pb_k0_t1 (F := F) 𝒱 c bd i arg2 harg2 arg3 harg3 arg4 harg4 arg5 harg5 arg6 harg6 arg7 harg7 arg8 harg8 h1 (harg2.unread x0) (harg3.unread x1) n)) y = XN x0 x1 y
  | 0, _, y, hy => absurd hy (by omega)
  | n + 1, hn, y, hy => by
    have hk : n < k0_t1_loop.trips := by rw [t1_trips]; omega
    have ih := pb_read 𝒱 c bd i arg2 harg2 arg3 harg3 arg4 harg4 arg5 harg5 arg6 harg6 arg7 harg7 arg8 harg8 h1 x0 x1 f6 n (by omega) y
    rw [show n + 1 = (⟨n, hk⟩ : Fin k0_t1_loop.trips).val + 1 from rfl, pb_k0_t1_succ]
    have e6 : ∀ k : Fin k0_t1_loop.trips, tripL_k0_t1 (F := F) 𝒱 c bd i arg2 harg2 arg3 harg3 arg4 harg4 arg5 harg5 arg6 harg6 arg7 harg7 arg8 harg8 h1 (harg2.unread x0) (harg3.unread x1) k
        = [⟨Rect.unit (s := S1024x2048) (k0_off1 k) S256x2048.size (k0_off1_inb i k h1), k0_pay1 (chunk x0 (256 * k.val)) x1⟩] := fun k => by
      unfold tripL_k0_t1 trip_k0_t1
      dsimp only
      rw [readAt_rows arg2 harg2 x0 _ _ (256 * k.val) (k0_off1_eq k)]
      erw [readAt_all arg3 harg3 x1]
    rw [e6]
    dsimp only [List.cons_append, List.nil_append]
    by_cases hlt : (y 0).val < 256 * n
    · rw [← ih hlt]
      exact View.read_writes_cons_rows_of_not_mem arg7.view f6 _ _ _ y (k0_off1_eq ⟨n, hk⟩) rfl (Or.inl hlt)
    · have hd : (y 0).val / 256 = n := by omega
      have hx : (y 0).val = 256 * n + (y 0).val % 256 := by omega
      refine (View.read_writes_cons_rows_of_mem arg7.view f6 _ _ _ y (ix2 ⟨(y 0).val % 256, Nat.mod_lt _ (by decide)⟩ (y 1)) (k0_off1_eq ⟨n, hk⟩) hx rfl).trans ?_
      show _ = k0_pay1 (chunk x0 (256 * ((y 0).val / 256))) x1 _
      rw [hd]
      rfl

/-- After the loop the first output block holds the normalized block. -/
theorem rows_done (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1024x2048 .bf16) (harg7 : arg7.IsWhole) (arg8 : Memref sig .tc .vmem S2x128x1024 .f32) (harg8 : arg8.IsWhole) (h1 : k0_cond1 i = 1#1)
    (x0 : Vec F S1024x2048 .f32) (x1 : Vec F S1x2048 .f32) (f6 : BufTy.Contents (Elt F) arg7.view.ty) :
    arg7.view.writes (Elt F) f6 (pb_k0_t1 (F := F) 𝒱 c bd i arg2 harg2 arg3 harg3 arg4 harg4 arg5 harg5 arg6 harg6 arg7 harg7 arg8 harg8 h1 (harg2.unread x0) (harg3.unread x1) k0_t1_loop.trips)
      = harg7.unread (XN x0 x1) :=
  harg7.eq_unread (funext fun y => pb_read 𝒱 c bd i arg2 harg2 arg3 harg3 arg4 harg4 arg5 harg5 arg6 harg6 arg7 harg7 arg8 harg8 h1 x0 x1 f6 k0_t1_loop.trips
    (le_of_eq t1_trips) y (by rw [t1_trips]; exact (y 0).isLt))

/-- The two halves of the scores' block: of the first keys, and of the second. -/
def SOUT (h : Vec F S1024x2048 .bf16) (x2 : Vec F S2048x256 .bf16) (x3 x4 : Vec F S1x128x128 .bf16) : Vec F S2x128x1024 .f32 :=
  fun y => if (y 0).val = 0 then k0_pay3 h x2 x3 (ix3 0 (y 1) (y 2)) else k0_pay4 h x2 x4 (ix3 0 (y 1) (y 2))

/-- What the body's two stores leave in the scores' block. -/
theorem out_eq (arg2 : Memref sig .tc .vmem S1024x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1024x2048 .bf16) (harg7 : arg7.IsWhole) (arg8 : Memref sig .tc .vmem S2x128x1024 .f32) (harg8 : arg8.IsWhole)
    (x0 : Vec F S1024x2048 .f32) (x1 : Vec F S1x2048 .f32) (x2 : Vec F S2048x256 .bf16) (x3 : Vec F S1x128x128 .bf16) (x4 : Vec F S1x128x128 .bf16) (h : Vec F S1024x2048 .bf16)
    (f8 : BufTy.Contents (Elt F) arg8.view.ty) (X7 : BufTy.Contents (Elt F) arg7.view.ty) (h7 : X7 = harg7.unread h) :
    arg8.view.read (Elt F) (arg8.view.writes (Elt F) f8 [
      ⟨Rect.unit (s := S2x128x1024) ![1, 0, 0] S1x128x1024.size inb_S2x128x1024_S1x128x1024_1_0_0,
        k0_pay4 (View.readAt (Elt F) arg7.view (Rect.unit (s := S1024x2048) ![0, 0] S1024x2048.size inb_S1024x2048_S1024x2048_0_0).toLoadRect X7) (View.readAt (Elt F) arg4.view (Rect.unit (s := S2048x256) ![0, 0] S2048x256.size inb_S2048x256_S2048x256_0_0).toLoadRect (harg4.unread x2)) (View.readAt (Elt F) arg6.view (Rect.unit (s := S1x128x128) ![0, 0, 0] S1x128x128.size inb_S1x128x128_S1x128x128_0_0_0).toLoadRect (harg6.unread x4))⟩,
      ⟨Rect.unit (s := S2x128x1024) ![0, 0, 0] S1x128x1024.size inb_S2x128x1024_S1x128x1024_0_0_0,
        k0_pay3 (View.readAt (Elt F) arg7.view (Rect.unit (s := S1024x2048) ![0, 0] S1024x2048.size inb_S1024x2048_S1024x2048_0_0).toLoadRect X7) (View.readAt (Elt F) arg4.view (Rect.unit (s := S2048x256) ![0, 0] S2048x256.size inb_S2048x256_S2048x256_0_0).toLoadRect (harg4.unread x2)) (View.readAt (Elt F) arg5.view (Rect.unit (s := S1x128x128) ![0, 0, 0] S1x128x128.size inb_S1x128x128_S1x128x128_0_0_0).toLoadRect (harg5.unread x3))⟩])
      = SOUT h x2 x3 x4 := by
  subst h7
  rw [readAt_all arg7 harg7 h, readAt_all arg4 harg4 x2, readAt_all arg5 harg5 x3, readAt_all arg6 harg6 x4]
  funext y
  have hy0 : (y 0).val < 2 := (y 0).isLt
  by_cases h0 : (y 0).val = 0
  · rw [View.read_writes_cons_unit_of_not_mem arg8.view f8 _ _ _ y rfl (0 : Fin 3) (Or.inl (by rw [h0]; decide))]
    refine (View.read_writes_cons_unit_of_mem arg8.view f8 _ _ _ y (ix3 0 (y 1) (y 2)) rfl ?_).trans ?_
    · intro a; fin_cases a
      · exact h0
      · exact (Nat.zero_add _).symm
      · exact (Nat.zero_add _).symm
    · exact (if_pos h0).symm
  · refine (View.read_writes_cons_unit_of_mem arg8.view f8 _ _ _ y (ix3 0 (y 1) (y 2)) rfl ?_).trans ?_
    · intro a; fin_cases a
      · show (y 0).val = 1 + 0
        omega
      · exact (Nat.zero_add _).symm
      · exact (Nat.zero_add _).symm
    · exact (if_neg h0).symm

/-- The body at a later head: the first output's block is left as it was, and the scores' block is stored. -/
theorem bodyB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1024x2048 .bf16) (harg7 : arg7.IsWhole) (arg8 : Memref sig .tc .vmem S2x128x1024 .f32) (harg8 : arg8.IsWhole) (hc0 : ¬cond0_0 i)
    (x0 : Vec F S1024x2048 .f32) (x1 : Vec F S1x2048 .f32) (x2 : Vec F S2048x256 .bf16) (x3 : Vec F S1x128x128 .bf16) (x4 : Vec F S1x128x128 .bf16) (h : Vec F S1024x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare h ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare h ∗ owns (c : Thread nD τ) arg8 fullShare (SOUT h x2 x3 x4)) -∗ K ⟨⟩))
          ⊢ wp frame (wpE (defs₀ (F := F)) Variants.none c none) E (cc0__peer_scores_body i arg2 harg2 arg3 harg3 arg4 harg4 arg5 harg5 arg6 harg6 arg7 harg7 arg8 harg8) K := by
  simp only [cc0__peer_scores_body_eq_skeleton]; unfold cc0__peer_scores_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr; swap; · iexact H6
  ipureintro
  exact out_eq arg2 harg2 arg3 harg3 arg4 harg4 arg5 harg5 arg6 harg6 arg7 harg7 arg8 harg8 x0 x1 x2 x3 x4 h f6 _ rfl

/-- The body at a first head: whatever the first output's block held, it ends normalized, and the scores' block is stored. -/
theorem bodyA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1024x2048 .bf16) (harg7 : arg7.IsWhole) (arg8 : Memref sig .tc .vmem S2x128x1024 .f32) (harg8 : arg8.IsWhole) (hc0 : cond0_0 i)
    (x0 : Vec F S1024x2048 .f32) (x1 : Vec F S1x2048 .f32) (x2 : Vec F S2048x256 .bf16) (x3 : Vec F S1x128x128 .bf16) (x4 : Vec F S1x128x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (XN x0 x1) ∗ owns (c : Thread nD τ) arg8 fullShare (SOUT (XN x0 x1) x2 x3 x4)) -∗ K ⟨⟩))
          ⊢ wp frame (wpE (defs₀ (F := F)) Variants.none c none) E (cc0__peer_scores_body i arg2 harg2 arg3 harg3 arg4 harg4 arg5 harg5 arg6 harg6 arg7 harg7 arg8 harg8) K := by
  simp only [cc0__peer_scores_body_eq_skeleton]; unfold cc0__peer_scores_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (congrArg _ (rows_done Variants.none c none i arg2 harg2 arg3 harg3 arg4 harg4 arg5 harg5 arg6 harg6 arg7 harg7 arg8 harg8 hc0 x0 x1 f5)).trans (harg7.read_unread _)
  iexists _; isplitr; swap; · iexact H6
  ipureintro
  exact out_eq arg2 harg2 arg3 harg3 arg4 harg4 arg5 harg5 arg6 harg6 arg7 harg7 arg8 harg8 x0 x1 x2 x3 x4 (XN x0 x1) f6 _ (rows_done Variants.none c none i arg2 harg2 arg3 harg3 arg4 harg4 arg5 harg5 arg6 harg6 arg7 harg7 arg8 harg8 hc0 x0 x1 f5)

end Cert.ScoresIdeal.Sc

end
-- ==== Proof.ScoresFrame.lean ====
module

public import proofs.«01_k».proof.Proof.ScoresBody
public import Idealize.ShloMosaic.Lib.Claim
public import Idealize.ShloMosaic.Lib.Pipeline.FrameBody

/-! The scores kernel over its whole grid: what every buffer holds after each grid point, the launch, and the frame. -/

@[expose] public section

set_option maxRecDepth 16384

noncomputable section

namespace Cert.ScoresIdeal.Sc

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

variable (m : (ℓ : Loc nD τ sig) → Buf (Elt F) ℓ) (ρ : Dev nD → PrngReg)

/-! ## What the first output's block holds -/

/-- The first grid point of a point's row block: the one that normalizes it. -/
def base (t : Fin cfg0.N) : Fin cfg0.N := ⟨8 * (t.val / 8), lt_of_le_of_lt (Nat.mul_div_le t.val 8) t.isLt⟩

/-- The normalized rows after point `t`: those of the first point of its row block. -/
def hS (c : Dev nD) (t : Fin cfg0.N) : Vec F S1024x2048 .bf16 := XN (iblk m c 0 (base t)) (iblk m c 1 (base t))

/-- The point before. -/
abbrev prev (t : Fin cfg0.N) : Fin cfg0.N := ⟨t.val - 1, Nat.lt_of_le_of_lt (Nat.sub_le _ _) t.isLt⟩

theorem hS_A (c : Dev nD) (t : Fin cfg0.N) (h0 : t.val % 8 = 0) : hS m c t = XN (iblk m c 0 t) (iblk m c 1 t) := by
  unfold hS; rw [show base t = t from Fin.ext (show 8 * (t.val / 8) = t.val by omega)]

theorem hS_B (c : Dev nD) (t : Fin cfg0.N) (h0 : ¬t.val % 8 = 0) : hS m c t = hS m c (prev t) := by
  unfold hS; rw [show base t = base (prev t) from Fin.ext (show 8 * (t.val / 8) = 8 * ((t.val - 1) / 8) by omega)]

/-- The proof data of the one pipeline on core `c`: each input's buffer at its block, the first output's at the normalized
    rows, the scores' at the scores of those. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hS m c t
    | ⟨6, _⟩ => SOUT (hS m c t) (iblk m c 2 t) (iblk m c 3 t) (iblk m c 4 t)
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hS m c t := by dsimp only [dats]
theorem after0_6 (c : Dev nD) (t : Fin cfg0.N) : (dats m 0 c).after 6 t = SOUT (hS m c t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The first output's block is stored at a first head alone. -/
theorem idle5 (t : Fin cfg0.N) : cfg0.idle 5 (cfg0.grid.coords t) = !decide (t.val % 8 = 0) := by
  show (!(k0_cond1 (grid0.coords t) == 1#1)) = _
  by_cases h : t.val % 8 = 0
  · have := (hcond0_0 t).mpr h
    simp only [cond0_0] at this
    simp [this, h]
  · have := fun e => h ((hcond0_0 t).mp e)
    simp only [cond0_0] at this
    simp [h]
    exact this

/-- At a later head the body finds the normalized rows in the first output's block. -/
theorem before0_5 (c : Dev nD) : ∀ (n : ℕ) (t : Fin cfg0.N) (_ : t.val = n) (_ : ¬t.val % 8 = 0) (d),
    (dats m 0 c).before 5 t d = hS m c t
  | 0, t, ht, h0, d => absurd (by rw [ht]) h0
  | n + 1, t, ht, h0, d => by
    have hfl : (cfg0.win 5).flush (prev t) = false := by
      rw [← Bool.not_eq_true, flush0_5]
      show ¬(t.val - 1) % 8 = 7
      omega
    rw [(dats m 0 c).before_of_pos 5 t (by omega) ((cfg0.win 5).fetch_out rfl t) d]
    refine (if_neg (show ¬(cfg0.win 5).flush (prev t) = true by rw [hfl]; exact Bool.false_ne_true)).trans ?_
    rw [hS_B m c t h0]
    show (dats m 0 c).left 5 (prev t) d = _
    unfold Pipeline.Dat.left
    by_cases hp : (prev t).val % 8 = 0
    · have hi : cfg0.idle 5 (cfg0.grid.coords (prev t)) = false := by rw [idle5, decide_eq_true hp]; rfl
      rw [hi]
      show (dats m 0 c).kept 5 (prev t) d = _
      unfold Pipeline.Dat.kept
      rw [Pipeline.fill_of_clip_none 5 _ (fun _ => rfl) d ((dats m 0 c).after 5 (prev t)), Pipeline.Window.fill_cut, after0_5]
    · have hi : cfg0.idle 5 (cfg0.grid.coords (prev t)) = true := by rw [idle5, decide_eq_false hp]; rfl
      rw [hi]
      exact before0_5 c n (prev t) (show t.val - 1 = n by omega) hp d

/-- What the body must leave of the first output's block, from the normalized rows in it. -/
theorem leaves5 (c : Dev nD) (t : Fin cfg0.N) :
    owns (c : Thread nD τ) (ms0_5 t) fullShare (hS m c t) ⊢ (dats m 0 c).leavesExact 5 t := by
  by_cases h0 : t.val % 8 = 0
  · have hi : cfg0.idle 5 (cfg0.grid.coords t) = false := by rw [idle5, decide_eq_true h0]; rfl
    unfold Pipeline.Dat.leavesExact
    rw [hi, after0_5]
  · have hi : cfg0.idle 5 (cfg0.grid.coords t) = true := by rw [idle5, decide_eq_false h0]; rfl
    by_cases hf : (cfg0.win 5).flush t = true
    · unfold Pipeline.Dat.leavesExact
      rw [hi, hf, after0_5]
    · rw [Pipeline.Dat.leavesExact_idle _ 5 t hi (by simpa using hf)]
      iintro H
      iexists (hS m c t)
      rw [before0_5 m c t.val t rfl h0]
      iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ owns (c : Thread nD τ) (ms0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = (dats m 0 c).Φ t.castSucc from rfl,
    after0_0, after0_1, after0_2, after0_3, after0_4, after0_6]
  by_cases h0 : t.val % 8 = 0
  · rw [hS_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (bodyA c (grid0.coords t) _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t)
      rw [hS_A m c t h0]
      iexact H5
    iexact H6
  · simp only [before0_5 m c t.val t rfl h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (bodyB c (grid0.coords t) _ _ _ _ _ _ _ _ _ _ _ _ _ _ (fun h => h0 ((hcond0_0 t).mp h)) (iblk m c 0 t) (iblk m c 1 t) (iblk m c 2 t) (iblk m c 3 t) (iblk m c 4 t) (hS m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t)
      iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

/-! ## The run and the frame -/

-- the launch lemma's implicit arguments are found by unifying its conclusion with this one
set_option backward.isDefEq.respectTransparency.types false in
/-- The launch: the run ends with the kernel's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: every weakly fair execution terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ScoresIdeal.Sc

end
-- ==== Proof.ScoresValue.lean ====
module

public import proofs.«01_k».proof.Proof.ScoresFrame
public import proofs.«01_k».proof.Proof.Gen.ScoresRefIdeal.Run
public import Idealize.ShloMosaic.Lib.Pipeline.ValueKit

/-! The scores kernel's two result arrays are the reference's normalized rows and scores of its arguments. -/

@[expose] public section

set_option maxRecDepth 16384

noncomputable section

/-! ## The reference, stage by stage -/

namespace Cert.ScoresRefIdeal.Sc

open Cert.ScoresRefIdeal Cert.ScoresRefIdeal.Gen
open Idealize.ShloMosaic Idealize.ShloMosaic.TcCoe Idealize.ShloMosaic.Tactic
open scoped BigOperators

/-- The reciprocal root mean square of every row. -/
def rrms (a0 : FVec Ideal S16384x2048 .f32) : FVec Ideal S16384x1 .f32 :=
  Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))

/-- The normalized rows. -/
def rows (a0 : FVec Ideal S16384x2048 .f32) (a1 : FVec Ideal S2048 .f32) : FVec Ideal S16384x2048 .f32 :=
  mulf (mulf a0 (broadcastInDim S16384x2048 ![0, 1] bcast_S16384x1_S16384x2048_0_1 (rrms a0))) (broadcastInDim S16384x2048 ![0, 1] bcast_S1x2048_S16384x2048_0_1 (broadcastInDim S1x2048 ![1] bcast_S2048_S1x2048_1 a1))

/-- The queries of every row and head. -/
def qry (h : FVec Ideal S16384x2048 .f32) (a2 : FVec Ideal S2048x2048 .f32) : FVec Ideal S16384x8x256 .f32 :=
  shapeCast _ (Host.dotGeneral dot_S16384x2048_S2048x2048_S16384x2048_1_0_0_1_n_n none h a2) shapeCasts_S16384x2048_S16384x8x256

/-- The scores of half a query against that half's keys. -/
def half (q : FVec Ideal S16384x8x128 .f32) (k : FVec Ideal S8x128x128 .f32) : FVec Ideal S16384x8x128 .f32 :=
  transpose S16384x8x128 [2, 0, 1] (Host.dotGeneral dot_S8x128x128_S16384x8x128_S8x128x16384_2_2_1_0_0_1 none k q) transposes_S8x128x16384_S16384x8x128_2_0_1

/-- The two halves' scores, by head and half, key and row. -/
def pair (s1 s2 : FVec Ideal S16384x8x128 .f32) : FVec Ideal S16x128x16384 .f32 :=
  shapeCast _ (transpose S8x2x128x16384 [1, 2, 3, 0] (concatenate S16384x8x2x128 2 [⟨S16384x8x1x128, (broadcastInDim S16384x8x1x128 ![0, 1, 3] bcast_S16384x8x128_S16384x8x1x128_0_1_3 s1)⟩, ⟨S16384x8x1x128, (broadcastInDim S16384x8x1x128 ![0, 1, 3] bcast_S16384x8x128_S16384x8x1x128_0_1_3 s2)⟩] concatenates_S16384x8x1x128_S16384x8x1x128_S16384x8x2x128_d2) transposes_S16384x8x2x128_S8x2x128x16384_1_2_3_0) shapeCasts_S8x2x128x16384_S16x128x16384

/-- The first half of every query. -/
def fst (q : FVec Ideal S16384x8x256 .f32) : FVec Ideal S16384x8x128 .f32 :=
  extractStridedSlice S16384x8x128 ![0, 0, 0] q slices_S16384x8x256_S16384x8x128_0_0_0

/-- The second half of every query. -/
def snd (q : FVec Ideal S16384x8x256 .f32) : FVec Ideal S16384x8x128 .f32 :=
  extractStridedSlice S16384x8x128 ![0, 0, 128] q slices_S16384x8x256_S16384x8x128_0_0_128

/-- The reference's first result, as a function of its arguments. -/
def REF5 (a0 : FVec Ideal S16384x2048 .f32) (a1 : FVec Ideal S2048 .f32) : FVec Ideal S16384x2048 .bf16 :=
  truncf .bf16 (rows a0 a1) bitsLt_bf16_f32

/-- The reference's second result, as a function of its arguments. -/
def REF6 (a0 : FVec Ideal S16384x2048 .f32) (a1 : FVec Ideal S2048 .f32) (a2 : FVec Ideal S2048x2048 .f32) (a3 a4 : FVec Ideal S8x128x128 .f32) : FVec Ideal S16x128x16384 .f32 :=
  pair (half (fst (qry (rows a0 a1) a2)) a3) (half (snd (qry (rows a0 a1) a2)) a4)

theorem qry_at (h : FVec Ideal S16384x2048 .f32) (a2 : FVec Ideal S2048x2048 .f32) (n : Fin 16384) (p : Fin 8) (d : Fin 256) :
    qry h a2 (ix3 n p d) = ∑ e : Fin 2048, h (ix2 n e) * a2 (ix2 e ⟨256 * p.val + d.val, by omega⟩) := by
  pointwise [qry]
  refine Finset.sum_congr rfl fun e _ => ?_
  congr 3
  exact Fin.ext (by show p.val * 256 + d.val = 256 * p.val + d.val; omega)

theorem half_at (q : FVec Ideal S16384x8x128 .f32) (k : FVec Ideal S8x128x128 .f32) (n : Fin 16384) (p : Fin 8) (j : Fin 128) :
    half q k (ix3 n p j) = ∑ d : Fin 128, k (ix3 p j d) * q (ix3 n p d) := by
  pointwise [half]

theorem pair_at0 (s1 s2 : FVec Ideal S16384x8x128 .f32) (p : Fin 8) (j : Fin 128) (n : Fin 16384) :
    pair s1 s2 (ix3 ⟨2 * p.val, by omega⟩ j n) = s1 (ix3 n p j) := by
  pointwise [pair]
  exact dif_pos (by omega)

theorem pair_at1 (s1 s2 : FVec Ideal S16384x8x128 .f32) (p : Fin 8) (j : Fin 128) (n : Fin 16384) :
    pair s1 s2 (ix3 ⟨2 * p.val + 1, by omega⟩ j n) = s2 (ix3 n p j) := by
  pointwise [pair]
  exact dif_neg (by omega)

theorem fst_at (q : FVec Ideal S16384x8x256 .f32) (n : Fin 16384) (p : Fin 8) (d : Fin 128) :
    fst q (ix3 n p d) = q (ix3 n p ⟨d.val, by omega⟩) := by
  pointwise [fst]

theorem snd_at (q : FVec Ideal S16384x8x256 .f32) (n : Fin 16384) (p : Fin 8) (d : Fin 128) :
    snd q (ix3 n p d) = q (ix3 n p ⟨128 + d.val, by omega⟩) := by
  pointwise [snd]

end Cert.ScoresRefIdeal.Sc

/-! ## The value -/

namespace Cert.ScoresIdeal.Sc

open Cert.ScoresIdeal Cert.ScoresIdeal.Gen
open Idealize.ShloMosaic Idealize.ShloMosaic.TcCoe Idealize.ShloMosaic.Tactic Idealize.SL.Sem
open Idealize.ShloMosaic.Pipeline (Dat)
open scoped BigOperators
open Cert.ScoresRefIdeal.Sc

variable (m : (ℓ : Loc nD τ sig) → Buf (Elt Ideal) ℓ) (c : Dev nD)

/-- Every window's block index at every grid point. -/
theorem idx_val : ∀ t : Fin cfg0.N, win0_0.index t = ![t.val / 8, 0]
    ∧ win0_1.index t = ![0, 0]
    ∧ win0_2.index t = ![0, t.val % 8]
    ∧ win0_3.index t = ![t.val % 8, 0, 0]
    ∧ win0_4.index t = ![t.val % 8, 0, 0]
    ∧ win0_5.index t = ![t.val / 8, 0]
    ∧ win0_6.index t = ![t.val % 8, 0, t.val / 8] :=
  (by decide +kernel : ∀ t : Fin grid0.N, _)

/-- The block of rows at a point, by entries. -/
theorem blk0 (t : Fin cfg0.N) (r : Fin 1024) (k : Fin 2048) :
    (iblk m c 0 t : FVec Ideal S1024x2048 .f32) (ix2 r k) = m ((c : Thread nD τ).loc main_arg0) (ix2 ⟨(1024 * (t.val / 8) + r.val) % 16384, Nat.mod_lt _ (by decide)⟩ k) := by
  have ht : t.val < 128 := t.isLt
  have hq : t.val / 8 < 16 := by omega
  have h := r.isLt
  have E : ((cfg0.win 0).blk t).view.emb (ix2 r k) = ix2 ⟨(1024 * (t.val / 8) + r.val) % 16384, Nat.mod_lt _ (by decide)⟩ k := by
    blk_ext [idx_val t]
  exact congrArg (m ((c : Thread nD τ).loc main_arg0)) E

/-- The weights' block is the same at every point. -/
theorem blk1 (t : Fin cfg0.N) (k : Fin 2048) :
    (iblk m c 1 t : FVec Ideal S1x2048 .f32) (ix2 0 k) = m ((c : Thread nD τ).loc main_arg1) (ix1 k) := by
  pointwise []
  blk_point [iblk, V, idx_val t]

/-- The query matrix's block, by entries. -/
theorem blk2 (t : Fin cfg0.N) (k : Fin 2048) (n : Fin 256) :
    (iblk m c 2 t : FVec Ideal S2048x256 .bf16) (ix2 k n) = m ((c : Thread nD τ).loc main_arg2) (ix2 k ⟨256 * (t.val % 8) + n.val, by omega⟩) := by
  pointwise []
  blk_point [iblk, V, idx_val t]

/-- The first keys' block, by entries. -/
theorem blk3 (t : Fin cfg0.N) (j d : Fin 128) :
    (iblk m c 3 t : FVec Ideal S1x128x128 .bf16) (ix3 0 j d) = m ((c : Thread nD τ).loc main_arg3) (ix3 ⟨t.val % 8, Nat.mod_lt _ (by decide)⟩ j d) := by
  pointwise []
  blk_point [iblk, V, idx_val t]

/-- The second keys' block, by entries. -/
theorem blk4 (t : Fin cfg0.N) (j d : Fin 128) :
    (iblk m c 4 t : FVec Ideal S1x128x128 .bf16) (ix3 0 j d) = m ((c : Thread nD τ).loc main_arg4) (ix3 ⟨t.val % 8, Nat.mod_lt _ (by decide)⟩ j d) := by
  pointwise []
  blk_point [iblk, V, idx_val t]

/-- The normalized block, by entries. -/
theorem XN_at (t : Fin cfg0.N) (r : Fin 1024) (k : Fin 2048) :
    XN (F := Ideal) (iblk m c 0 t) (iblk m c 1 t) (ix2 r k)
      = rows (m ((c : Thread nD τ).loc main_arg0)) (m ((c : Thread nD τ).loc main_arg1)) (ix2 ⟨(1024 * (t.val / 8) + r.val) % 16384, Nat.mod_lt _ (by decide)⟩ k) := by
  have h := r.isLt
  have hc : ∀ e : Fin 2048, chunk (F := Ideal) (iblk m c 0 t : FVec Ideal S1024x2048 .f32) (256 * (r.val / 256)) (ix2 ⟨r.val % 256, Nat.mod_lt _ (by decide)⟩ e)
      = m ((c : Thread nD τ).loc main_arg0) (ix2 ⟨(1024 * (t.val / 8) + r.val) % 16384, Nat.mod_lt _ (by decide)⟩ e) := fun e => by
    rw [← blk0 m c t r e]
    show (iblk m c 0 t : FVec Ideal S1024x2048 .f32) (ix2 ⟨(256 * (r.val / 256) + r.val % 256) % 1024, _⟩ e) = _
    congr 2
    exact Fin.ext (by show (256 * (r.val / 256) + r.val % 256) % 1024 = r.val; omega)
  show k0_pay1 (chunk (F := Ideal) (iblk m c 0 t : FVec Ideal S1024x2048 .f32) (256 * (r.val / 256))) (iblk m c 1 t) (ix2 ⟨r.val % 256, Nat.mod_lt _ (by decide)⟩ k) = _
  generalize chunk (F := Ideal) (iblk m c 0 t : FVec Ideal S1024x2048 .f32) (256 * (r.val / 256)) = C at hc
  generalize hw : (iblk m c 1 t : FVec Ideal S1x2048 .f32) = W
  have hw' : ∀ e : Fin 2048, W (ix2 0 e) = m ((c : Thread nD τ).loc main_arg1) (ix1 e) := fun e => by rw [← hw]; exact blk1 m c t e
  pointwise [k0_pay1, rows, rrms]
  simp only [hc, hw']

/-- The normalized rows after any point, by entries. -/
theorem hS_at (t : Fin cfg0.N) (r : Fin 1024) (k : Fin 2048) :
    hS (F := Ideal) m c t (ix2 r k)
      = rows (m ((c : Thread nD τ).loc main_arg0)) (m ((c : Thread nD τ).loc main_arg1)) (ix2 ⟨(1024 * (t.val / 8) + r.val) % 16384, Nat.mod_lt _ (by decide)⟩ k) := by
  refine (XN_at m c (base t) r k).trans ?_
  have e : 8 * (t.val / 8) / 8 = t.val / 8 := by omega
  simp only [base, e]

/-- THE FIRST RESULT after the run is the reference's. -/
theorem final5 : (dats m 0 c).arrAt 5 (cfgs 0).N = REF5 (m ((c : Thread nD τ).loc main_arg0)) (m ((c : Thread nD τ).loc main_arg1)) := by
  refine (dats m 0 c).arrAt_eq_of_covers 5 _ (by decide +kernel) fun t hf y => ?_
  blk_simp; rw [after0_5]
  have ht : t.val < 128 := t.isLt
  have hq : t.val / 8 < 16 := by omega
  obtain ⟨r, n, rfl⟩ : ∃ (r : Fin 1024) (n : Fin 2048), y = ix2 r n := ⟨y 0, y 1, eq_ix2 y⟩
  have hr := r.isLt
  have E : ((cfg0.win 5).blk t).view.emb (ix2 r n) = ix2 ⟨(1024 * (t.val / 8) + r.val) % 16384, Nat.mod_lt _ (by decide)⟩ n := by
    blk_ext [idx_val t]
  rw [E]
  refine (hS_at m c t r n).trans ?_
  pointwise [REF5]

/-- The kernel's query block, by entries. -/
theorem pay2_at (N : FVec Ideal S1024x2048 .bf16) (W : FVec Ideal S2048x256 .bf16) (r : Fin 1024) (d : Fin 256) :
    k0_pay2 N W (ix2 r d) = ∑ e : Fin 2048, N (ix2 r e) * W (ix2 e d) := by
  pointwise [k0_pay2]

/-- The scores of the first half, -/
theorem pay3_at (N : FVec Ideal S1024x2048 .bf16) (W : FVec Ideal S2048x256 .bf16) (K : FVec Ideal S1x128x128 .bf16) (j : Fin 128) (r : Fin 1024) :
    (k0_pay3 N W K (ix3 0 j r) : Ideal .f32) = ∑ d : Fin 128, (K (ix3 0 j d) : Ideal .f32) * (k0_pay2 (F := Ideal) N W (ix2 r ⟨d.val, by omega⟩) : Ideal .f32) := by
  pointwise [k0_pay3]

/-- and of the second. -/
theorem pay4_at (N : FVec Ideal S1024x2048 .bf16) (W : FVec Ideal S2048x256 .bf16) (K : FVec Ideal S1x128x128 .bf16) (j : Fin 128) (r : Fin 1024) :
    (k0_pay4 N W K (ix3 0 j r) : Ideal .f32) = ∑ d : Fin 128, (K (ix3 0 j d) : Ideal .f32) * (k0_pay2 (F := Ideal) N W (ix2 r ⟨128 + d.val, by omega⟩) : Ideal .f32) := by
  pointwise [k0_pay4]

/-- THE SECOND RESULT after the run is the reference's. -/
theorem final6 : (dats m 0 c).arrAt 6 (cfgs 0).N = REF6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 128 := t.isLt
  have hq : t.val / 8 < 16 := by omega
  have hm : t.val % 8 < 8 := by omega
  obtain ⟨s, j, r, rfl⟩ : ∃ (s : Fin 2) (j : Fin 128) (r : Fin 1024), y = ix3 s j r := ⟨y 0, y 1, y 2, eq_ix3 y⟩
  have hr := r.isLt
  have hs := s.isLt
  by_cases h0 : s.val = 0
  · have E : ((cfg0.win 6).blk t).view.emb (ix3 s j r) = ix3 ⟨2 * (⟨t.val % 8, hm⟩ : Fin 8).val, by omega⟩ j ⟨(1024 * (t.val / 8) + r.val) % 16384, Nat.mod_lt _ (by decide)⟩ := by
      blk_ext [idx_val t]
    rw [E]
    refine (if_pos h0).trans ?_
    refine (pay3_at _ _ _ j r).trans ?_
    unfold REF6
    rw [pair_at0, half_at]
    refine Finset.sum_congr rfl fun d _ => ?_
    rw [fst_at, qry_at, pay2_at]
    refine congr (congrArg _ (blk3 m c t j d)) (Finset.sum_congr rfl fun e _ => ?_)
    exact congr (congrArg _ (hS_at m c t r e)) (blk2 m c t e _)
  · have E : ((cfg0.win 6).blk t).view.emb (ix3 s j r) = ix3 ⟨2 * (⟨t.val % 8, hm⟩ : Fin 8).val + 1, by omega⟩ j ⟨(1024 * (t.val / 8) + r.val) % 16384, Nat.mod_lt _ (by decide)⟩ := by
      blk_ext [idx_val t]
    rw [E]
    refine (if_neg h0).trans ?_
    refine (pay4_at _ _ _ j r).trans ?_
    unfold REF6
    rw [pair_at1, half_at]
    refine Finset.sum_congr rfl fun d _ => ?_
    rw [snd_at, qry_at, pay2_at]
    refine congr (congrArg _ (blk4 m c t j d)) (Finset.sum_congr rfl fun e _ => ?_)
    exact congr (congrArg _ (hS_at m c t r e)) (blk2 m c t e _)

end Cert.ScoresIdeal.Sc

end
-- ==== Proof.DenseValue.lean ====
module

public import proofs.«01_k».proof.Proof.Gen.DenseIdeal.Value
public import proofs.«01_k».proof.Proof.Gen.DenseRefIdeal.Run
public import Idealize.ShloMosaic.Lib.Pipeline.ValueKit
public import Idealize.ShloMosaic.Lib.Claim

/-! The experts kernel's result array is the reference's sum over all experts. -/

@[expose] public section

set_option maxRecDepth 16384

noncomputable section

/-! ## The reference, stage by stage -/

namespace Cert.DenseRefIdeal.De

open Cert.DenseRefIdeal Cert.DenseRefIdeal.Gen
open Idealize.ShloMosaic Idealize.ShloMosaic.TcCoe Idealize.ShloMosaic.Tactic
open scoped BigOperators

/-- Every token's product with every expert's down row. -/
def dots (a1 : FVec Ideal S16384x2048 .bf16) (a3 : FVec Ideal S16384x2048 .f32) : FVec Ideal S16384x16384 .f32 :=
  Host.dotGeneral dot_S16384x2048_S2048x16384_S16384x16384_1_0_0_1_n_n none (extf .f32 a1 bitsLt_bf16_f32) (transpose S2048x16384 [1, 0] a3 transposes_S16384x2048_S2048x16384_1_0)

/-- The gate times the activation of the product. -/
def act (a2 : FVec Ideal S16384x16384 .bf16) (d : FVec Ideal S16384x16384 .f32) : FVec Ideal S16384x16384 .f32 :=
  mulf (extf .f32 a2 bitsLt_bf16_f32) (mulf (mulf (broadcastInDim S16384x16384 ![] bcast_S_S16384x16384 (constant S_ .f32 0x3F000000#32)) d) (Host.erfc (mulf (Host.negf d) (broadcastInDim S16384x16384 ![] bcast_S_S16384x16384 (constant S_ .f32 0x3F3504F3#32)))))

/-- The reference as a function of its arguments. -/
def REF (a0 : FVec Ideal S16384x2048 .f32) (a1 : FVec Ideal S16384x2048 .bf16) (a2 : FVec Ideal S16384x16384 .bf16) (a3 a4 : FVec Ideal S16384x2048 .f32) : FVec Ideal S16384x2048 .f32 :=
  addf a0 (Host.dotGeneral dot_S16384x16384_S16384x2048_S16384x2048_1_0_0_1_n_n none (act a2 (dots a1 a3)) a4)

theorem REF_at (a0 : FVec Ideal S16384x2048 .f32) (a1 : FVec Ideal S16384x2048 .bf16) (a2 : FVec Ideal S16384x16384 .bf16) (a3 a4 : FVec Ideal S16384x2048 .f32) (r : Fin 16384) (n : Fin 2048) :
    REF a0 a1 a2 a3 a4 (ix2 r n) = a0 (ix2 r n) + ∑ e : Fin 16384, act a2 (dots a1 a3) (ix2 r e) * a4 (ix2 e n) := by
  pointwise [REF]

theorem dots_at (a1 : FVec Ideal S16384x2048 .bf16) (a3 : FVec Ideal S16384x2048 .f32) (r e : Fin 16384) :
    dots a1 a3 (ix2 r e) = ∑ d : Fin 2048, (a1 (ix2 r d) : Ideal .f32) * a3 (ix2 e d) := by
  pointwise [dots]

theorem act_at (a2 : FVec Ideal S16384x16384 .bf16) (d : FVec Ideal S16384x16384 .f32) (r e : Fin 16384) :
    act a2 d (ix2 r e) = (a2 (ix2 r e) : Ideal .f32) * ((Scalar.ofBits .f32 0x3F000000#32 : Ideal .f32) * d (ix2 r e) * ((Scalar.ofBits .f32 0x3F800000#32 : Ideal .f32) + Ideal.erf (d (ix2 r e) * (Scalar.ofBits .f32 0x3F3504F3#32 : Ideal .f32)))) := by
  pointwise [act]
  rw [EReal.neg_mul, Ideal.erfc_neg]

end Cert.DenseRefIdeal.De

/-! ## The value -/

namespace Cert.DenseIdeal.De

open Cert.DenseIdeal Cert.DenseIdeal.Gen
open Idealize.ShloMosaic Idealize.ShloMosaic.TcCoe Idealize.ShloMosaic.Tactic Idealize.SL.Sem
open Idealize.ShloMosaic.Pipeline (Dat)
open Cert.DenseRefIdeal.De
open scoped BigOperators

variable (m : (ℓ : Loc nD τ sig) → Buf (Elt Ideal) ℓ) (c : Dev nD)

/-- Every window's block index at every grid point. -/
theorem idx_val : ∀ t : Fin cfg0.N, win0_0.index t = ![t.val / 32, 0]
    ∧ win0_1.index t = ![t.val / 32, 0]
    ∧ win0_2.index t = ![t.val / 32, t.val % 32]
    ∧ win0_3.index t = ![t.val % 32, 0]
    ∧ win0_4.index t = ![t.val % 32, 0]
    ∧ win0_5.index t = ![t.val / 32, 0] :=
  (by decide +kernel : ∀ t : Fin grid0.N, _)

/-- The token a point's block row is. -/
def row (t : ℕ) (r : Fin 1024) : Fin 16384 := ⟨(1024 * (t / 32) + r.val) % 16384, Nat.mod_lt _ (by decide)⟩

/-- The expert a point's block row is. -/
def ex (t : ℕ) (e : Fin 512) : Fin 16384 := ⟨512 * (t % 32) + e.val, by omega⟩

theorem blk0 (t : Fin cfg0.N) (r : Fin 1024) (k : Fin 2048) :
    (iblk m c 0 t : FVec Ideal S1024x2048 .f32) (ix2 r k) = m ((c : Thread nD τ).loc main_arg0) (ix2 (row t.val r) k) := by
  have ht : t.val < 512 := t.isLt
  have hr := r.isLt
  have hq : t.val / 32 < 16 := by omega
  have E : ((cfg0.win 0).blk t).view.emb (ix2 r k) = ix2 (row t.val r) k := by
    unfold row; blk_ext [idx_val t]
  exact congrArg (m ((c : Thread nD τ).loc main_arg0)) E

theorem blk1 (t : Fin cfg0.N) (r : Fin 1024) (k : Fin 2048) :
    (iblk m c 1 t : FVec Ideal S1024x2048 .bf16) (ix2 r k) = m ((c : Thread nD τ).loc main_arg1) (ix2 (row t.val r) k) := by
  have ht : t.val < 512 := t.isLt
  have hr := r.isLt
  have hq : t.val / 32 < 16 := by omega
  have E : ((cfg0.win 1).blk t).view.emb (ix2 r k) = ix2 (row t.val r) k := by
    unfold row; blk_ext [idx_val t]
  exact congrArg (m ((c : Thread nD τ).loc main_arg1)) E

theorem blk2 (t : Fin cfg0.N) (r : Fin 1024) (e : Fin 512) :
    (iblk m c 2 t : FVec Ideal S1024x512 .bf16) (ix2 r e) = m ((c : Thread nD τ).loc main_arg2) (ix2 (row t.val r) (ex t.val e)) := by
  have ht : t.val < 512 := t.isLt
  have hr := r.isLt
  have hq : t.val / 32 < 16 := by omega
  have E : ((cfg0.win 2).blk t).view.emb (ix2 r e) = ix2 (row t.val r) (ex t.val e) := by
    unfold row ex; blk_ext [idx_val t]
  exact congrArg (m ((c : Thread nD τ).loc main_arg2)) E

theorem blk3 (t : Fin cfg0.N) (e : Fin 512) (k : Fin 2048) :
    (iblk m c 3 t : FVec Ideal S512x2048 .bf16) (ix2 e k) = m ((c : Thread nD τ).loc main_arg3) (ix2 (ex t.val e) k) := by
  unfold ex
  pointwise []
  blk_point [iblk, V, idx_val t]

theorem blk4 (t : Fin cfg0.N) (e : Fin 512) (k : Fin 2048) :
    (iblk m c 4 t : FVec Ideal S512x2048 .bf16) (ix2 e k) = m ((c : Thread nD τ).loc main_arg4) (ix2 (ex t.val e) k) := by
  unfold ex
  pointwise []
  blk_point [iblk, V, idx_val t]

/-- What a point adds, by entries: its 512 experts, weighted. -/
theorem pay_at (h : FVec Ideal S1024x2048 .bf16) (u : FVec Ideal S512x2048 .bf16) (w : FVec Ideal S1024x512 .bf16) (acc : FVec Ideal S1024x2048 .f32) (v : FVec Ideal S512x2048 .bf16) (r : Fin 1024) (n : Fin 2048) :
    k0_pay1 h u w acc v (ix2 r n) = acc (ix2 r n) + ∑ e : Fin 512, ((w (ix2 r e) : Ideal .f32) * ((Scalar.ofBits .f32 0x3F000000#32 : Ideal .f32) * (∑ d : Fin 2048, (h (ix2 r d) : Ideal .f32) * u (ix2 e d)) * ((Scalar.ofBits .f32 0x3F800000#32 : Ideal .f32) + Ideal.erf ((∑ d : Fin 2048, (h (ix2 r d) : Ideal .f32) * u (ix2 e d)) * (Scalar.ofBits .f32 0x3F3504F3#32 : Ideal .f32))))) * (v (ix2 e n) : Ideal .f32) := by
  pointwise [k0_pay1]
  rfl

/-- What a row of tokens' first point starts from. -/
def start (r : Fin 16384) (n : Fin 2048) : EReal := m ((c : Thread nD τ).loc main_arg0) (ix2 r n)

/-- What point `t` adds at a place of its block. -/
def addend (t : ℕ) (i : Fin 1024) (n : Fin 2048) : EReal :=
  ∑ e : Fin 512, act (m ((c : Thread nD τ).loc main_arg2)) (dots (m ((c : Thread nD τ).loc main_arg1)) (m ((c : Thread nD τ).loc main_arg3))) (ix2 (row t i) (ex t e)) * m ((c : Thread nD τ).loc main_arg4) (ix2 (ex t e) n)

theorem pay_blk (t : Fin cfg0.N) (acc : FVec Ideal S1024x2048 .f32) (r : Fin 1024) (n : Fin 2048) :
    k0_pay1 (iblk m c 1 t) (iblk m c 3 t) (iblk m c 2 t) acc (iblk m c 4 t) (ix2 r n) = acc (ix2 r n) + addend m c t.val r n := by
  rw [pay_at]
  unfold addend
  simp only [blk1, blk2, blk3, blk4, act_at, dots_at]

/-- What the staging buffer holds after a row of tokens' last point. -/
theorem last_at (t : Fin cfg0.N) (hf : t.val % 32 = 31) (r : Fin 1024) (n : Fin 2048) :
    outsAt0 m c t.val t.isLt (ix2 r n) = start m c (row t.val r) n + ∑ s ∈ Finset.range 32, addend m c (32 * (t.val / 32) + s) r n := by
  have ht : t.val < 512 := t.isLt
  rw [Cert.DenseIdeal.Value.outsAt_5_eq]
  have key := Pipeline.accAt_add_apply (ι := S1024x2048.Idx) (β := EReal) (Cert.DenseIdeal.Value.reset5 m c) (Cert.DenseIdeal.Value.step5 m c)
    (fun i => start m c (row t.val (i 0)) (i 1)) (fun s i => addend m c s (i 0) (i 1)) (32 * (t.val / 32)) 31 ?_ ?_ (t.val % 32) (by omega)
  · refine (key _ (ix2 r n)).trans ?_
    rw [hf]
    rfl
  · intro h i
    obtain ⟨r, n, rfl⟩ : ∃ (r : Fin 1024) (n : Fin 2048), i = ix2 r n := ⟨i 0, i 1, eq_ix2 i⟩
    refine (pay_blk m c ⟨_, h⟩ _ r n).trans ?_
    rw [blk0]
    have e : row (32 * (t.val / 32)) r = row t.val r := by
      unfold row; congr 3; omega
    show start m c (row (32 * (t.val / 32)) r) n + _ = _
    rw [e]
    rfl
  · intro k h acc i _ _
    obtain ⟨r, n, rfl⟩ : ∃ (r : Fin 1024) (n : Fin 2048), i = ix2 r n := ⟨i 0, i 1, eq_ix2 i⟩
    exact pay_blk m c ⟨k, h⟩ acc r n

/-- THE RESULT ARRAY after the run is the reference of the arguments. -/
theorem final : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht : t.val < 512 := t.isLt
  have hm : t.val % 32 = 31 := (flush0_5 t).mp hf
  obtain ⟨r, n, rfl⟩ : ∃ (r : Fin 1024) (n : Fin 2048), y = ix2 r n := ⟨y 0, y 1, eq_ix2 y⟩
  have hr := r.isLt
  have E : ((cfg0.win 5).blk t).view.emb (ix2 r n) = ix2 (row t.val r) n := by
    unfold row; blk_ext [idx_val t]
  rw [E]
  refine (last_at m c t hm r n).trans ?_
  rw [REF_at, Fin.sum_univ_tiles 32 512 rfl, Finset.sum_range]
  refine congrArg _ (Finset.sum_congr rfl fun j _ => ?_)
  unfold addend
  refine Finset.sum_congr rfl fun e _ => ?_
  have hj := j.isLt
  have e1 : row (32 * (t.val / 32) + j.val) r = row t.val r := by
    unfold row; congr 3; omega
  have e2 : ex (32 * (t.val / 32) + j.val) e = ⟨j.val * 512 + e.val, by omega⟩ := by
    unfold ex; exact Fin.ext (by show 512 * ((32 * (t.val / 32) + j.val) % 32) + e.val = j.val * 512 + e.val; omega)
  rw [e1, e2]

end Cert.DenseIdeal.De

end
-- ==== Proof.ConvBody.lean ====
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.WholeRead
public import Idealize.ShloMosaic.Lib.WritesUnit
public import Idealize.ShloMosaic.Lib.Claim

/-! What one trip of the convolution's loop writes: eight 32 x 128 pieces, each the same 31 taps. -/

@[expose] public section

set_option maxRecDepth 16384

noncomputable section

namespace Cert.ConvIdeal.Cv

open Cert.ConvIdeal Cert.ConvIdeal.Gen
open Idealize.ShloMosaic Idealize.ShloMosaic.TcCoe Idealize.ShloMosaic.Tactic Idealize.SL.Sem

variable {F : FTy → Type} [FloatOps F]

/-- One tap: a row of weights times the shifted rows. -/
def tap (w : Vec F S1x128 .f32) (h : FVec F S32x128 .f32) : FVec F S32x128 .f32 :=
  mulf (broadcastTo S32x128 (shapeCast S1x128 w shapeCasts_S1x128_S1x128) broadcasts_S1x128_S32x128) h

/-- The bias and the 31 taps over a window of 64 rows, of which the first two are not used. -/
def TAP (cb : Vec F S1x128 .f32) (w : Fin 31 → Vec F S1x128 .f32) (win : Vec F S64x128 .f32) : FVec F S32x128 .f32 :=
  shapeCast S32x128 (addf (addf (addf (addf (addf (addf (addf (addf (addf (addf (addf (addf (addf (addf (addf (addf (addf (addf (addf (addf (addf (addf (addf (addf (addf (addf (addf (addf (addf (addf (addf (addf (broadcast S32x128 (Scalar.ofBits .f32 0x00000000#32)) (broadcastTo S32x128 (shapeCast S1x128 cb shapeCasts_S1x128_S1x128) broadcasts_S1x128_S32x128)) (tap (w ⟨0, by decide⟩) (extractStridedSlice S32x128 ![2, 0] win slices_S64x128_o2_0_S32x128))) (tap (w ⟨1, by decide⟩) (extractStridedSlice S32x128 ![3, 0] win slices_S64x128_o3_0_S32x128))) (tap (w ⟨2, by decide⟩) (extractStridedSlice S32x128 ![4, 0] win slices_S64x128_o4_0_S32x128))) (tap (w ⟨3, by decide⟩) (extractStridedSlice S32x128 ![5, 0] win slices_S64x128_o5_0_S32x128))) (tap (w ⟨4, by decide⟩) (extractStridedSlice S32x128 ![6, 0] win slices_S64x128_o6_0_S32x128))) (tap (w ⟨5, by decide⟩) (extractStridedSlice S32x128 ![7, 0] win slices_S64x128_o7_0_S32x128))) (tap (w ⟨6, by decide⟩) (extractStridedSlice S32x128 ![8, 0] win slices_S64x128_o8_0_S32x128))) (tap (w ⟨7, by decide⟩) (extractStridedSlice S32x128 ![9, 0] win slices_S64x128_o9_0_S32x128))) (tap (w ⟨8, by decide⟩) (extractStridedSlice S32x128 ![10, 0] win slices_S64x128_o10_0_S32x128))) (tap (w ⟨9, by decide⟩) (extractStridedSlice S32x128 ![11, 0] win slices_S64x128_o11_0_S32x128))) (tap (w ⟨10, by decide⟩) (extractStridedSlice S32x128 ![12, 0] win slices_S64x128_o12_0_S32x128))) (tap (w ⟨11, by decide⟩) (extractStridedSlice S32x128 ![13, 0] win slices_S64x128_o13_0_S32x128))) (tap (w ⟨12, by decide⟩) (extractStridedSlice S32x128 ![14, 0] win slices_S64x128_o14_0_S32x128))) (tap (w ⟨13, by decide⟩) (extractStridedSlice S32x128 ![15, 0] win slices_S64x128_o15_0_S32x128))) (tap (w ⟨14, by decide⟩) (extractStridedSlice S32x128 ![16, 0] win slices_S64x128_o16_0_S32x128))) (tap (w ⟨15, by decide⟩) (extractStridedSlice S32x128 ![17, 0] win slices_S64x128_o17_0_S32x128))) (tap (w ⟨16, by decide⟩) (extractStridedSlice S32x128 ![18, 0] win slices_S64x128_o18_0_S32x128))) (tap (w ⟨17, by decide⟩) (extractStridedSlice S32x128 ![19, 0] win slices_S64x128_o19_0_S32x128))) (tap (w ⟨18, by decide⟩) (extractStridedSlice S32x128 ![20, 0] win slices_S64x128_o20_0_S32x128))) (tap (w ⟨19, by decide⟩) (extractStridedSlice S32x128 ![21, 0] win slices_S64x128_o21_0_S32x128))) (tap (w ⟨20, by decide⟩) (extractStridedSlice S32x128 ![22, 0] win slices_S64x128_o22_0_S32x128))) (tap (w ⟨21, by decide⟩) (extractStridedSlice S32x128 ![23, 0] win slices_S64x128_o23_0_S32x128))) (tap (w ⟨22, by decide⟩) (extractStridedSlice S32x128 ![24, 0] win slices_S64x128_o24_0_S32x128))) (tap (w ⟨23, by decide⟩) (extractStridedSlice S32x128 ![25, 0] win slices_S64x128_o25_0_S32x128))) (tap (w ⟨24, by decide⟩) (extractStridedSlice S32x128 ![26, 0] win slices_S64x128_o26_0_S32x128))) (tap (w ⟨25, by decide⟩) (extractStridedSlice S32x128 ![27, 0] win slices_S64x128_o27_0_S32x128))) (tap (w ⟨26, by decide⟩) (extractStridedSlice S32x128 ![28, 0] win slices_S64x128_o28_0_S32x128))) (tap (w ⟨27, by decide⟩) (extractStridedSlice S32x128 ![29, 0] win slices_S64x128_o29_0_S32x128))) (tap (w ⟨28, by decide⟩) (extractStridedSlice S32x128 ![30, 0] win slices_S64x128_o30_0_S32x128))) (tap (w ⟨29, by decide⟩) (extractStridedSlice S32x128 ![31, 0] win slices_S64x128_o31_0_S32x128))) (tap (w ⟨30, by decide⟩) (extractStridedSlice S32x128 ![32, 0] win slices_S64x128_o32_0_S32x128))) shapeCasts_S32x128_S32x128

theorem inb6 (j : Fin 31) (b : Fin 8) : ∀ a, (![j.val, 128 * b.val] : Fin 2 → ℕ) a + S1x128.size a ≤ S31x1024.size a := by
  revert j b; decide +kernel

theorem inb7 (b : Fin 8) : ∀ a, (![0, 128 * b.val] : Fin 2 → ℕ) a + S1x128.size a ≤ S1x1024.size a := by
  revert b; decide +kernel

/-- A load of one row of 128 weights. -/
abbrev r6 (M : Memref sig .tc .vmem S31x1024 .f32) (X : BufTy.Contents (Elt F) M.view.ty) (j : Fin 31) (b : Fin 8) : Vec F S1x128 .f32 :=
  View.readAt (Elt F) M.view (Rect.unit (s := S31x1024) ![j.val, 128 * b.val] S1x128.size (inb6 j b)).toLoadRect X

/-- A load of 128 biases. -/
abbrev r7 (M : Memref sig .tc .vmem S1x1024 .f32) (X : BufTy.Contents (Elt F) M.view.ty) (b : Fin 8) : Vec F S1x128 .f32 :=
  View.readAt (Elt F) M.view (Rect.unit (s := S1x1024) ![0, 128 * b.val] S1x128.size (inb7 b)).toLoadRect X

set_option maxHeartbeats 4000000 in
/-- The pieces of one trip, last first. -/
theorem trip_pieces (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S288x1024 .f32) (harg11 : arg11.IsWhole) (arg12 : Memref sig .tc .vmem S256x1024 .f32) (harg12 : arg12.IsWhole)
    (X6 : BufTy.Contents (Elt F) arg6.view.ty) (X7 : BufTy.Contents (Elt F) arg7.view.ty) (X11 : BufTy.Contents (Elt F) arg11.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 X6 X7 X11 k
    = [⟨Rect.unit (s := S256x1024) (k0_off16 k) S32x128.size (k0_off16_inb k), TAP (r7 arg7 X7 ⟨7, by decide⟩) (fun j => r6 arg6 X6 j ⟨7, by decide⟩) (View.readAt (Elt F) arg11.view (Rect.unit (s := S288x1024) (k0_off15 k) S64x128.size (k0_off15_inb k)).toLoadRect X11)⟩,
      ⟨Rect.unit (s := S256x1024) (k0_off14 k) S32x128.size (k0_off14_inb k), TAP (r7 arg7 X7 ⟨6, by decide⟩) (fun j => r6 arg6 X6 j ⟨6, by decide⟩) (View.readAt (Elt F) arg11.view (Rect.unit (s := S288x1024) (k0_off13 k) S64x128.size (k0_off13_inb k)).toLoadRect X11)⟩,
      ⟨Rect.unit (s := S256x1024) (k0_off12 k) S32x128.size (k0_off12_inb k), TAP (r7 arg7 X7 ⟨5, by decide⟩) (fun j => r6 arg6 X6 j ⟨5, by decide⟩) (View.readAt (Elt F) arg11.view (Rect.unit (s := S288x1024) (k0_off11 k) S64x128.size (k0_off11_inb k)).toLoadRect X11)⟩,
      ⟨Rect.unit (s := S256x1024) (k0_off10 k) S32x128.size (k0_off10_inb k), TAP (r7 arg7 X7 ⟨4, by decide⟩) (fun j => r6 arg6 X6 j ⟨4, by decide⟩) (View.readAt (Elt F) arg11.view (Rect.unit (s := S288x1024) (k0_off9 k) S64x128.size (k0_off9_inb k)).toLoadRect X11)⟩,
      ⟨Rect.unit (s := S256x1024) (k0_off8 k) S32x128.size (k0_off8_inb k), TAP (r7 arg7 X7 ⟨3, by decide⟩) (fun j => r6 arg6 X6 j ⟨3, by decide⟩) (View.readAt (Elt F) arg11.view (Rect.unit (s := S288x1024) (k0_off7 k) S64x128.size (k0_off7_inb k)).toLoadRect X11)⟩,
      ⟨Rect.unit (s := S256x1024) (k0_off6 k) S32x128.size (k0_off6_inb k), TAP (r7 arg7 X7 ⟨2, by decide⟩) (fun j => r6 arg6 X6 j ⟨2, by decide⟩) (View.readAt (Elt F) arg11.view (Rect.unit (s := S288x1024) (k0_off5 k) S64x128.size (k0_off5_inb k)).toLoadRect X11)⟩,
      ⟨Rect.unit (s := S256x1024) (k0_off4 k) S32x128.size (k0_off4_inb k), TAP (r7 arg7 X7 ⟨1, by decide⟩) (fun j => r6 arg6 X6 j ⟨1, by decide⟩) (View.readAt (Elt F) arg11.view (Rect.unit (s := S288x1024) (k0_off3 k) S64x128.size (k0_off3_inb k)).toLoadRect X11)⟩,
      ⟨Rect.unit (s := S256x1024) (k0_off2 k) S32x128.size (k0_off2_inb k), TAP (r7 arg7 X7 ⟨0, by decide⟩) (fun j => r6 arg6 X6 j ⟨0, by decide⟩) (View.readAt (Elt F) arg11.view (Rect.unit (s := S288x1024) (k0_off1 k) S64x128.size (k0_off1_inb k)).toLoadRect X11)⟩] := by
  unfold tripL_k0_t1 trip_k0_t1
  rfl

/-! ## Loads by entries -/

/-- Column block `b` of the bias. -/
def cbk (x5 : Vec F S1x1024 .f32) (b : ℕ) : Vec F S1x128 .f32 :=
  fun y => x5 (ix2 0 ⟨(128 * b + (y 1).val) % 1024, Nat.mod_lt _ (by decide)⟩)

/-- Column block `b` of row `j` of the weights. -/
def wk (x4 : Vec F S31x1024 .f32) (b : ℕ) (j : Fin 31) : Vec F S1x128 .f32 :=
  fun y => x4 (ix2 j ⟨(128 * b + (y 1).val) % 1024, Nat.mod_lt _ (by decide)⟩)

/-- The 64 rows from `32 * k` on, column block `b`. -/
def wink (H : Vec F S288x1024 .f32) (k b : ℕ) : Vec F S64x128 .f32 :=
  fun y => H (ix2 ⟨(32 * k + (y 0).val) % 288, Nat.mod_lt _ (by decide)⟩ ⟨(128 * b + (y 1).val) % 1024, Nat.mod_lt _ (by decide)⟩)

theorem r7_eq (M : Memref sig .tc .vmem S1x1024 .f32) (h : M.IsWhole) (x5 : Vec F S1x1024 .f32) (b : Fin 8) :
    r7 M (h.unread x5) b = cbk x5 b.val := by
  funext y
  have hb := b.isLt
  have h0 : (y 0).val < 1 := (y 0).isLt
  have h1 : (y 1).val < 128 := (y 1).isLt
  unfold r7 cbk
  rw [h.readAt_unread]
  congr 1
  funext a
  match a with
  | ⟨0, _⟩ =>
    refine Fin.ext ?_
    show 0 + 1 * (y 0).val = 0
    omega
  | ⟨1, _⟩ =>
    refine Fin.ext ?_
    show 128 * b.val + 1 * (y 1).val = (128 * b.val + (y 1).val) % 1024
    omega

theorem r6_eq (M : Memref sig .tc .vmem S31x1024 .f32) (h : M.IsWhole) (x4 : Vec F S31x1024 .f32) (j : Fin 31) (b : Fin 8) :
    r6 M (h.unread x4) j b = wk x4 b.val j := by
  funext y
  have hb := b.isLt
  have h0 : (y 0).val < 1 := (y 0).isLt
  have h1 : (y 1).val < 128 := (y 1).isLt
  unfold r6 wk
  rw [h.readAt_unread]
  congr 1
  funext a
  match a with
  | ⟨0, _⟩ =>
    refine Fin.ext ?_
    show j.val + 1 * (y 0).val = j.val
    omega
  | ⟨1, _⟩ =>
    refine Fin.ext ?_
    show 128 * b.val + 1 * (y 1).val = (128 * b.val + (y 1).val) % 1024
    omega

theorem r11_eq (M : Memref sig .tc .vmem S288x1024 .f32) (h : M.IsWhole) (H : Vec F S288x1024 .f32) (k : Fin k0_t1_loop.trips) (b : Fin 8)
    (off : Fin 2 → ℕ) (inb : ∀ a, off a + S64x128.size a ≤ S288x1024.size a) (ho : off = ![32 * k.val, 128 * b.val]) :
    View.readAt (Elt F) M.view (Rect.unit (s := S288x1024) off S64x128.size inb).toLoadRect (h.unread H) = wink H k.val b.val := by
  subst ho
  funext y
  have hb := b.isLt
  have hk : 32 * k.val + 64 ≤ 288 := inb 0
  have h0 : (y 0).val < 64 := (y 0).isLt
  have h1 : (y 1).val < 128 := (y 1).isLt
  rw [h.readAt_unread]
  unfold wink
  congr 1
  funext a
  match a with
  | ⟨0, _⟩ =>
    refine Fin.ext ?_
    show 32 * k.val + 1 * (y 0).val = (32 * k.val + (y 0).val) % 288
    omega
  | ⟨1, _⟩ =>
    refine Fin.ext ?_
    show 128 * b.val + 1 * (y 1).val = (128 * b.val + (y 1).val) % 1024
    omega

/-- The convolved block: every 32 x 128 piece of it is the taps over its window. -/
def CS (x4 : Vec F S31x1024 .f32) (x5 : Vec F S1x1024 .f32) (H : Vec F S288x1024 .f32) : Vec F S256x1024 .f32 :=
  fun y => TAP (cbk x5 ((y 1).val / 128)) (wk x4 ((y 1).val / 128)) (wink H ((y 0).val / 32) ((y 1).val / 128))
    (ix2 ⟨(y 0).val % 32, Nat.mod_lt _ (by decide)⟩ ⟨(y 1).val % 128, Nat.mod_lt _ (by decide)⟩)

theorem piece_eq (arg6 : Memref sig .tc .vmem S31x1024 .f32) (harg6 : arg6.IsWhole) (arg7 : Memref sig .tc .vmem S1x1024 .f32) (harg7 : arg7.IsWhole) (arg11 : Memref sig .tc .vmem S288x1024 .f32) (harg11 : arg11.IsWhole)
    (x4 : Vec F S31x1024 .f32) (x5 : Vec F S1x1024 .f32) (H : Vec F S288x1024 .f32) (k : Fin k0_t1_loop.trips) (b : Fin 8)
    (off : Fin 2 → ℕ) (inb : ∀ a, off a + S64x128.size a ≤ S288x1024.size a) (ho : off = ![32 * k.val, 128 * b.val]) (y : S256x1024.Idx)
    (hk : (y 0).val / 32 = k.val) (hb : (y 1).val / 128 = b.val) :
    TAP (r7 arg7 (harg7.unread x5) b) (fun j => r6 arg6 (harg6.unread x4) j b) (View.readAt (Elt F) arg11.view (Rect.unit (s := S288x1024) off S64x128.size inb).toLoadRect (harg11.unread H))
      (ix2 ⟨(y 0).val % 32, Nat.mod_lt _ (by decide)⟩ ⟨(y 1).val % 128, Nat.mod_lt _ (by decide)⟩) = CS x4 x5 H y := by
  unfold CS
  rw [hk, hb, r7_eq, r11_eq arg11 harg11 H k b off inb ho]
  simp only [r6_eq]

theorem t1_trips : k0_t1_loop.trips = 8 := by decide +kernel

/-- Before trip `n` the loop has filled the rows below `32 * n` of the convolved block. -/
theorem pb_read (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S288x1024 .f32) (harg11 : arg11.IsWhole) (arg12 : Memref sig .tc .vmem S256x1024 .f32) (harg12 : arg12.IsWhole) (x4 : Vec F S31x1024 .f32) (x5 : Vec F S1x1024 .f32) (H : Vec F S288x1024 .f32) (f12 : BufTy.Contents (Elt F) arg12.view.ty) :
    ∀ n : ℕ, n ≤ 8 → ∀ y : S256x1024.Idx, (y 0).val < 32 * n →
      arg12.view.read (Elt F) (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 (harg6.unread x4) (harg7.unread x5) (harg11.unread H) n)) y = CS x4 x5 H y
  | 0, _, y, hy => absurd hy (by omega)
  | n + 1, hn, y, hy => by
    have hk : n < k0_t1_loop.trips := by rw [t1_trips]; omega
    have ih := pb_read 𝒱 c bd i arg2 harg2 arg3 harg3 arg4 harg4 arg5 harg5 arg6 harg6 arg7 harg7 arg8 harg8 arg9 harg9 arg10 harg10 arg11 harg11 arg12 harg12 x4 x5 H f12 n (by omega) y
    rw [show n + 1 = (⟨n, hk⟩ : Fin k0_t1_loop.trips).val + 1 from rfl, pb_k0_t1_succ, trip_pieces]
    dsimp only [List.cons_append, List.nil_append]
    have h1 : (y 1).val < 1024 := (y 1).isLt
    by_cases hlt : (y 0).val < 32 * n
    · rw [← ih hlt]
      refine (View.read_writes_cons_unit_of_not_mem arg12.view f12 (k0_off16_inb ⟨n, hk⟩) _ _ y (k0_off16_eq ⟨n, hk⟩) 0 (Or.inl hlt)).trans ?_
      refine (View.read_writes_cons_unit_of_not_mem arg12.view f12 (k0_off14_inb ⟨n, hk⟩) _ _ y (k0_off14_eq ⟨n, hk⟩) 0 (Or.inl hlt)).trans ?_
      refine (View.read_writes_cons_unit_of_not_mem arg12.view f12 (k0_off12_inb ⟨n, hk⟩) _ _ y (k0_off12_eq ⟨n, hk⟩) 0 (Or.inl hlt)).trans ?_
      refine (View.read_writes_cons_unit_of_not_mem arg12.view f12 (k0_off10_inb ⟨n, hk⟩) _ _ y (k0_off10_eq ⟨n, hk⟩) 0 (Or.inl hlt)).trans ?_
      refine (View.read_writes_cons_unit_of_not_mem arg12.view f12 (k0_off8_inb ⟨n, hk⟩) _ _ y (k0_off8_eq ⟨n, hk⟩) 0 (Or.inl hlt)).trans ?_
      refine (View.read_writes_cons_unit_of_not_mem arg12.view f12 (k0_off6_inb ⟨n, hk⟩) _ _ y (k0_off6_eq ⟨n, hk⟩) 0 (Or.inl hlt)).trans ?_
      refine (View.read_writes_cons_unit_of_not_mem arg12.view f12 (k0_off4_inb ⟨n, hk⟩) _ _ y (k0_off4_eq ⟨n, hk⟩) 0 (Or.inl hlt)).trans ?_
      refine (View.read_writes_cons_unit_of_not_mem arg12.view f12 (k0_off2_inb ⟨n, hk⟩) _ _ y (k0_off2_eq ⟨n, hk⟩) 0 (Or.inl hlt)).trans ?_
      rfl
    · have hd : (y 0).val / 32 = n := by omega
      have hb : (y 1).val / 128 < 8 := by omega
      have h0 : (y 0).val = 32 * n + (y 0).val % 32 := by omega
      have hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
      rcases hc with hc | hc | hc | hc | hc | hc | hc | hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_not_mem arg12.view f12 (k0_off14_inb ⟨n, hk⟩) _ _ y (k0_off14_eq ⟨n, hk⟩) 1 (Or.inl (show (y 1).val < 768 by omega))).trans ?_
        refine (View.read_writes_cons_unit_of_not_mem arg12.view f12 (k0_off12_inb ⟨n, hk⟩) _ _ y (k0_off12_eq ⟨n, hk⟩) 1 (Or.inl (show (y 1).val < 640 by omega))).trans ?_
        refine (View.read_writes_cons_unit_of_not_mem arg12.view f12 (k0_off10_inb ⟨n, hk⟩) _ _ y (k0_off10_eq ⟨n, hk⟩) 1 (Or.inl (show (y 1).val < 512 by omega))).trans ?_
        refine (View.read_writes_cons_unit_of_not_mem arg12.view f12 (k0_off8_inb ⟨n, hk⟩) _ _ y (k0_off8_eq ⟨n, hk⟩) 1 (Or.inl (show (y 1).val < 384 by omega))).trans ?_
        refine (View.read_writes_cons_unit_of_not_mem arg12.view f12 (k0_off6_inb ⟨n, hk⟩) _ _ y (k0_off6_eq ⟨n, hk⟩) 1 (Or.inl (show (y 1).val < 256 by omega))).trans ?_
        refine (View.read_writes_cons_unit_of_not_mem arg12.view f12 (k0_off4_inb ⟨n, hk⟩) _ _ y (k0_off4_eq ⟨n, hk⟩) 1 (Or.inl (show (y 1).val < 128 by omega))).trans ?_
        refine (View.read_writes_cons_unit_of_mem arg12.view f12 (k0_off2_inb ⟨n, hk⟩) _ _ y (ix2 ⟨(y 0).val % 32, Nat.mod_lt _ (by decide)⟩ ⟨(y 1).val % 128, Nat.mod_lt _ (by decide)⟩) (k0_off2_eq ⟨n, hk⟩) (fun a => ?_)).trans ?_
        · match a with
          | ⟨0, _⟩ => exact h0
          | ⟨1, _⟩ => exact (show (y 1).val = 0 + (y 1).val % 128 by omega)
        · exact piece_eq arg6 harg6 arg7 harg7 arg11 harg11 x4 x5 H ⟨n, hk⟩ ⟨0, by decide⟩ _ (k0_off1_inb ⟨n, hk⟩) (k0_off1_eq ⟨n, hk⟩) y hd hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_not_mem arg12.view f12 (k0_off14_inb ⟨n, hk⟩) _ _ y (k0_off14_eq ⟨n, hk⟩) 1 (Or.inl (show (y 1).val < 768 by omega))).trans ?_
        refine (View.read_writes_cons_unit_of_not_mem arg12.view f12 (k0_off12_inb ⟨n, hk⟩) _ _ y (k0_off12_eq ⟨n, hk⟩) 1 (Or.inl (show (y 1).val < 640 by omega))).trans ?_
        refine (View.read_writes_cons_unit_of_not_mem arg12.view f12 (k0_off10_inb ⟨n, hk⟩) _ _ y (k0_off10_eq ⟨n, hk⟩) 1 (Or.inl (show (y 1).val < 512 by omega))).trans ?_
        refine (View.read_writes_cons_unit_of_not_mem arg12.view f12 (k0_off8_inb ⟨n, hk⟩) _ _ y (k0_off8_eq ⟨n, hk⟩) 1 (Or.inl (show (y 1).val < 384 by omega))).trans ?_
        refine (View.read_writes_cons_unit_of_not_mem arg12.view f12 (k0_off6_inb ⟨n, hk⟩) _ _ y (k0_off6_eq ⟨n, hk⟩) 1 (Or.inl (show (y 1).val < 256 by omega))).trans ?_
        refine (View.read_writes_cons_unit_of_mem arg12.view f12 (k0_off4_inb ⟨n, hk⟩) _ _ y (ix2 ⟨(y 0).val % 32, Nat.mod_lt _ (by decide)⟩ ⟨(y 1).val % 128, Nat.mod_lt _ (by decide)⟩) (k0_off4_eq ⟨n, hk⟩) (fun a => ?_)).trans ?_
        · match a with
          | ⟨0, _⟩ => exact h0
          | ⟨1, _⟩ => exact (show (y 1).val = 128 + (y 1).val % 128 by omega)
        · exact piece_eq arg6 harg6 arg7 harg7 arg11 harg11 x4 x5 H ⟨n, hk⟩ ⟨1, by decide⟩ _ (k0_off3_inb ⟨n, hk⟩) (k0_off3_eq ⟨n, hk⟩) y hd hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_not_mem arg12.view f12 (k0_off14_inb ⟨n, hk⟩) _ _ y (k0_off14_eq ⟨n, hk⟩) 1 (Or.inl (show (y 1).val < 768 by omega))).trans ?_
        refine (View.read_writes_cons_unit_of_not_mem arg12.view f12 (k0_off12_inb ⟨n, hk⟩) _ _ y (k0_off12_eq ⟨n, hk⟩) 1 (Or.inl (show (y 1).val < 640 by omega))).trans ?_
        refine (View.read_writes_cons_unit_of_not_mem arg12.view f12 (k0_off10_inb ⟨n, hk⟩) _ _ y (k0_off10_eq ⟨n, hk⟩) 1 (Or.inl (show (y 1).val < 512 by omega))).trans ?_
        refine (View.read_writes_cons_unit_of_not_mem arg12.view f12 (k0_off8_inb ⟨n, hk⟩) _ _ y (k0_off8_eq ⟨n, hk⟩) 1 (Or.inl (show (y 1).val < 384 by omega))).trans ?_
        refine (View.read_writes_cons_unit_of_mem arg12.view f12 (k0_off6_inb ⟨n, hk⟩) _ _ y (ix2 ⟨(y 0).val % 32, Nat.mod_lt _ (by decide)⟩ ⟨(y 1).val % 128, Nat.mod_lt _ (by decide)⟩) (k0_off6_eq ⟨n, hk⟩) (fun a => ?_)).trans ?_
        · match a with
          | ⟨0, _⟩ => exact h0
          | ⟨1, _⟩ => exact (show (y 1).val = 256 + (y 1).val % 128 by omega)
        · exact piece_eq arg6 harg6 arg7 harg7 arg11 harg11 x4 x5 H ⟨n, hk⟩ ⟨2, by decide⟩ _ (k0_off5_inb ⟨n, hk⟩) (k0_off5_eq ⟨n, hk⟩) y hd hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_not_mem arg12.view f12 (k0_off14_inb ⟨n, hk⟩) _ _ y (k0_off14_eq ⟨n, hk⟩) 1 (Or.inl (show (y 1).val < 768 by omega))).trans ?_
        refine (View.read_writes_cons_unit_of_not_mem arg12.view f12 (k0_off12_inb ⟨n, hk⟩) _ _ y (k0_off12_eq ⟨n, hk⟩) 1 (Or.inl (show (y 1).val < 640 by omega))).trans ?_
        refine (View.read_writes_cons_unit_of_not_mem arg12.view f12 (k0_off10_inb ⟨n, hk⟩) _ _ y (k0_off10_eq ⟨n, hk⟩) 1 (Or.inl (show (y 1).val < 512 by omega))).trans ?_
        refine (View.read_writes_cons_unit_of_mem arg12.view f12 (k0_off8_inb ⟨n, hk⟩) _ _ y (ix2 ⟨(y 0).val % 32, Nat.mod_lt _ (by decide)⟩ ⟨(y 1).val % 128, Nat.mod_lt _ (by decide)⟩) (k0_off8_eq ⟨n, hk⟩) (fun a => ?_)).trans ?_
        · match a with
          | ⟨0, _⟩ => exact h0
          | ⟨1, _⟩ => exact (show (y 1).val = 384 + (y 1).val % 128 by omega)
        · exact piece_eq arg6 harg6 arg7 harg7 arg11 harg11 x4 x5 H ⟨n, hk⟩ ⟨3, by decide⟩ _ (k0_off7_inb ⟨n, hk⟩) (k0_off7_eq ⟨n, hk⟩) y hd hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_not_mem arg12.view f12 (k0_off14_inb ⟨n, hk⟩) _ _ y (k0_off14_eq ⟨n, hk⟩) 1 (Or.inl (show (y 1).val < 768 by omega))).trans ?_
        refine (View.read_writes_cons_unit_of_not_mem arg12.view f12 (k0_off12_inb ⟨n, hk⟩) _ _ y (k0_off12_eq ⟨n, hk⟩) 1 (Or.inl (show (y 1).val < 640 by omega))).trans ?_
        refine (View.read_writes_cons_unit_of_mem arg12.view f12 (k0_off10_inb ⟨n, hk⟩) _ _ y (ix2 ⟨(y 0).val % 32, Nat.mod_lt _ (by decide)⟩ ⟨(y 1).val % 128, Nat.mod_lt _ (by decide)⟩) (k0_off10_eq ⟨n, hk⟩) (fun a => ?_)).trans ?_
        · match a with
          | ⟨0, _⟩ => exact h0
          | ⟨1, _⟩ => exact (show (y 1).val = 512 + (y 1).val % 128 by omega)
        · exact piece_eq arg6 harg6 arg7 harg7 arg11 harg11 x4 x5 H ⟨n, hk⟩ ⟨4, by decide⟩ _ (k0_off9_inb ⟨n, hk⟩) (k0_off9_eq ⟨n, hk⟩) y hd hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_not_mem arg12.view f12 (k0_off14_inb ⟨n, hk⟩) _ _ y (k0_off14_eq ⟨n, hk⟩) 1 (Or.inl (show (y 1).val < 768 by omega))).trans ?_
        refine (View.read_writes_cons_unit_of_mem arg12.view f12 (k0_off12_inb ⟨n, hk⟩) _ _ y (ix2 ⟨(y 0).val % 32, Nat.mod_lt _ (by decide)⟩ ⟨(y 1).val % 128, Nat.mod_lt _ (by decide)⟩) (k0_off12_eq ⟨n, hk⟩) (fun a => ?_)).trans ?_
        · match a with
          | ⟨0, _⟩ => exact h0
          | ⟨1, _⟩ => exact (show (y 1).val = 640 + (y 1).val % 128 by omega)
        · exact piece_eq arg6 harg6 arg7 harg7 arg11 harg11 x4 x5 H ⟨n, hk⟩ ⟨5, by decide⟩ _ (k0_off11_inb ⟨n, hk⟩) (k0_off11_eq ⟨n, hk⟩) y hd hc
      · refine (View.read_writes_cons_unit_of_not_mem arg12.view f12 (k0_off16_inb ⟨n, hk⟩) _ _ y (k0_off16_eq ⟨n, hk⟩) 1 (Or.inl (show (y 1).val < 896 by omega))).trans ?_
        refine (View.read_writes_cons_unit_of_mem arg12.view f12 (k0_off14_inb ⟨n, hk⟩) _ _ y (ix2 ⟨(y 0).val % 32, Nat.mod_lt _ (by decide)⟩ ⟨(y 1).val % 128, Nat.mod_lt _ (by decide)⟩) (k0_off14_eq ⟨n, hk⟩) (fun a => ?_)).trans ?_
        · match a with
          | ⟨0, _⟩ => exact h0
          | ⟨1, _⟩ => exact (show (y 1).val = 768 + (y 1).val % 128 by omega)
        · exact piece_eq arg6 harg6 arg7 harg7 arg11 harg11 x4 x5 H ⟨n, hk⟩ ⟨6, by decide⟩ _ (k0_off13_inb ⟨n, hk⟩) (k0_off13_eq ⟨n, hk⟩) y hd hc
      · refine (View.read_writes_cons_unit_of_mem arg12.view f12 (k0_off16_inb ⟨n, hk⟩) _ _ y (ix2 ⟨(y 0).val % 32, Nat.mod_lt _ (by decide)⟩ ⟨(y 1).val % 128, Nat.mod_lt _ (by decide)⟩) (k0_off16_eq ⟨n, hk⟩) (fun a => ?_)).trans ?_
        · match a with
          | ⟨0, _⟩ => exact h0
          | ⟨1, _⟩ => exact (show (y 1).val = 896 + (y 1).val % 128 by omega)
        · exact piece_eq arg6 harg6 arg7 harg7 arg11 harg11 x4 x5 H ⟨n, hk⟩ ⟨7, by decide⟩ _ (k0_off15_inb ⟨n, hk⟩) (k0_off15_eq ⟨n, hk⟩) y hd hc

/-- After the loop the buffer holds the convolved block. -/
theorem scratch (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S288x1024 .f32) (harg11 : arg11.IsWhole) (arg12 : Memref sig .tc .vmem S256x1024 .f32) (harg12 : arg12.IsWhole) (x4 : Vec F S31x1024 .f32) (x5 : Vec F S1x1024 .f32) (H : Vec F S288x1024 .f32) (f12 : BufTy.Contents (Elt F) arg12.view.ty) :
    arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 (harg6.unread x4) (harg7.unread x5) (harg11.unread H) k0_t1_loop.trips)
      = harg12.unread (CS x4 x5 H) :=
  harg12.eq_unread (funext fun y => pb_read 𝒱 c bd i arg2 harg2 arg3 harg3 arg4 harg4 arg5 harg5 arg6 harg6 arg7 harg7 arg8 harg8 arg9 harg9 arg10 harg10 arg11 harg11 arg12 harg12 x4 x5 H f12 k0_t1_loop.trips
    (le_of_eq t1_trips) y (by rw [t1_trips]; exact (y 0).isLt))

/-- A load of a whole buffer. -/
theorem readAt_all {S : Shape} {e : EltTy} (M : Memref sig .tc .vmem S e) (h : M.IsWhole) (X : Vec F S e) (off : Fin S.rank → ℕ)
    (inb : ∀ a, off a + S.size a ≤ S.size a) :
    View.readAt (Elt F) M.view (Rect.unit (s := S) off S.size inb).toLoadRect (h.unread X) = X := by
  funext y
  rw [h.readAt_unread]
  congr 1
  funext a
  refine Fin.ext ?_
  have h0 := inb a
  show off a + 1 * (y a).val = (y a).val
  omega

/-- The gated rows the loop reads: the 32 before the block, and the block. -/
def HH (i : grid0.Coords) (x0 x1 : Vec F S256x1024 .f32) (x2 x3 : Vec F S32x1024 .f32) : Vec F S288x1024 .f32 :=
  fun y => if (y 0).val < 32 then k0_pay70 i x2 x3 (ix2 ⟨(y 0).val % 32, Nat.mod_lt _ (by decide)⟩ (y 1))
    else k0_pay71 x0 x1 (ix2 ⟨((y 0).val - 32) % 256, Nat.mod_lt _ (by decide)⟩ (y 1))

/-- The two stores before the loop fill that buffer. -/
theorem fill (M : Memref sig .tc .vmem S288x1024 .f32) (h : M.IsWhole) (f : BufTy.Contents (Elt F) M.view.ty) (i : grid0.Coords) (x0 x1 : Vec F S256x1024 .f32) (x2 x3 : Vec F S32x1024 .f32) :
    M.view.writes (Elt F) f [⟨Rect.unit (s := S288x1024) ![32, 0] S256x1024.size inb_S288x1024_S256x1024_32_0, k0_pay71 x0 x1⟩, ⟨Rect.unit (s := S288x1024) ![0, 0] S32x1024.size inb_S288x1024_S32x1024_0_0, k0_pay70 i x2 x3⟩]
      = h.unread (HH i x0 x1 x2 x3) :=
  h.eq_unread (funext fun y => by
    have hy : (y 0).val < 288 := (y 0).isLt
    unfold HH
    by_cases hlt : (y 0).val < 32
    · rw [if_pos hlt]
      refine (View.read_writes_cons_rows_of_not_mem M.view f _ _ _ y rfl rfl (Or.inl hlt)).trans ?_
      exact View.read_writes_cons_rows_of_mem M.view f _ _ _ y (ix2 ⟨(y 0).val % 32, Nat.mod_lt _ (by decide)⟩ (y 1)) rfl (show (y 0).val = 0 + (y 0).val % 32 by omega) rfl
    · rw [if_neg hlt]
      exact View.read_writes_cons_rows_of_mem M.view f _ _ _ y (ix2 ⟨((y 0).val - 32) % 256, Nat.mod_lt _ (by decide)⟩ (y 1)) rfl (show (y 0).val = 32 + ((y 0).val - 32) % 256 by omega) rfl)

theorem out_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S31x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .bf16) (harg10 : arg10.IsWhole) (arg11 : Memref sig .tc .vmem S288x1024 .f32) (harg11 : arg11.IsWhole) (arg12 : Memref sig .tc .vmem S256x1024 .f32) (harg12 : arg12.IsWhole)
    (x0 x1 : Vec F S256x1024 .f32) (x2 x3 : Vec F S32x1024 .f32) (x4 : Vec F S31x1024 .f32) (x5 x6 x7 : Vec F S1x1024 .f32) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 = k0_pay1 (CS x4 x5 (HH i x0 x1 x2 x3)) x6 x7 := by
  frame_out
  refine congrArg (fun z => k0_pay1 z x6 x7) ?_
  unfold View.readCov
  refine (congrArg (View.readAt (Elt F) arg12.view _) ?_).trans (readAt_all arg12 harg12 (CS x4 x5 (HH i x0 x1 x2 x3)) _ _)
  refine Eq.trans ?_ (scratch Variants.none c none i arg2 harg2 arg3 harg3 arg4 harg4 arg5 harg5 arg6 harg6 arg7 harg7 arg8 harg8 arg9 harg9 arg10 harg10 arg11 harg11 arg12 harg12 x4 x5 (HH i x0 x1 x2 x3) arg12.view.junk)
  exact congrArg (fun z => arg12.view.writes (Elt F) arg12.view.junk (pb_k0_t1 (F := F) Variants.none c none i arg2 harg2 arg3 harg3 arg4 harg4 arg5 harg5 arg6 harg6 arg7 harg7 arg8 harg8 arg9 harg9 arg10 harg10 arg11 harg11 arg12 harg12 (harg6.unread x4) (harg7.unread x5) z k0_t1_loop.trips)) (fill arg11 harg11 _ i x0 x1 x2 x3)

end Cert.ConvIdeal.Cv

end
-- ==== Proof.ConvValue.lean ====
module

public import proofs.«01_k».proof.Proof.ConvBody

/-! The convolution kernel's result array is the reference convolution module of its arguments. -/

@[expose] public section

set_option maxRecDepth 16384

noncomputable section

/-! ## The reference, stage by stage -/

namespace Cert.ConvRefIdeal.Cv

open Cert.ConvRefIdeal Cert.ConvRefIdeal.Gen
open Idealize.ShloMosaic Idealize.ShloMosaic.TcCoe Idealize.ShloMosaic.Tactic
open scoped BigOperators

/-- The gated columns. -/
def glu (a0 : FVec Ideal S16384x15360 .f32) : FVec Ideal S16384x1024 .f32 :=
  mulf (extractStridedSlice S16384x1024 ![0, 7168] a0 slices_S16384x15360_S16384x1024_0_7168) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 8192] a0 slices_S16384x15360_S16384x1024_0_8192)))))

/-- The same by batches, with thirty zero rows before each. -/
def padded (a0 : FVec Ideal S16384x15360 .f32) : FVec Ideal S4x4126x1024 .f32 :=
  pad S4x4126x1024 ![0, 30, 0] ![0, 0, 0] ![0, 0, 0] (shapeCast _ (glu a0) shapeCasts_S16384x1024_S4x4096x1024) (sitofp .f32 (constantI S_ 32 0#32)) pads_S4x4096x1024_S4x4126x1024_000_3000_000 h_S_

/-- A shifted product. -/
def term (p : FVec Ideal S4x4096x1024 .f32) (w : FVec Ideal S1x1x1024 .f32) : FVec Ideal S4x4096x1024 .f32 :=
  mulf p (broadcastInDim S4x4096x1024 ![0, 1, 2] bcast_S1x1x1024_S4x4096x1024_0_1_2 (broadcastInDim S1x1x1024 ![2] bcast_S1024_S1x1x1024_2 (shapeCast _ w shapeCasts_S1x1x1024_S1024)))

/-- The sum of the shifted products. -/
def taps (P : FVec Ideal S4x4126x1024 .f32) (a1 : FVec Ideal S31x1x1024 .f32) : FVec Ideal S4x4096x1024 .f32 :=
  addf (addf (addf (addf (addf (addf (addf (addf (addf (addf (addf (addf (addf (addf (addf (addf (addf (addf (addf (addf (addf (addf (addf (addf (addf (addf (addf (addf (addf (addf (term (extractStridedSlice S4x4096x1024 ![0, 0, 0] P slices_S4x4126x1024_S4x4096x1024_0_0_0) (extractStridedSlice S1x1x1024 ![0, 0, 0] a1 slices_S31x1x1024_S1x1x1024_0_0_0)) (term (extractStridedSlice S4x4096x1024 ![0, 1, 0] P slices_S4x4126x1024_S4x4096x1024_0_1_0) (extractStridedSlice S1x1x1024 ![1, 0, 0] a1 slices_S31x1x1024_S1x1x1024_1_0_0))) (term (extractStridedSlice S4x4096x1024 ![0, 2, 0] P slices_S4x4126x1024_S4x4096x1024_0_2_0) (extractStridedSlice S1x1x1024 ![2, 0, 0] a1 slices_S31x1x1024_S1x1x1024_2_0_0))) (term (extractStridedSlice S4x4096x1024 ![0, 3, 0] P slices_S4x4126x1024_S4x4096x1024_0_3_0) (extractStridedSlice S1x1x1024 ![3, 0, 0] a1 slices_S31x1x1024_S1x1x1024_3_0_0))) (term (extractStridedSlice S4x4096x1024 ![0, 4, 0] P slices_S4x4126x1024_S4x4096x1024_0_4_0) (extractStridedSlice S1x1x1024 ![4, 0, 0] a1 slices_S31x1x1024_S1x1x1024_4_0_0))) (term (extractStridedSlice S4x4096x1024 ![0, 5, 0] P slices_S4x4126x1024_S4x4096x1024_0_5_0) (extractStridedSlice S1x1x1024 ![5, 0, 0] a1 slices_S31x1x1024_S1x1x1024_5_0_0))) (term (extractStridedSlice S4x4096x1024 ![0, 6, 0] P slices_S4x4126x1024_S4x4096x1024_0_6_0) (extractStridedSlice S1x1x1024 ![6, 0, 0] a1 slices_S31x1x1024_S1x1x1024_6_0_0))) (term (extractStridedSlice S4x4096x1024 ![0, 7, 0] P slices_S4x4126x1024_S4x4096x1024_0_7_0) (extractStridedSlice S1x1x1024 ![7, 0, 0] a1 slices_S31x1x1024_S1x1x1024_7_0_0))) (term (extractStridedSlice S4x4096x1024 ![0, 8, 0] P slices_S4x4126x1024_S4x4096x1024_0_8_0) (extractStridedSlice S1x1x1024 ![8, 0, 0] a1 slices_S31x1x1024_S1x1x1024_8_0_0))) (term (extractStridedSlice S4x4096x1024 ![0, 9, 0] P slices_S4x4126x1024_S4x4096x1024_0_9_0) (extractStridedSlice S1x1x1024 ![9, 0, 0] a1 slices_S31x1x1024_S1x1x1024_9_0_0))) (term (extractStridedSlice S4x4096x1024 ![0, 10, 0] P slices_S4x4126x1024_S4x4096x1024_0_10_0) (extractStridedSlice S1x1x1024 ![10, 0, 0] a1 slices_S31x1x1024_S1x1x1024_10_0_0))) (term (extractStridedSlice S4x4096x1024 ![0, 11, 0] P slices_S4x4126x1024_S4x4096x1024_0_11_0) (extractStridedSlice S1x1x1024 ![11, 0, 0] a1 slices_S31x1x1024_S1x1x1024_11_0_0))) (term (extractStridedSlice S4x4096x1024 ![0, 12, 0] P slices_S4x4126x1024_S4x4096x1024_0_12_0) (extractStridedSlice S1x1x1024 ![12, 0, 0] a1 slices_S31x1x1024_S1x1x1024_12_0_0))) (term (extractStridedSlice S4x4096x1024 ![0, 13, 0] P slices_S4x4126x1024_S4x4096x1024_0_13_0) (extractStridedSlice S1x1x1024 ![13, 0, 0] a1 slices_S31x1x1024_S1x1x1024_13_0_0))) (term (extractStridedSlice S4x4096x1024 ![0, 14, 0] P slices_S4x4126x1024_S4x4096x1024_0_14_0) (extractStridedSlice S1x1x1024 ![14, 0, 0] a1 slices_S31x1x1024_S1x1x1024_14_0_0))) (term (extractStridedSlice S4x4096x1024 ![0, 15, 0] P slices_S4x4126x1024_S4x4096x1024_0_15_0) (extractStridedSlice S1x1x1024 ![15, 0, 0] a1 slices_S31x1x1024_S1x1x1024_15_0_0))) (term (extractStridedSlice S4x4096x1024 ![0, 16, 0] P slices_S4x4126x1024_S4x4096x1024_0_16_0) (extractStridedSlice S1x1x1024 ![16, 0, 0] a1 slices_S31x1x1024_S1x1x1024_16_0_0))) (term (extractStridedSlice S4x4096x1024 ![0, 17, 0] P slices_S4x4126x1024_S4x4096x1024_0_17_0) (extractStridedSlice S1x1x1024 ![17, 0, 0] a1 slices_S31x1x1024_S1x1x1024_17_0_0))) (term (extractStridedSlice S4x4096x1024 ![0, 18, 0] P slices_S4x4126x1024_S4x4096x1024_0_18_0) (extractStridedSlice S1x1x1024 ![18, 0, 0] a1 slices_S31x1x1024_S1x1x1024_18_0_0))) (term (extractStridedSlice S4x4096x1024 ![0, 19, 0] P slices_S4x4126x1024_S4x4096x1024_0_19_0) (extractStridedSlice S1x1x1024 ![19, 0, 0] a1 slices_S31x1x1024_S1x1x1024_19_0_0))) (term (extractStridedSlice S4x4096x1024 ![0, 20, 0] P slices_S4x4126x1024_S4x4096x1024_0_20_0) (extractStridedSlice S1x1x1024 ![20, 0, 0] a1 slices_S31x1x1024_S1x1x1024_20_0_0))) (term (extractStridedSlice S4x4096x1024 ![0, 21, 0] P slices_S4x4126x1024_S4x4096x1024_0_21_0) (extractStridedSlice S1x1x1024 ![21, 0, 0] a1 slices_S31x1x1024_S1x1x1024_21_0_0))) (term (extractStridedSlice S4x4096x1024 ![0, 22, 0] P slices_S4x4126x1024_S4x4096x1024_0_22_0) (extractStridedSlice S1x1x1024 ![22, 0, 0] a1 slices_S31x1x1024_S1x1x1024_22_0_0))) (term (extractStridedSlice S4x4096x1024 ![0, 23, 0] P slices_S4x4126x1024_S4x4096x1024_0_23_0) (extractStridedSlice S1x1x1024 ![23, 0, 0] a1 slices_S31x1x1024_S1x1x1024_23_0_0))) (term (extractStridedSlice S4x4096x1024 ![0, 24, 0] P slices_S4x4126x1024_S4x4096x1024_0_24_0) (extractStridedSlice S1x1x1024 ![24, 0, 0] a1 slices_S31x1x1024_S1x1x1024_24_0_0))) (term (extractStridedSlice S4x4096x1024 ![0, 25, 0] P slices_S4x4126x1024_S4x4096x1024_0_25_0) (extractStridedSlice S1x1x1024 ![25, 0, 0] a1 slices_S31x1x1024_S1x1x1024_25_0_0))) (term (extractStridedSlice S4x4096x1024 ![0, 26, 0] P slices_S4x4126x1024_S4x4096x1024_0_26_0) (extractStridedSlice S1x1x1024 ![26, 0, 0] a1 slices_S31x1x1024_S1x1x1024_26_0_0))) (term (extractStridedSlice S4x4096x1024 ![0, 27, 0] P slices_S4x4126x1024_S4x4096x1024_0_27_0) (extractStridedSlice S1x1x1024 ![27, 0, 0] a1 slices_S31x1x1024_S1x1x1024_27_0_0))) (term (extractStridedSlice S4x4096x1024 ![0, 28, 0] P slices_S4x4126x1024_S4x4096x1024_0_28_0) (extractStridedSlice S1x1x1024 ![28, 0, 0] a1 slices_S31x1x1024_S1x1x1024_28_0_0))) (term (extractStridedSlice S4x4096x1024 ![0, 29, 0] P slices_S4x4126x1024_S4x4096x1024_0_29_0) (extractStridedSlice S1x1x1024 ![29, 0, 0] a1 slices_S31x1x1024_S1x1x1024_29_0_0))) (term (extractStridedSlice S4x4096x1024 ![0, 30, 0] P slices_S4x4126x1024_S4x4096x1024_0_30_0) (extractStridedSlice S1x1x1024 ![30, 0, 0] a1 slices_S31x1x1024_S1x1x1024_30_0_0))

/-- The convolution with its bias. -/
def conv (P : FVec Ideal S4x4126x1024 .f32) (a1 : FVec Ideal S31x1x1024 .f32) (a2 : FVec Ideal S1024 .f32) : FVec Ideal S4x4096x1024 .f32 :=
  addf (taps P a1) (broadcastInDim S4x4096x1024 ![0, 1, 2] bcast_S1x1x1024_S4x4096x1024_0_1_2 (broadcastInDim S1x1x1024 ![2] bcast_S1024_S1x1x1024_2 a2))

/-- The mean of every row. -/
def mean (h : FVec Ideal S4x4096x1024 .f32) : FVec Ideal S4x4096x1 .f32 :=
  Host.divf (broadcastInDim S4x4096x1 ![0, 1] bcast_S4x4096_S4x4096x1_0_1 (Host.reduceAdd h (constant S_ .f32 0x00000000#32) reducesTo_S4x4096x1024_S4x4096_d2 h_S_)) (broadcastInDim S4x4096x1 ![] bcast_S_S4x4096x1 (constant S_ .f32 0x44800000#32))

/-- Every row less its mean. -/
def cen (h : FVec Ideal S4x4096x1024 .f32) : FVec Ideal S4x4096x1024 .f32 :=
  subf h (broadcastInDim S4x4096x1024 ![0, 1, 2] bcast_S4x4096x1_S4x4096x1024_0_1_2 (mean h))

/-- The layer norm. -/
def lnorm (h : FVec Ideal S4x4096x1024 .f32) (a3 a4 : FVec Ideal S1024 .f32) : FVec Ideal S4x4096x1024 .f32 :=
  addf (mulf (mulf (cen h) (broadcastInDim S4x4096x1024 ![0, 1, 2] bcast_S4x4096x1_S4x4096x1024_0_1_2 (Host.rsqrt (addf (mean (mulf (cen h) (cen h))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a3))) (broadcastInDim S4x4096x1024 ![0, 1, 2] bcast_S1x1x1024_S4x4096x1024_0_1_2 (broadcastInDim S1x1x1024 ![2] bcast_S1024_S1x1x1024_2 a4))

/-- `x` times its sigmoid. -/
def silu (h : FVec Ideal S4x4096x1024 .f32) : FVec Ideal S4x4096x1024 .f32 :=
  mulf h (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf h))))

/-- The reference as a function of its arguments. -/
def REF (a0 : FVec Ideal S16384x15360 .f32) (a1 : FVec Ideal S31x1x1024 .f32) (a2 a3 a4 : FVec Ideal S1024 .f32) : FVec Ideal S16384x1024 .bf16 :=
  truncf .bf16 (shapeCast _ (silu (lnorm (conv (padded a0) a1 a2) a3 a4)) shapeCasts_S4x4096x1024_S16384x1024) bitsLt_bf16_f32

/-- Thirty-one terms added one after another, the last addend another. -/
def sumRef (s : EReal) (p : Fin 31 → EReal) : EReal := (((((((((((((((((((((((((((((((p 0) + p 1) + p 2) + p 3) + p 4) + p 5) + p 6) + p 7) + p 8) + p 9) + p 10) + p 11) + p 12) + p 13) + p 14) + p 15) + p 16) + p 17) + p 18) + p 19) + p 20) + p 21) + p 22) + p 23) + p 24) + p 25) + p 26) + p 27) + p 28) + p 29) + p 30) + s

/-- Thirty-one terms added one after another to a first addend. -/
def sumKer (s : EReal) (p : Fin 31 → EReal) : EReal := (((((((((((((((((((((((((((((((s) + p 0) + p 1) + p 2) + p 3) + p 4) + p 5) + p 6) + p 7) + p 8) + p 9) + p 10) + p 11) + p 12) + p 13) + p 14) + p 15) + p 16) + p 17) + p 18) + p 19) + p 20) + p 21) + p 22) + p 23) + p 24) + p 25) + p 26) + p 27) + p 28) + p 29) + p 30

theorem sum_eq (s : EReal) (p : Fin 31 → EReal) : sumKer s p = sumRef s p := by
  unfold sumKer sumRef
  abel

/-- One row and column gated. -/
def gt (a0 : FVec Ideal S16384x15360 .f32) (r : ℕ) (n : Fin 1024) : EReal :=
  glu a0 (ix2 ⟨r % 16384, Nat.mod_lt _ (by decide)⟩ n)

theorem padded_at (a0 : FVec Ideal S16384x15360 .f32) (b : Fin 4) (u : Fin 4126) (n : Fin 1024) :
    padded a0 (ix3 b u n) = if u.val < 30 then 0 else gt a0 (4096 * b.val + (u.val - 30)) n := by
  have hu := u.isLt
  have hb := b.isLt
  pointwise [padded]
  by_cases h : u.val < 30
  · rw [if_pos h, dif_neg (by omega)]
    show ((((0#32 : BitVec 32).toInt : ℝ)) : EReal) = 0
    simp
  · rw [if_neg h, dif_pos ⟨by omega, by omega⟩]
    refine congrArg (fun z => glu a0 (ix2 z n)) (Fin.ext ?_)
    show b.val * 4096 + (u.val - 30) = (4096 * b.val + (u.val - 30)) % 16384
    omega

theorem gt_at (a0 : FVec Ideal S16384x15360 .f32) (r : Fin 16384) (n : Fin 1024) :
    gt a0 r.val n = a0 (ix2 r ⟨7168 + n.val, by omega⟩) * Ideal.div 1 (1 + Ideal.exp (-a0 (ix2 r ⟨8192 + n.val, by omega⟩))) := by
  have e : (⟨r.val % 16384, Nat.mod_lt _ (by decide)⟩ : Fin 16384) = r := Fin.ext (Nat.mod_eq_of_lt r.isLt)
  unfold gt
  rw [e]
  pointwise [glu]

theorem term_at (p : FVec Ideal S4x4096x1024 .f32) (w : FVec Ideal S1x1x1024 .f32) (b : Fin 4) (u : Fin 4096) (n : Fin 1024) :
    term p w (ix3 b u n) = p (ix3 b u n) * w (ix3 0 0 n) := by
  pointwise [term]

theorem conv_at (P : FVec Ideal S4x4126x1024 .f32) (a1 : FVec Ideal S31x1x1024 .f32) (a2 : FVec Ideal S1024 .f32) (b : Fin 4) (u : Fin 4096) (n : Fin 1024) :
    conv P a1 a2 (ix3 b u n) = sumRef (a2 (ix1 n)) (fun j => P (ix3 b ⟨(j.val + u.val) % 4126, Nat.mod_lt _ (by decide)⟩ n) * a1 (ix3 j 0 n)) := by
  have hu := u.isLt
  have hp : ∀ (o : ℕ) (ho : o + u.val < 4126), P (ix3 b ⟨o + u.val, ho⟩ n) = P (ix3 b ⟨(o + u.val) % 4126, Nat.mod_lt _ (by decide)⟩ n) := fun o ho =>
    congrArg (fun z => P (ix3 b z n)) (Fin.ext (Nat.mod_eq_of_lt ho).symm)
  have h0 : ∀ ho : u.val < 4126, P (ix3 b ⟨u.val, ho⟩ n) = P (ix3 b ⟨(0 + u.val) % 4126, Nat.mod_lt _ (by decide)⟩ n) := fun ho =>
    congrArg (fun z => P (ix3 b z n)) (Fin.ext (by show u.val = (0 + u.val) % 4126; omega))
  pointwise [conv, taps, term]
  rw [h0]
  simp only [hp]
  unfold sumRef
  rfl

theorem REF_at (a0 : FVec Ideal S16384x15360 .f32) (a1 : FVec Ideal S31x1x1024 .f32) (a2 a3 a4 : FVec Ideal S1024 .f32) (r : Fin 16384) (n : Fin 1024) :
    REF a0 a1 a2 a3 a4 (ix2 r n) = silu (lnorm (conv (padded a0) a1 a2) a3 a4) (ix3 ⟨r.val / 4096, by omega⟩ ⟨r.val % 4096, Nat.mod_lt _ (by decide)⟩ n) := by
  pointwise [REF]

/-! ## The run's terms -/

section Run

open Idealize.SL.Sem Idealize.ShloMosaic.StableHlo

variable (m : (ℓ : Loc nD τ sig) → Buf (Elt Ideal) ℓ) (c : Dev nD)

theorem res_padded : Value.res_main_v10 (launchContents m c) = padded (m ((c.tc : Thread nD τ).loc main_arg0)) := rfl

theorem res_taps : Value.res_main_v226 (launchContents m c) = taps (padded (m ((c.tc : Thread nD τ).loc main_arg0))) (m ((c.tc : Thread nD τ).loc main_arg1)) := by
  unfold Value.res_main_v226 Value.res_main_v216 Value.res_main_v206
  rw [res_padded]
  rfl

theorem res_conv : Value.res_main_v229 (launchContents m c) = conv (padded (m ((c.tc : Thread nD τ).loc main_arg0))) (m ((c.tc : Thread nD τ).loc main_arg1)) (m ((c.tc : Thread nD τ).loc main_arg2)) := by
  unfold Value.res_main_v229
  rw [res_taps]
  rfl

theorem res_norm : Value.res_main_v253 (launchContents m c) = lnorm (conv (padded (m ((c.tc : Thread nD τ).loc main_arg0))) (m ((c.tc : Thread nD τ).loc main_arg1)) (m ((c.tc : Thread nD τ).loc main_arg2))) (m ((c.tc : Thread nD τ).loc main_arg3)) (m ((c.tc : Thread nD τ).loc main_arg4)) := by
  unfold Value.res_main_v253 Value.res_main_v235 Value.res_main_v233
  rw [res_conv]
  rfl

end Run

end Cert.ConvRefIdeal.Cv

namespace Cert.ConvIdeal.Cv

open Cert.ConvIdeal Cert.ConvIdeal.Gen
open Idealize.ShloMosaic Idealize.ShloMosaic.TcCoe Idealize.ShloMosaic.Tactic Idealize.SL.Sem
open Idealize.ShloMosaic.Pipeline (Dat)
open Cert.ConvRefIdeal.Cv (REF REF_at gt_at conv padded glu gt padded_at conv_at sumRef sumKer sum_eq lnorm silu mean cen)
open scoped BigOperators

theorem CS_at (x4 : FVec Ideal S31x1024 .f32) (x5 : FVec Ideal S1x1024 .f32) (H : FVec Ideal S288x1024 .f32) (r : Fin 256) (n : Fin 1024) :
    CS (F := Ideal) x4 x5 H (ix2 r n) = sumKer (x5 (ix2 0 n)) (fun j => x4 (ix2 j n) * H (ix2 ⟨(2 + j.val + r.val) % 288, Nat.mod_lt _ (by decide)⟩ n)) := by
  have hn := n.isLt
  have hr := r.isLt
  have en : (⟨(128 * (n.val / 128) + n.val % 128) % 1024, Nat.mod_lt _ (by decide)⟩ : Fin 1024) = n := Fin.ext (by show (128 * (n.val / 128) + n.val % 128) % 1024 = n.val; omega)
  have hb : cbk (F := Ideal) x5 (n.val / 128) (ix2 0 ⟨n.val % 128, Nat.mod_lt _ (by decide)⟩) = x5 (ix2 0 n) := congrArg (fun z => x5 (ix2 0 z)) en
  have hw : ∀ j : Fin 31, wk (F := Ideal) x4 (n.val / 128) j (ix2 0 ⟨n.val % 128, Nat.mod_lt _ (by decide)⟩) = x4 (ix2 j n) := fun j => congrArg (fun z => x4 (ix2 j z)) en
  have hh : ∀ (o : ℕ) (ho : o + r.val % 32 < 64), wink (F := Ideal) H (r.val / 32) (n.val / 128) (ix2 ⟨o + r.val % 32, ho⟩ ⟨n.val % 128, Nat.mod_lt _ (by decide)⟩)
      = H (ix2 ⟨(o + r.val) % 288, Nat.mod_lt _ (by decide)⟩ n) := fun o ho => by
    refine Eq.trans (congrArg (fun z => H (ix2 ⟨(32 * (r.val / 32) + (o + r.val % 32)) % 288, Nat.mod_lt _ (by decide)⟩ z)) en) ?_
    refine congrArg (fun z => H (ix2 z n)) (Fin.ext ?_)
    show (32 * (r.val / 32) + (o + r.val % 32)) % 288 = (o + r.val) % 288
    omega
  unfold CS
  pointwise [TAP, tap]
  simp only [hb, hw, hh]
  unfold sumKer
  rfl

theorem pay1_at (b : Fin 4) (u : Fin 4096) (r : Fin 256) (n : Fin 1024) (C : FVec Ideal S256x1024 .f32) (V : FVec Ideal Cert.ConvRefIdeal.S4x4096x1024 .f32) (x6 x7 : FVec Ideal S1x1024 .f32) (a3 a4 : FVec Ideal Cert.ConvRefIdeal.S1024 .f32)
    (hC : ∀ e : Fin 1024, C (ix2 r e) = V (ix3 b u e)) (h6 : ∀ e : Fin 1024, x6 (ix2 0 e) = a3 (ix1 e)) (h7 : ∀ e : Fin 1024, x7 (ix2 0 e) = a4 (ix1 e)) :
    k0_pay1 (F := Ideal) C x6 x7 (ix2 r n) = silu (lnorm V a3 a4) (ix3 b u n) := by
  pointwise [k0_pay1, silu, lnorm, mean, cen]
  simp only [hC, h6, h7, zero_sub]

variable (m : (ℓ : Loc nD τ sig) → Buf (Elt Ideal) ℓ) (c : Dev nD)

/-- Every window's block index at every grid point. -/
theorem idx_val : ∀ t : Fin cfg0.N, win0_0.index t = ![t.val, 7]
    ∧ win0_1.index t = ![t.val, 8]
    ∧ win0_2.index t = ![8 * t.val - 1, 7]
    ∧ win0_3.index t = ![8 * t.val - 1, 8]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The first block of a batch. -/
theorem first_val : ∀ t : Fin cfg0.N, Scalar.cmpi .eq (BitVec.ofNat 32 ((grid0.coords t) 1).val) 0#32 = if t.val % 16 = 0 then 1#1 else 0#1 :=
  (by decide +kernel : ∀ t : Fin grid0.N, _)

/-- The blocks, by entries. -/
theorem blk0 (t : Fin cfg0.N) (r : Fin 256) (n : Fin 1024) :
    (iblk m c 0 t : FVec Ideal S256x1024 .f32) (ix2 r n) = m ((c : Thread nD τ).loc main_arg0) (ix2 ⟨256 * t.val + r.val, have ht : t.val < 64 := t.isLt; by omega⟩ ⟨7168 + n.val, by omega⟩) := by
  have ht : t.val < 64 := t.isLt
  have E : ((cfg0.win 0).blk t).view.emb (ix2 r n) = ix2 ⟨256 * t.val + r.val, by omega⟩ ⟨7168 + n.val, by omega⟩ := by
    blk_ext [idx_val t]
  exact congrArg (m ((c : Thread nD τ).loc main_arg0)) E

theorem blk1 (t : Fin cfg0.N) (r : Fin 256) (n : Fin 1024) :
    (iblk m c 1 t : FVec Ideal S256x1024 .f32) (ix2 r n) = m ((c : Thread nD τ).loc main_arg0) (ix2 ⟨256 * t.val + r.val, have ht : t.val < 64 := t.isLt; by omega⟩ ⟨8192 + n.val, by omega⟩) := by
  have ht : t.val < 64 := t.isLt
  have E : ((cfg0.win 1).blk t).view.emb (ix2 r n) = ix2 ⟨256 * t.val + r.val, by omega⟩ ⟨8192 + n.val, by omega⟩ := by
    blk_ext [idx_val t]
  exact congrArg (m ((c : Thread nD τ).loc main_arg0)) E

theorem blk2 (t : Fin cfg0.N) (r : Fin 32) (n : Fin 1024) :
    (iblk m c 2 t : FVec Ideal S32x1024 .f32) (ix2 r n) = m ((c : Thread nD τ).loc main_arg0) (ix2 ⟨32 * (8 * t.val - 1) + r.val, have ht : t.val < 64 := t.isLt; by omega⟩ ⟨7168 + n.val, by omega⟩) := by
  have ht : t.val < 64 := t.isLt
  have E : ((cfg0.win 2).blk t).view.emb (ix2 r n) = ix2 ⟨32 * (8 * t.val - 1) + r.val, by omega⟩ ⟨7168 + n.val, by omega⟩ := by
    blk_ext [idx_val t]
  exact congrArg (m ((c : Thread nD τ).loc main_arg0)) E

theorem blk3 (t : Fin cfg0.N) (r : Fin 32) (n : Fin 1024) :
    (iblk m c 3 t : FVec Ideal S32x1024 .f32) (ix2 r n) = m ((c : Thread nD τ).loc main_arg0) (ix2 ⟨32 * (8 * t.val - 1) + r.val, have ht : t.val < 64 := t.isLt; by omega⟩ ⟨8192 + n.val, by omega⟩) := by
  have ht : t.val < 64 := t.isLt
  have E : ((cfg0.win 3).blk t).view.emb (ix2 r n) = ix2 ⟨32 * (8 * t.val - 1) + r.val, by omega⟩ ⟨8192 + n.val, by omega⟩ := by
    blk_ext [idx_val t]
  exact congrArg (m ((c : Thread nD τ).loc main_arg0)) E

theorem blk4 (t : Fin cfg0.N) (j : Fin 31) (n : Fin 1024) :
    (iblk m c 4 t : FVec Ideal S31x1024 .f32) (ix2 j n) = m ((c : Thread nD τ).loc main_arg1) (ix3 j 0 n) := by
  pointwise []
  blk_point [iblk, V, idx_val t]

theorem blk5 (t : Fin cfg0.N) (n : Fin 1024) :
    (iblk m c 5 t : FVec Ideal S1x1024 .f32) (ix2 0 n) = m ((c : Thread nD τ).loc main_arg2) (ix1 n) := by
  pointwise []
  blk_point [iblk, V, idx_val t]

theorem blk6 (t : Fin cfg0.N) (n : Fin 1024) :
    (iblk m c 6 t : FVec Ideal S1x1024 .f32) (ix2 0 n) = m ((c : Thread nD τ).loc main_arg3) (ix1 n) := by
  pointwise []
  blk_point [iblk, V, idx_val t]

theorem blk7 (t : Fin cfg0.N) (n : Fin 1024) :
    (iblk m c 7 t : FVec Ideal S1x1024 .f32) (ix2 0 n) = m ((c : Thread nD τ).loc main_arg4) (ix1 n) := by
  pointwise []
  blk_point [iblk, V, idx_val t]

/-- The gated rows the kernel's taps read are the reference's padded rows. -/
theorem HH_eq (t : Fin cfg0.N) (q : Fin 288) (n : Fin 1024) (hq : 2 ≤ q.val) :
    HH (F := Ideal) (grid0.coords t) (iblk m c 0 t) (iblk m c 1 t) (iblk m c 2 t) (iblk m c 3 t) (ix2 q n)
      = padded (m ((c : Thread nD τ).loc main_arg0)) (ix3 ⟨t.val / 16, have ht : t.val < 64 := t.isLt; by omega⟩ ⟨(256 * (t.val % 16) + (q.val - 2)) % 4126, Nat.mod_lt _ (by decide)⟩ n) := by
  have ht : t.val < 64 := t.isLt
  have hq' := q.isLt
  refine Eq.trans ?_ (padded_at _ _ _ _).symm
  show _ = if (256 * (t.val % 16) + (q.val - 2)) % 4126 < 30 then (0 : EReal) else gt (m ((c : Thread nD τ).loc main_arg0)) (4096 * (t.val / 16) + ((256 * (t.val % 16) + (q.val - 2)) % 4126 - 30)) n
  have hm : t.val % 16 < 16 := Nat.mod_lt _ (by decide)
  rw [show (256 * (t.val % 16) + (q.val - 2)) % 4126 = 256 * (t.val % 16) + (q.val - 2) from Nat.mod_eq_of_lt (by omega)]
  have h0 := blk0 m c t
  have h1 := blk1 m c t
  have h2 := blk2 m c t
  have h3 := blk3 m c t
  generalize (iblk m c 0 t : FVec Ideal S256x1024 .f32) = B0 at h0
  generalize (iblk m c 1 t : FVec Ideal S256x1024 .f32) = B1 at h1
  generalize (iblk m c 2 t : FVec Ideal S32x1024 .f32) = B2 at h2
  generalize (iblk m c 3 t : FVec Ideal S32x1024 .f32) = B3 at h3
  unfold HH
  pointwise [k0_pay70, k0_pay71]
  rw [first_val t]
  simp only [h0, h1, h2, h3, zero_sub]
  by_cases hl : q.val < 32
  · rw [if_pos hl]
    by_cases hf : t.val % 16 = 0
    · rw [if_pos hf, if_pos (by omega)]
      rfl
    · rw [if_neg hf, if_neg (by omega)]
      exact (gt_at (m ((c : Thread nD τ).loc main_arg0)) ⟨32 * (8 * t.val - 1) + q.val % 32, by omega⟩ n).symm.trans (congrArg (fun z => gt (m ((c : Thread nD τ).loc main_arg0)) z n) (show 32 * (8 * t.val - 1) + q.val % 32 = _ by omega))
  · rw [if_neg hl, if_neg (by omega)]
    exact (gt_at (m ((c : Thread nD τ).loc main_arg0)) ⟨256 * t.val + (q.val - 32) % 256, by omega⟩ n).symm.trans (congrArg (fun z => gt (m ((c : Thread nD τ).loc main_arg0)) z n) (show 256 * t.val + (q.val - 32) % 256 = _ by omega))

/-- POINT: what the body stores is the reference at the place it is written to. -/
theorem point (t : Fin cfg0.N) (y) :
    k0_pay1 (F := Ideal) (CS (F := Ideal) (iblk m c 4 t) (iblk m c 5 t) (HH (F := Ideal) (grid0.coords t) (iblk m c 0 t) (iblk m c 1 t) (iblk m c 2 t) (iblk m c 3 t))) (iblk m c 6 t) (iblk m c 7 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  have ht : t.val < 64 := t.isLt
  obtain ⟨r, n, rfl⟩ : ∃ (r : Fin 256) (n : Fin 1024), y = ix2 r n := ⟨y 0, y 1, eq_ix2 y⟩
  have hr := r.isLt
  have E : ((cfg0.win 8).blk t).view.emb (ix2 r n) = ix2 ⟨256 * t.val + r.val, by omega⟩ n := by blk_ext [idx_val t]
  rw [E]
  refine Eq.trans ?_ (REF_at _ _ _ _ _ _ _).symm
  have eb : (⟨(256 * t.val + r.val) / 4096, by omega⟩ : Fin 4) = ⟨t.val / 16, by omega⟩ := Fin.ext (by show (256 * t.val + r.val) / 4096 = t.val / 16; omega)
  have eu : (⟨(256 * t.val + r.val) % 4096, Nat.mod_lt _ (by decide)⟩ : Fin 4096) = ⟨256 * (t.val % 16) + r.val, by omega⟩ := Fin.ext (by show (256 * t.val + r.val) % 4096 = 256 * (t.val % 16) + r.val; omega)
  refine Eq.trans ?_ (congrArg₂ (fun z w => silu (lnorm (conv (padded (m ((c : Thread nD τ).loc main_arg0))) (m ((c : Thread nD τ).loc main_arg1)) (m ((c : Thread nD τ).loc main_arg2))) (m ((c : Thread nD τ).loc main_arg3)) (m ((c : Thread nD τ).loc main_arg4))) (ix3 z w n)) eb eu).symm
  refine pay1_at _ _ _ _ _ _ _ _ _ _ (fun e => ?_) (blk6 m c t) (blk7 m c t)
  rw [CS_at, sum_eq]
  refine Eq.trans ?_ (conv_at _ _ _ _ _ _).symm
  refine congrArg₂ sumRef (blk5 m c t e) (funext fun j => ?_)
  have hj := j.isLt
  refine (congrArg₂ (fun x y : EReal => x * y) (blk4 m c t j e) (HH_eq m c t _ e (by show 2 ≤ (2 + j.val + r.val) % 288; omega))).trans ?_
  refine (mul_comm (_ : EReal) _).trans ?_
  refine congrArg (fun z => (padded (m ((c : Thread nD τ).loc main_arg0)) (ix3 _ z e) : EReal) * _) (Fin.ext ?_)
  show (256 * (t.val % 16) + ((2 + j.val + r.val) % 288 - 2)) % 4126 = (j.val + (256 * (t.val % 16) + r.val)) % 4126
  omega

/-- THE RESULT ARRAY after the run is the reference of the arguments. -/
theorem final : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp; rw [after0_8]
  unfold outsAt0
  rw [out_A]
  exact point m c t y

end Cert.ConvIdeal.Cv

end
-- ==== Proof.lean ====
module

public import proofs.«01_k».proof.Proof.Gen.Hgrn.Skeleton
public import proofs.«01_k».proof.Proof.Gen.Hgrn.Loops
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal.Skeleton
public import proofs.«01_k».proof.Proof.Gen.HgrnIdeal.Loops
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal.Run
public import proofs.«01_k».proof.Proof.HgxFrame
public import proofs.«01_k».proof.Proof.HgIdFrame
public import proofs.«01_k».proof.Proof.HgPre
public import proofs.«01_k».proof.Proof.HgValue
public import proofs.«01_k».proof.Proof.KernFrame
public import proofs.«01_k».proof.Proof.ScBFrame
public import proofs.«01_k».proof.Proof.AttnFrame
public import proofs.«01_k».proof.Proof.AttnPre
public import proofs.«01_k».proof.Proof.AttnValue
public import proofs.«01_k».proof.Proof.MergeValue
public import proofs.«01_k».proof.Proof.ProjValue
public import proofs.«01_k».proof.Proof.ScoresValue
public import proofs.«01_k».proof.Proof.DenseValue
public import proofs.«01_k».proof.Proof.ConvValue
public import proofs.«01_k».proof.Proof.Gen.ReferenceIdeal.Run
public import proofs.«01_k».proof.Proof.Gen.ProjRefIdeal.Run
public import proofs.«01_k».proof.Proof.Gen.MergeRefIdeal.Run
public import proofs.«01_k».proof.Proof.Gen.ScoresRefIdeal.Run
public import proofs.«01_k».proof.Proof.Gen.DenseRefIdeal.Run
public import proofs.«01_k».proof.Proof.Gen.ConvRefIdeal.Run
public import proofs.«01_k».proof.Defs
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Proj.Skeleton
public import proofs.«01_k».proof.Proof.Gen.Proj.Loops
public import proofs.«01_k».proof.Proof.Gen.Proj.Launch
public import proofs.«01_k».proof.Proof.Gen.Proj.Points
public import proofs.«01_k».proof.Proof.Gen.Proj.Frame
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.Scores.Skeleton
public import proofs.«01_k».proof.Proof.Gen.Scores.Loops
public import proofs.«01_k».proof.Proof.Gen.Scores.Launch
public import proofs.«01_k».proof.Proof.Gen.Scores.Points
public import proofs.«01_k».proof.Proof.Gen.Scores.Frame
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

attribute [local instance] Cert.Pre_finite_norms.facts in
/-- The attention kernel and the reference attention agree where the norm weights hold no infinity. -/
theorem algebraic_attention : Cert.algebraic_KernelIdeal_ReferenceIdeal_pre_finite_norms := by
  pair_intro
  · run_from Cert.KernelIdeal.Attn.run_main m g
  · run_from Cert.ReferenceIdeal.Value.run m' g'
    obtain ⟨e0, e1, e2⟩ := hagree c
    refine (Cert.ReferenceIdeal.Attn.res_eq m' c).trans ?_
    rw [e0, e1, e2]
    exact (Cert.KernelIdeal.Attn.final m c (Cert.Pre_finite_norms.reals _ _ _ (hpre c)).1 (Cert.Pre_finite_norms.reals _ _ _ (hpre c)).2).symm

/-- The projection kernel and the reference projection agree. -/
theorem algebraic_projection : Cert.algebraic_ProjIdeal_ProjRefIdeal := by
  pair_intro
  · run_from Cert.ProjIdeal.Gen.run_main m g
  · run_from Cert.ProjRefIdeal.Value.run m' g'
    exact (Cert.ProjIdeal.Mm.final m c).symm

/-- The merge kernel and the reference merge agree. -/
theorem algebraic_merge : Cert.algebraic_MergeIdeal_MergeRefIdeal := by
  pair_intro
  · run_from Cert.MergeIdeal.Gen.run_main m g
  · run_from Cert.MergeRefIdeal.Value.run m' g'
    exact (Cert.MergeIdeal.Mix.final m c).symm

/-- The product-key kernel and the reference scores agree. -/
theorem algebraic_scores : Cert.algebraic_ScoresIdeal_ScoresRefIdeal := by
  pair_intro
  · run_from Cert.ScoresIdeal.Sc.run_main m g
  · run_from Cert.ScoresRefIdeal.Value.run m' g'
    · exact (Cert.ScoresIdeal.Sc.final5 m c).symm
    · rw [(hagree c).2.2.2.2]
      exact (Cert.ScoresIdeal.Sc.final6 m c).symm

/-- The experts kernel and the reference sum over all experts agree. -/
theorem algebraic_dense : Cert.algebraic_DenseIdeal_DenseRefIdeal := by
  pair_intro
  · run_from Cert.DenseIdeal.Gen.run_main m g
  · run_from Cert.DenseRefIdeal.Value.run m' g'
    exact (Cert.DenseIdeal.De.final m c).symm

/-- The convolution kernel and the reference convolution module agree. -/
theorem algebraic_conv : Cert.algebraic_ConvIdeal_ConvRefIdeal := by
  pair_intro
  · run_from Cert.ConvIdeal.Gen.run_main m g
  · run_from Cert.ConvRefIdeal.Value.run m' g'
    rw [Cert.ConvRefIdeal.Cv.res_norm]
    obtain ⟨e0, e1, e2, e3, e4⟩ := hagree c
    rw [e0, e1, e2, e3, e4]
    exact (Cert.ConvIdeal.Cv.final m c).symm

attribute [local instance] Cert.Pre_finite_gates.facts in
/-- The recurrence kernel and the reference recurrence agree where the queries, gates, values and lower bounds hold no infinity. -/
theorem algebraic_recurrence : Cert.algebraic_HgrnIdeal_HgrnRefIdeal_pre_finite_gates := by
  pair_intro
  · run_from Cert.HgrnIdeal.Hg.run_main m g
  · run_from Cert.HgrnRefIdeal.Hr.res_ref m' g'
    exact (Cert.HgrnIdeal.Hg.final m c (Cert.Pre_finite_gates.reals _ _ _ (hpre c)).1 (Cert.Pre_finite_gates.reals _ _ _ (hpre c)).2).symm

/-- Everything claimed. -/
theorem claim : Cert.Claim := by
  refine ⟨Cert.Kernel.Gen.facts, Cert.KernelIdeal.Gen.facts, Cert.ReferenceIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Scores.Gen.facts, Cert.ScoresIdeal.Gen.facts, Cert.ScoresRefIdeal.Gen.facts, Cert.Dense.Gen.facts, Cert.DenseIdeal.Gen.facts, Cert.DenseRefIdeal.Gen.facts, Cert.Conv.Gen.facts, Cert.ConvIdeal.Gen.facts, Cert.ConvRefIdeal.Gen.facts, Cert.Hgrn.Gen.facts, Cert.HgrnIdeal.Gen.facts, Cert.HgrnRefIdeal.Gen.facts, Cert.Pre_finite_norms.facts, Cert.Pre_finite_gates.facts, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro m g _; exact Cert.Kernel.Attn.frame m g
  · intro m g _; exact Cert.KernelIdeal.Attn.frame m g
  · intro m g _; exact Cert.KernelIdeal.Attn.frame m g
  · intro m g _; exact (θ_run _ _ _).mono (fun r h => ⟨fun c => (h c).2, sem_eq_zero_of_no_sems rfl _⟩) (Cert.ReferenceIdeal.Value.run m g)
  · intro m g _; exact (θ_run _ _ _).mono (fun r h => ⟨fun c => (h c).2, sem_eq_zero_of_no_sems rfl _⟩) (Cert.ReferenceIdeal.Value.run m g)
  · intro m g _; exact Cert.Proj.Gen.frame m g
  · intro m g _; exact Cert.ProjIdeal.Gen.frame m g
  · intro m g _; exact (θ_run _ _ _).mono (fun r h => ⟨fun c => (h c).2, sem_eq_zero_of_no_sems rfl _⟩) (Cert.ProjRefIdeal.Value.run m g)
  · intro m g _; exact Cert.Merge.Gen.frame m g
  · intro m g _; exact Cert.MergeIdeal.Gen.frame m g
  · intro m g _; exact (θ_run _ _ _).mono (fun r h => ⟨fun c => (h c).2, sem_eq_zero_of_no_sems rfl _⟩) (Cert.MergeRefIdeal.Value.run m g)
  · intro m g _; exact Cert.Scores.Sc.frame m g
  · intro m g _; exact Cert.ScoresIdeal.Sc.frame m g
  · intro m g _; exact (θ_run _ _ _).mono (fun r h => ⟨fun c => (h c).2.2, sem_eq_zero_of_no_sems rfl _⟩) (Cert.ScoresRefIdeal.Value.run m g)
  · intro m g _; exact Cert.Dense.Gen.frame m g
  · intro m g _; exact Cert.DenseIdeal.Gen.frame m g
  · intro m g _; exact (θ_run _ _ _).mono (fun r h => ⟨fun c => (h c).2, sem_eq_zero_of_no_sems rfl _⟩) (Cert.DenseRefIdeal.Value.run m g)
  · intro m g _; exact Cert.Conv.Gen.frame m g
  · intro m g _; exact Cert.ConvIdeal.Gen.frame m g
  · intro m g _; exact (θ_run _ _ _).mono (fun r h => ⟨fun c => (h c).2, sem_eq_zero_of_no_sems rfl _⟩) (Cert.ConvRefIdeal.Value.run m g)
  · intro m g _; exact Cert.Hgrn.Hg.frame m g
  · intro m g _; exact Cert.HgrnIdeal.Hg.frame m g
  · intro m g _; exact Cert.HgrnIdeal.Hg.frame m g
  · intro m g _; exact (θ_run _ _ _).mono (fun r h => ⟨fun c => (h c).2, sem_eq_zero_of_no_sems rfl _⟩) (Cert.HgrnRefIdeal.Value.run m g)
  · intro m g _; exact (θ_run _ _ _).mono (fun r h => ⟨fun c => (h c).2, sem_eq_zero_of_no_sems rfl _⟩) (Cert.HgrnRefIdeal.Value.run m g)
  · trivial
  · exact algebraic_attention
  · trivial
  · exact algebraic_projection
  · trivial
  · exact algebraic_merge
  · trivial
  · exact algebraic_scores
  · trivial
  · exact algebraic_dense
  · trivial
  · exact algebraic_conv
  · trivial
  · exact algebraic_recurrence

end Cert.Proof

end
